-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_halo_rows [hPre_halo_rows : Cert.Pre_halo_rows.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_halo_rows.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_halo_rows [hPre_halo_rows : Cert.Pre_halo_rows.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_halo_rows.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_halo_rows [hKernel5Ideal : Cert.Kernel5Ideal.Facts] [hPre_halo_rows : Cert.Pre_halo_rows.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_halo_rows m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_halo_rows [hReference5Ideal : Cert.Reference5Ideal.Facts] [hPre_halo_rows : Cert.Pre_halo_rows.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_halo_rows m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v216)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v216) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_halo_rows [hKernel5Ideal : Cert.Kernel5Ideal.Facts] [hReference5Ideal : Cert.Reference5Ideal.Facts] [hPre_halo_rows : Cert.Pre_halo_rows.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_halo_rows m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_v37) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v14_0)) (v1 : (c : Dev Cert.Kernel6Ideal.nD) → Buf (Elt Ideal) ((c.tc : Thread Cert.Kernel6Ideal.nD Cert.Kernel6Ideal.τ).loc Cert.Kernel6Ideal.main_v14_1)) (v2 : (c : Dev Cert.Kernel6Ideal.nD) → Buf (Elt Ideal) ((c.tc : Thread Cert.Kernel6Ideal.nD Cert.Kernel6Ideal.τ).loc Cert.Kernel6Ideal.main_v14_2)) (v3 : (c : Dev Cert.Kernel6Ideal.nD) → Buf (Elt Ideal) ((c.tc : Thread Cert.Kernel6Ideal.nD Cert.Kernel6Ideal.τ).loc Cert.Kernel6Ideal.main_v14_3)) (v4 : (c : Dev Cert.Kernel6Ideal.nD) → Buf (Elt Ideal) ((c.tc : Thread Cert.Kernel6Ideal.nD Cert.Kernel6Ideal.τ).loc Cert.Kernel6Ideal.main_v14_4)) (v5 : (c : Dev Cert.Kernel6Ideal.nD) → Buf (Elt Ideal) ((c.tc : Thread Cert.Kernel6Ideal.nD Cert.Kernel6Ideal.τ).loc Cert.Kernel6Ideal.main_v14_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v14_0) = v0 c
          ∧ r.2.mem ((c.tc : Thread Cert.Kernel6Ideal.nD Cert.Kernel6Ideal.τ).loc Cert.Kernel6Ideal.main_v14_1) = v1 c
          ∧ r.2.mem ((c.tc : Thread Cert.Kernel6Ideal.nD Cert.Kernel6Ideal.τ).loc Cert.Kernel6Ideal.main_v14_2) = v2 c
          ∧ r.2.mem ((c.tc : Thread Cert.Kernel6Ideal.nD Cert.Kernel6Ideal.τ).loc Cert.Kernel6Ideal.main_v14_3) = v3 c
          ∧ r.2.mem ((c.tc : Thread Cert.Kernel6Ideal.nD Cert.Kernel6Ideal.τ).loc Cert.Kernel6Ideal.main_v14_4) = v4 c
          ∧ r.2.mem ((c.tc : Thread Cert.Kernel6Ideal.nD Cert.Kernel6Ideal.τ).loc Cert.Kernel6Ideal.main_v14_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v44) = v0 c
          ∧ r.2.mem ((c.tc : Thread Cert.Reference6Ideal.nD Cert.Reference6Ideal.τ).loc Cert.Reference6Ideal.main_v47) = v1 c
          ∧ r.2.mem ((c.tc : Thread Cert.Reference6Ideal.nD Cert.Reference6Ideal.τ).loc Cert.Reference6Ideal.main_v50) = v2 c
          ∧ r.2.mem ((c.tc : Thread Cert.Reference6Ideal.nD Cert.Reference6Ideal.τ).loc Cert.Reference6Ideal.main_v53) = v3 c
          ∧ r.2.mem ((c.tc : Thread Cert.Reference6Ideal.nD Cert.Reference6Ideal.τ).loc Cert.Reference6Ideal.main_v56) = v4 c
          ∧ r.2.mem ((c.tc : Thread Cert.Reference6Ideal.nD Cert.Reference6Ideal.τ).loc Cert.Reference6Ideal.main_v59) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_scores_finite : Cert.Pre_scores_finite.Facts) (hPre_halo_rows : Cert.Pre_halo_rows.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_halo_rows (hKernel5Ideal := hKernel5Ideal) (hPre_halo_rows := hPre_halo_rows)
    ∧ quiescent_Reference5Ideal (hReference5Ideal := hReference5Ideal)
    ∧ quiescent_Reference5Ideal_pre_halo_rows (hReference5Ideal := hReference5Ideal) (hPre_halo_rows := hPre_halo_rows)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_halo_rows (hKernel5Ideal := hKernel5Ideal) (hReference5Ideal := hReference5Ideal) (hPre_halo_rows := hPre_halo_rows)
    ∧ preserves_Kernel6_Kernel6Ideal
    ∧ algebraic_Kernel6Ideal_Reference6Ideal (hKernel6Ideal := hKernel6Ideal) (hReference6Ideal := hReference6Ideal)
-- ==== Pre_halo_rows.lean ====
abbrev S8192x4096 : Shape := ⟨2, ![8192, 4096]⟩
abbrev S8x16x4096 : Shape := ⟨3, ![8, 16, 4096]⟩
abbrev S2x4096x22016 : Shape := ⟨3, ![2, 4096, 22016]⟩
abbrev S2x3x22016 : Shape := ⟨3, ![2, 3, 22016]⟩
abbrev S2x22016 : Shape := ⟨2, ![2, 22016]⟩
abbrev S2x11008x4096 : Shape := ⟨3, ![2, 11008, 4096]⟩
abbrev S7x4096 : Shape := ⟨2, ![7, 4096]⟩
abbrev S_ : Shape := ⟨0, ![]⟩
abbrev S1x4096 : Shape := ⟨2, ![1, 4096]⟩
abbrev S8x4096 : Shape := ⟨2, ![8, 4096]⟩
abbrev S8x1x4096 : Shape := ⟨3, ![8, 1, 4096]⟩
abbrev S1 : Shape := ⟨1, ![1]⟩
abbrev S2 : Shape := ⟨1, ![2]⟩

class Facts : Prop where
  slicesBy_S8192x4096_S7x4096_1024s1024_0s1 : S8192x4096.SlicesBy (![1024, 0] : Fin 2 → Nat) ![1024, 1] S7x4096
  bcast_S_S1x4096 : S_.BroadcastsInDim S1x4096 (![] : Fin 0 → Fin S1x4096.rank)
  concatenates_S7x4096_S1x4096_S8x4096_d0 : Shape.Concatenates [S7x4096, S1x4096] S8x4096 0
  slicesBy_S8192x4096_S7x4096_1023s1024_0s1 : S8192x4096.SlicesBy (![1023, 0] : Fin 2 → Nat) ![1024, 1] S7x4096
  concatenates_S1x4096_S7x4096_S8x4096_d0 : Shape.Concatenates [S1x4096, S7x4096] S8x4096 0
  slices_S8x16x4096_S8x1x4096_0_0_0 : S8x16x4096.Slices ![0, 0, 0] S8x1x4096
  shapeCasts_S8x1x4096_S8x4096 : S8x1x4096.ShapeCasts S8x4096
  reducesTo_S8x4096_S_d0_1 : S8x4096.ReducesTo [0, 1] S_
  h_S_ : 0 < S_.numel
  slices_S8x16x4096_S8x1x4096_0_15_0 : S8x16x4096.Slices ![0, 15, 0] S8x1x4096
  bcast_S_S1 : S_.BroadcastsInDim S1 (![] : Fin 0 → Fin S1.rank)
  concatenates_S1_S1_S2_d0 : Shape.Concatenates [S1, S1] S2 0

variable [Facts]

def fn {F : FTy → Type} [FloatOps F] (main_arg0 : FVec F S8192x4096 .bf16) (main_arg1 : FVec F S8x16x4096 .bf16) (main_arg2 : FVec F S2x4096x22016 .f32) (main_arg3 : FVec F S2x3x22016 .f32) (main_arg4 : FVec F S2x22016 .f32) (main_arg5 : FVec F S2x11008x4096 .f32) : IVec S2 1 :=
  let main_v0 : FVec F S7x4096 .bf16 := (Host.slice S7x4096 ![1024, 0] ![1024, 1] · slicesBy_S8192x4096_S7x4096_1024s1024_0s1) main_arg0
  let main_cst : FVec F S_ .bf16 := constant S_ .bf16 0x0000#16
  let main_v1 : FVec F S1x4096 .bf16 := broadcastInDim S1x4096 ![] bcast_S_S1x4096 main_cst
  let main_v2 : FVec F S8x4096 .bf16 := (fun a b => concatenate S8x4096 0 [⟨S7x4096, a⟩, ⟨S1x4096, b⟩] concatenates_S7x4096_S1x4096_S8x4096_d0) main_v0 main_v1
  let main_cst_0 : FVec F S_ .bf16 := constant S_ .bf16 0x0000#16
  let main_v3 : FVec F S1x4096 .bf16 := broadcastInDim S1x4096 ![] bcast_S_S1x4096 main_cst_0
  let main_v4 : FVec F S7x4096 .bf16 := (Host.slice S7x4096 ![1023, 0] ![1024, 1] · slicesBy_S8192x4096_S7x4096_1023s1024_0s1) main_arg0
  let main_v5 : FVec F S8x4096 .bf16 := (fun a b => concatenate S8x4096 0 [⟨S1x4096, a⟩, ⟨S7x4096, b⟩] concatenates_S1x4096_S7x4096_S8x4096_d0) main_v3 main_v4
  let main_v6 : FVec F S8x1x4096 .bf16 := (extractStridedSlice S8x1x4096 ![0, 0, 0] · slices_S8x16x4096_S8x1x4096_0_0_0) main_arg1
  let main_v7 : FVec F S8x4096 .bf16 := shapeCast S8x4096 main_v6 shapeCasts_S8x1x4096_S8x4096
  let main_v8 : IVec S8x4096 1 := cmpf .oeq main_v7 main_v2
  let main_c : IVec S_ 1 := constantI S_ 1 1#1
  let main_v9 : IVec S_ 1 := (fun x v => Host.reduce IntOp.andi x v reducesTo_S8x4096_S_d0_1 h_S_) main_v8 main_c
  let main_v10 : FVec F S8x1x4096 .bf16 := (extractStridedSlice S8x1x4096 ![0, 15, 0] · slices_S8x16x4096_S8x1x4096_0_15_0) main_arg1
  let main_v11 : FVec F S8x4096 .bf16 := shapeCast S8x4096 main_v10 shapeCasts_S8x1x4096_S8x4096
  let main_v12 : IVec S8x4096 1 := cmpf .oeq main_v11 main_v5
  let main_c_1 : IVec S_ 1 := constantI S_ 1 1#1
  let main_v13 : IVec S_ 1 := (fun x v => Host.reduce IntOp.andi x v reducesTo_S8x4096_S_d0_1 h_S_) main_v12 main_c_1
  let main_v14 : IVec S1 1 := broadcastInDim S1 ![] bcast_S_S1 main_v9
  let main_v15 : IVec S1 1 := broadcastInDim S1 ![] bcast_S_S1 main_v13
  let main_v16 : IVec S2 1 := (fun a b => concatenate S2 0 [⟨S1, a⟩, ⟨S1, b⟩] concatenates_S1_S1_S2_d0) main_v14 main_v15
  main_v16
-- ==== Pre_scores_finite.lean ====
abbrev S8192x8192 : Shape := ⟨2, ![8192, 8192]⟩
abbrev S256x8192 : Shape := ⟨2, ![256, 8192]⟩
abbrev S2x16x15x31 : Shape := ⟨4, ![2, 16, 15, 31]⟩
abbrev S8192x4096 : Shape := ⟨2, ![8192, 4096]⟩
abbrev S_ : Shape := ⟨0, ![]⟩
abbrev S256x2048 : Shape := ⟨2, ![256, 2048]⟩
abbrev S1x16x15x31 : Shape := ⟨4, ![1, 16, 15, 31]⟩
abbrev S16x15x31 : Shape := ⟨3, ![16, 15, 31]⟩
abbrev S1 : Shape := ⟨1, ![1]⟩
abbrev S3 : Shape := ⟨1, ![3]⟩

class Facts : Prop where
  slices_S8192x8192_S8192x4096_0_1024 : S8192x8192.Slices ![0, 1024] S8192x4096
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel
  slices_S256x8192_S256x2048_0_3072 : S256x8192.Slices ![0, 3072] S256x2048
  bcast_S_S256x2048 : S_.BroadcastsInDim S256x2048 (![] : Fin 0 → Fin S256x2048.rank)
  reducesTo_S256x2048_S_d0_1 : S256x2048.ReducesTo [0, 1] S_
  slices_S2x16x15x31_S1x16x15x31_0_0_0_0 : S2x16x15x31.Slices ![0, 0, 0, 0] S1x16x15x31
  shapeCasts_S1x16x15x31_S16x15x31 : S1x16x15x31.ShapeCasts S16x15x31
  bcast_S_S16x15x31 : S_.BroadcastsInDim S16x15x31 (![] : Fin 0 → Fin S16x15x31.rank)
  reducesTo_S16x15x31_S_d0_1_2 : S16x15x31.ReducesTo [0, 1, 2] S_
  bcast_S_S1 : S_.BroadcastsInDim S1 (![] : Fin 0 → Fin S1.rank)
  concatenates_S1_S1_S1_S3_d0 : Shape.Concatenates [S1, S1, S1] S3 0

variable [Facts]

def fn_part1 {F : FTy → Type} [FloatOps F] (main_v5 : IVec S_ 1) (main_v11 : IVec S_ 1) (main_v17 : IVec S_ 1) : IVec S3 1 :=
  let main_v18 : IVec S1 1 := broadcastInDim S1 ![] bcast_S_S1 main_v5
  let main_v19 : IVec S1 1 := broadcastInDim S1 ![] bcast_S_S1 main_v11
  let main_v20 : IVec S1 1 := broadcastInDim S1 ![] bcast_S_S1 main_v17
  let main_v21 : IVec S3 1 := concatenate S3 0 [⟨S1, main_v18⟩, ⟨S1, main_v19⟩, ⟨S1, main_v20⟩] concatenates_S1_S1_S1_S3_d0
  main_v21

def fn {F : FTy → Type} [FloatOps F] (main_arg0 : FVec F S8192x8192 .bf16) (main_arg1 : FVec F S256x8192 .bf16) (main_arg2 : FVec F S2x16x15x31 .f32) : IVec S3 1 :=
  let main_v0 : FVec F S8192x4096 .bf16 := (extractStridedSlice S8192x4096 ![0, 1024] · slices_S8192x8192_S8192x4096_0_1024) main_arg0
  let main_v1 : FVec F S8192x4096 .f32 := (extf .f32 · bitsLt_bf16_f32) main_v0
  let main_v2 : FVec F S8192x4096 .f32 := Host.absf main_v1
  let main_cst : FVec F S_ .f32 := constant S_ .f32 0x7F800000#32
  let main_v3 : FVec F S8192x4096 .f32 := broadcastInDim S8192x4096 ![] bcast_S_S8192x4096 main_cst
  let main_v4 : IVec S8192x4096 1 := cmpf .olt main_v2 main_v3
  let main_c : IVec S_ 1 := constantI S_ 1 1#1
  let main_v5 : IVec S_ 1 := (fun x v => Host.reduce IntOp.andi x v reducesTo_S8192x4096_S_d0_1 h_S_) main_v4 main_c
  let main_v6 : FVec F S256x2048 .bf16 := (extractStridedSlice S256x2048 ![0, 3072] · slices_S256x8192_S256x2048_0_3072) main_arg1
  let main_v7 : FVec F S256x2048 .f32 := (extf .f32 · bitsLt_bf16_f32) main_v6
  let main_v8 : FVec F S256x2048 .f32 := Host.absf main_v7
  let main_cst_0 : FVec F S_ .f32 := constant S_ .f32 0x7F800000#32
  let main_v9 : FVec F S256x2048 .f32 := broadcastInDim S256x2048 ![] bcast_S_S256x2048 main_cst_0
  let main_v10 : IVec S256x2048 1 := cmpf .olt main_v8 main_v9
  let main_c_1 : IVec S_ 1 := constantI S_ 1 1#1
  let main_v11 : IVec S_ 1 := (fun x v => Host.reduce IntOp.andi x v reducesTo_S256x2048_S_d0_1 h_S_) main_v10 main_c_1
  let main_v12 : FVec F S1x16x15x31 .f32 := (extractStridedSlice S1x16x15x31 ![0, 0, 0, 0] · slices_S2x16x15x31_S1x16x15x31_0_0_0_0) main_arg2
  let main_v13 : FVec F S16x15x31 .f32 := shapeCast S16x15x31 main_v12 shapeCasts_S1x16x15x31_S16x15x31
  let main_v14 : FVec F S16x15x31 .f32 := Host.absf main_v13
  let main_cst_2 : FVec F S_ .f32 := constant S_ .f32 0x7F800000#32
  let main_v15 : FVec F S16x15x31 .f32 := broadcastInDim S16x15x31 ![] bcast_S_S16x15x31 main_cst_2
  let main_v16 : IVec S16x15x31 1 := cmpf .olt main_v14 main_v15
  let main_c_3 : IVec S_ 1 := constantI S_ 1 1#1
  let main_v17 : IVec S_ 1 := (fun x v => Host.reduce IntOp.andi x v reducesTo_S16x15x31_S_d0_1_2 h_S_) main_v16 main_c_3
  fn_part1 (F := F) main_v5 main_v11 main_v17
-- ==== Kernel.lean ====
abbrev S8192x8192 : Shape := ⟨2, ![8192, 8192]⟩
abbrev S256x8192 : Shape := ⟨2, ![256, 8192]⟩
abbrev S2x16x15x31 : Shape := ⟨4, ![2, 16, 15, 31]⟩
abbrev S31x4096 : Shape := ⟨2, ![31, 4096]⟩
abbrev S64x64 : Shape := ⟨2, ![64, 64]⟩
abbrev S32x15x31 : Shape := ⟨3, ![32, 15, 31]⟩
abbrev S32x15x4096 : Shape := ⟨3, ![32, 15, 4096]⟩
abbrev S32x15x64x64 : Shape := ⟨4, ![32, 15, 64, 64]⟩
abbrev S_ : Shape := ⟨0, ![]⟩
abbrev S32x64x64 : Shape := ⟨3, ![32, 64, 64]⟩
abbrev S32x1x64x64 : Shape := ⟨4, ![32, 1, 64, 64]⟩
abbrev S32x64x768 : Shape := ⟨3, ![32, 64, 768]⟩
abbrev S32x256x768 : Shape := ⟨3, ![32, 256, 768]⟩
abbrev S1x32x256x768 : Shape := ⟨4, ![1, 32, 256, 768]⟩
abbrev S3x32x256x768 : Shape := ⟨4, ![3, 32, 256, 768]⟩
abbrev S8192x2048 : Shape := ⟨2, ![8192, 2048]⟩
abbrev S256x1024 : Shape := ⟨2, ![256, 1024]⟩
abbrev S8192x1024 : Shape := ⟨2, ![8192, 1024]⟩
abbrev S1x8x256x768 : Shape := ⟨4, ![1, 8, 256, 768]⟩
abbrev S256x128 : Shape := ⟨2, ![256, 128]⟩
abbrev S768x128 : Shape := ⟨2, ![768, 128]⟩
abbrev S1024x128 : Shape := ⟨2, ![1024, 128]⟩
abbrev S256x768 : Shape := ⟨2, ![256, 768]⟩
abbrev S1x1x256x768 : Shape := ⟨4, ![1, 1, 256, 768]⟩
abbrev S256x256 : Shape := ⟨2, ![256, 256]⟩
abbrev S256 : Shape := ⟨1, ![256]⟩
abbrev S256x1 : Shape := ⟨2, ![256, 1]⟩

abbrev nBuf : Space → Nat
  | .hbm => 227
  | .vmem => 12
  | .smem => 0
  | _ => 0

abbrev hbmTy0_0 (i : Nat) : BufTy := match i % 128 with
  | 0 => ⟨S8192x8192, .bf16⟩
  | 1 => ⟨S256x8192, .bf16⟩
  | 2 => ⟨S2x16x15x31, .f32⟩
  | 3 => ⟨S31x4096, .f32⟩
  | 4 => ⟨S64x64, .i1⟩
  | 5 => ⟨S32x15x31, .f32⟩
  | 6 => ⟨S32x15x4096, .f32⟩
  | 7 => ⟨S32x15x64x64, .f32⟩
  | 8 => ⟨S_, .f32⟩
  | 9 => ⟨S_, .f32⟩
  | 10 => ⟨S32x15x64x64, .i1⟩
  | 11 => ⟨S32x15x64x64, .f32⟩
  | 12 => ⟨S32x15x64x64, .f32⟩
  | 13 => ⟨S_, .f32⟩
  | 14 => ⟨S32x64x64, .f32⟩
  | 15 => ⟨S32x1x64x64, .f32⟩
  | 16 => ⟨S32x64x64, .f32⟩
  | 17 => ⟨S32x1x64x64, .f32⟩
  | 18 => ⟨S32x64x64, .f32⟩
  | 19 => ⟨S32x1x64x64, .f32⟩
  | 20 => ⟨S32x64x64, .f32⟩
  | 21 => ⟨S32x1x64x64, .f32⟩
  | 22 => ⟨S32x64x64, .f32⟩
  | 23 => ⟨S32x1x64x64, .f32⟩
  | 24 => ⟨S32x64x64, .f32⟩
  | 25 => ⟨S32x1x64x64, .f32⟩
  | 26 => ⟨S32x64x64, .f32⟩
  | 27 => ⟨S32x1x64x64, .f32⟩
  | 28 => ⟨S32x64x64, .f32⟩
  | 29 => ⟨S32x1x64x64, .f32⟩
  | 30 => ⟨S32x64x64, .f32⟩
  | 31 => ⟨S32x64x768, .f32⟩
  | 32 => ⟨S32x1x64x64, .f32⟩
  | 33 => ⟨S32x64x64, .f32⟩
  | 34 => ⟨S32x1x64x64, .f32⟩
  | 35 => ⟨S32x64x64, .f32⟩
  | 36 => ⟨S32x1x64x64, .f32⟩
  | 37 => ⟨S32x64x64, .f32⟩
  | 38 => ⟨S32x1x64x64, .f32⟩
  | 39 => ⟨S32x64x64, .f32⟩
  | 40 => ⟨S32x1x64x64, .f32⟩
  | 41 => ⟨S32x64x64, .f32⟩
  | 42 => ⟨S32x1x64x64, .f32⟩
  | 43 => ⟨S32x64x64, .f32⟩
  | 44 => ⟨S32x1x64x64, .f32⟩
  | 45 => ⟨S32x64x64, .f32⟩
  | 46 => ⟨S32x1x64x64, .f32⟩
  | 47 => ⟨S32x64x64, .f32⟩
  | 48 => ⟨S32x64x768, .f32⟩
  | 49 => ⟨S32x1x64x64, .f32⟩
  | 50 => ⟨S32x64x64, .f32⟩
  | 51 => ⟨S32x1x64x64, .f32⟩
  | 52 => ⟨S32x64x64, .f32⟩
  | 53 => ⟨S32x1x64x64, .f32⟩
  | 54 => ⟨S32x64x64, .f32⟩
  | 55 => ⟨S32x1x64x64, .f32⟩
  | 56 => ⟨S32x64x64, .f32⟩
  | 57 => ⟨S32x1x64x64, .f32⟩
  | 58 => ⟨S32x64x64, .f32⟩
  | 59 => ⟨S32x1x64x64, .f32⟩
  | 60 => ⟨S32x64x64, .f32⟩
  | 61 => ⟨S32x1x64x64, .f32⟩
  | 62 => ⟨S32x64x64, .f32⟩
  | 63 => ⟨S32x1x64x64, .f32⟩
  | 64 => ⟨S32x64x64, .f32⟩
  | 65 => ⟨S32x64x768, .f32⟩
  | 66 => ⟨S32x1x64x64, .f32⟩
  | 67 => ⟨S32x64x64, .f32⟩
  | 68 => ⟨S32x1x64x64, .f32⟩
  | 69 => ⟨S32x64x64, .f32⟩
  | 70 => ⟨S32x1x64x64, .f32⟩
  | 71 => ⟨S32x64x64, .f32⟩
  | 72 => ⟨S32x1x64x64, .f32⟩
  | 73 => ⟨S32x64x64, .f32⟩
  | 74 => ⟨S32x1x64x64, .f32⟩
  | 75 => ⟨S32x64x64, .f32⟩
  | 76 => ⟨S32x1x64x64, .f32⟩
  | 77 => ⟨S32x64x64, .f32⟩
  | 78 => ⟨S32x1x64x64, .f32⟩
  | 79 => ⟨S32x64x64, .f32⟩
  | 80 => ⟨S32x1x64x64, .f32⟩
  | 81 => ⟨S32x64x64, .f32⟩
  | 82 => ⟨S32x64x768, .f32⟩
  | 83 => ⟨S32x256x768, .f32⟩
  | 84 => ⟨S32x1x64x64, .f32⟩
  | 85 => ⟨S32x64x64, .f32⟩
  | 86 => ⟨S32x1x64x64, .f32⟩
  | 87 => ⟨S32x64x64, .f32⟩
  | 88 => ⟨S32x1x64x64, .f32⟩
  | 89 => ⟨S32x64x64, .f32⟩
  | 90 => ⟨S32x1x64x64, .f32⟩
  | 91 => ⟨S32x64x64, .f32⟩
  | 92 => ⟨S32x1x64x64, .f32⟩
  | 93 => ⟨S32x64x64, .f32⟩
  | 94 => ⟨S32x1x64x64, .f32⟩
  | 95 => ⟨S32x64x64, .f32⟩
  | 96 => ⟨S32x1x64x64, .f32⟩
  | 97 => ⟨S32x64x64, .f32⟩
  | 98 => ⟨S32x1x64x64, .f32⟩
  | 99 => ⟨S32x64x64, .f32⟩
  | 100 => ⟨S32x64x768, .f32⟩
  | 101 => ⟨S32x1x64x64, .f32⟩
  | 102 => ⟨S32x64x64, .f32⟩
  | 103 => ⟨S32x1x64x64, .f32⟩
  | 104 => ⟨S32x64x64, .f32⟩
  | 105 => ⟨S32x1x64x64, .f32⟩
  | 106 => ⟨S32x64x64, .f32⟩
  | 107 => ⟨S32x1x64x64, .f32⟩
  | 108 => ⟨S32x64x64, .f32⟩
  | 109 => ⟨S32x1x64x64, .f32⟩
  | 110 => ⟨S32x64x64, .f32⟩
  | 111 => ⟨S32x1x64x64, .f32⟩
  | 112 => ⟨S32x64x64, .f32⟩
  | 113 => ⟨S32x1x64x64, .f32⟩
  | 114 => ⟨S32x64x64, .f32⟩
  | 115 => ⟨S32x1x64x64, .f32⟩
  | 116 => ⟨S32x64x64, .f32⟩
  | 117 => ⟨S32x64x768, .f32⟩
  | 118 => ⟨S32x1x64x64, .f32⟩
  | 119 => ⟨S32x64x64, .f32⟩
  | 120 => ⟨S32x1x64x64, .f32⟩
  | 121 => ⟨S32x64x64, .f32⟩
  | 122 => ⟨S32x1x64x64, .f32⟩
  | 123 => ⟨S32x64x64, .f32⟩
  | 124 => ⟨S32x1x64x64, .f32⟩
  | 125 => ⟨S32x64x64, .f32⟩
  | 126 => ⟨S32x1x64x64, .f32⟩
  | 127 => ⟨S32x64x64, .f32⟩
  | _ => ⟨S8192x8192, .bf16⟩

abbrev hbmTy0_1 (i : Nat) : BufTy := match i % 128 with
  | 0 => ⟨S32x1x64x64, .f32⟩
  | 1 => ⟨S32x64x64, .f32⟩
  | 2 => ⟨S32x1x64x64, .f32⟩
  | 3 => ⟨S32x64x64, .f32⟩
  | 4 => ⟨S32x1x64x64, .f32⟩
  | 5 => ⟨S32x64x64, .f32⟩
  | 6 => ⟨S32x64x768, .f32⟩
  | 7 => ⟨S32x1x64x64, .f32⟩
  | 8 => ⟨S32x64x64, .f32⟩
  | 9 => ⟨S32x1x64x64, .f32⟩
  | 10 => ⟨S32x64x64, .f32⟩
  | 11 => ⟨S32x1x64x64, .f32⟩
  | 12 => ⟨S32x64x64, .f32⟩
  | 13 => ⟨S32x1x64x64, .f32⟩
  | 14 => ⟨S32x64x64, .f32⟩
  | 15 => ⟨S32x1x64x64, .f32⟩
  | 16 => ⟨S32x64x64, .f32⟩
  | 17 => ⟨S32x1x64x64, .f32⟩
  | 18 => ⟨S32x64x64, .f32⟩
  | 19 => ⟨S32x1x64x64, .f32⟩
  | 20 => ⟨S32x64x64, .f32⟩
  | 21 => ⟨S32x1x64x64, .f32⟩
  | 22 => ⟨S32x64x64, .f32⟩
  | 23 => ⟨S32x64x768, .f32⟩
  | 24 => ⟨S32x256x768, .f32⟩
  | 25 => ⟨S32x1x64x64, .f32⟩
  | 26 => ⟨S32x64x64, .f32⟩
  | 27 => ⟨S32x1x64x64, .f32⟩
  | 28 => ⟨S32x64x64, .f32⟩
  | 29 => ⟨S32x1x64x64, .f32⟩
  | 30 => ⟨S32x64x64, .f32⟩
  | 31 => ⟨S32x1x64x64, .f32⟩
  | 32 => ⟨S32x64x64, .f32⟩
  | 33 => ⟨S32x1x64x64, .f32⟩
  | 34 => ⟨S32x64x64, .f32⟩
  | 35 => ⟨S32x1x64x64, .f32⟩
  | 36 => ⟨S32x64x64, .f32⟩
  | 37 => ⟨S32x1x64x64, .f32⟩
  | 38 => ⟨S32x64x64, .f32⟩
  | 39 => ⟨S32x1x64x64, .f32⟩
  | 40 => ⟨S32x64x64, .f32⟩
  | 41 => ⟨S32x64x768, .f32⟩
  | 42 => ⟨S32x1x64x64, .f32⟩
  | 43 => ⟨S32x64x64, .f32⟩
  | 44 => ⟨S32x1x64x64, .f32⟩
  | 45 => ⟨S32x64x64, .f32⟩
  | 46 => ⟨S32x1x64x64, .f32⟩
  | 47 => ⟨S32x64x64, .f32⟩
  | 48 => ⟨S32x1x64x64, .f32⟩
  | 49 => ⟨S32x64x64, .f32⟩
  | 50 => ⟨S32x1x64x64, .f32⟩
  | 51 => ⟨S32x64x64, .f32⟩
  | 52 => ⟨S32x1x64x64, .f32⟩
  | 53 => ⟨S32x64x64, .f32⟩
  | 54 => ⟨S32x1x64x64, .f32⟩
  | 55 => ⟨S32x64x64, .f32⟩
  | 56 => ⟨S32x1x64x64, .f32⟩
  | 57 => ⟨S32x64x64, .f32⟩
  | 58 => ⟨S32x64x768, .f32⟩
  | 59 => ⟨S32x1x64x64, .f32⟩
  | 60 => ⟨S32x64x64, .f32⟩
  | 61 => ⟨S32x1x64x64, .f32⟩
  | 62 => ⟨S32x64x64, .f32⟩
  | 63 => ⟨S32x1x64x64, .f32⟩
  | 64 => ⟨S32x64x64, .f32⟩
  | 65 => ⟨S32x1x64x64, .f32⟩
  | 66 => ⟨S32x64x64, .f32⟩
  | 67 => ⟨S32x1x64x64, .f32⟩
  | 68 => ⟨S32x64x64, .f32⟩
  | 69 => ⟨S32x1x64x64, .f32⟩
  | 70 => ⟨S32x64x64, .f32⟩
  | 71 => ⟨S32x1x64x64, .f32⟩
  | 72 => ⟨S32x64x64, .f32⟩
  | 73 => ⟨S32x1x64x64, .f32⟩
  | 74 => ⟨S32x64x64, .f32⟩
  | 75 => ⟨S32x64x768, .f32⟩
  | 76 => ⟨S32x1x64x64, .f32⟩
  | 77 => ⟨S32x64x64, .f32⟩
  | 78 => ⟨S32x1x64x64, .f32⟩
  | 79 => ⟨S32x64x64, .f32⟩
  | 80 => ⟨S32x1x64x64, .f32⟩
  | 81 => ⟨S32x64x64, .f32⟩
  | 82 => ⟨S32x1x64x64, .f32⟩
  | 83 => ⟨S32x64x64, .f32⟩
  | 84 => ⟨S32x1x64x64, .f32⟩
  | 85 => ⟨S32x64x64, .f32⟩
  | 86 => ⟨S32x1x64x64, .f32⟩
  | 87 => ⟨S32x64x64, .f32⟩
  | 88 => ⟨S32x1x64x64, .f32⟩
  | 89 => ⟨S32x64x64, .f32⟩
  | 90 => ⟨S32x1x64x64, .f32⟩
  | 91 => ⟨S32x64x64, .f32⟩
  | 92 => ⟨S32x64x768, .f32⟩
  | 93 => ⟨S32x256x768, .f32⟩
  | 94 => ⟨S1x32x256x768, .f32⟩
  | 95 => ⟨S1x32x256x768, .f32⟩
  | 96 => ⟨S1x32x256x768, .f32⟩
  | 97 => ⟨S3x32x256x768, .f32⟩
  | 98 => ⟨S8192x2048, .bf16⟩
  | _ => ⟨S8192x8192, .bf16⟩

abbrev hbmTy (i : Nat) : BufTy := match i / 128 with
  | 0 => hbmTy0_0 i
  | 1 => hbmTy0_1 i
  | _ => ⟨S8192x8192, .bf16⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S256x1024, .bf16⟩
  | .local _ .vmem, ⟨2, _⟩ => ⟨S8192x1024, .bf16⟩
  | .local _ .vmem, ⟨3, _⟩ => ⟨S8192x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1x8x256x768, .f32⟩
  | .local _ .vmem, ⟨9, _⟩ => ⟨S1x8x256x768, .f32⟩
  | .local _ .vmem, ⟨10, _⟩ => ⟨S256x1024, .bf16⟩
  | .local _ .vmem, ⟨11, _⟩ => ⟨S256x1024, .bf16⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 32], ![false, false]⟩

def k0_mult1 (i : grid0.Coords) : BitVec 32 :=
  let c116_i32 : BitVec 32 := 116#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c116_i32 v2
  let c64_i32 : BitVec 32 := 64#32
  let v4 : BitVec 32 := Scalar.muli v3 c64_i32
  v4
def k0_off1 (i : grid0.Coords) : Fin 2 → Nat :=
  let c116_i32 : BitVec 32 := 116#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c116_i32 v2
  let c64_i32 : BitVec 32 := 64#32
  let v4 : BitVec 32 := Scalar.muli v3 c64_i32
  let v5 : BitVec 32 := v4
  let v7 : Index := Scalar.indexCast v5
  let c0_2 : Index := 0#32
  ![v7.toNat, 0]
def k0_off2 (i : grid0.Coords) : Fin 2 → Nat :=
  let c116_i32 : BitVec 32 := 116#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c116_i32 v2
  let c64_i32 : BitVec 32 := 64#32
  let v4 : BitVec 32 := Scalar.muli v3 c64_i32
  let v5 : BitVec 32 := v4
  let v38 : Index := Scalar.indexCast v5
  let c128_19 : Index := 128#32
  ![v38.toNat, 128]
def k0_off3 (i : grid0.Coords) : Fin 2 → Nat :=
  let c116_i32 : BitVec 32 := 116#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c116_i32 v2
  let c64_i32 : BitVec 32 := 64#32
  let v4 : BitVec 32 := Scalar.muli v3 c64_i32
  let v5 : BitVec 32 := v4
  let v69 : Index := Scalar.indexCast v5
  let c256_36 : Index := 256#32
  ![v69.toNat, 256]
def k0_off4 (i : grid0.Coords) : Fin 2 → Nat :=
  let c116_i32 : BitVec 32 := 116#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c116_i32 v2
  let c64_i32 : BitVec 32 := 64#32
  let v4 : BitVec 32 := Scalar.muli v3 c64_i32
  let v5 : BitVec 32 := v4
  let v100 : Index := Scalar.indexCast v5
  let c384_53 : Index := 384#32
  ![v100.toNat, 384]
def k0_off5 (i : grid0.Coords) : Fin 2 → Nat :=
  let c116_i32 : BitVec 32 := 116#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c116_i32 v2
  let c64_i32 : BitVec 32 := 64#32
  let v4 : BitVec 32 := Scalar.muli v3 c64_i32
  let v5 : BitVec 32 := v4
  let v131 : Index := Scalar.indexCast v5
  let c512_70 : Index := 512#32
  ![v131.toNat, 512]
def k0_off6 (i : grid0.Coords) : Fin 2 → Nat :=
  let c116_i32 : BitVec 32 := 116#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c116_i32 v2
  let c64_i32 : BitVec 32 := 64#32
  let v4 : BitVec 32 := Scalar.muli v3 c64_i32
  let v5 : BitVec 32 := v4
  let v162 : Index := Scalar.indexCast v5
  let c640_87 : Index := 640#32
  ![v162.toNat, 640]
def k0_off7 (i : grid0.Coords) : Fin 2 → Nat :=
  let c116_i32 : BitVec 32 := 116#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c116_i32 v2
  let c64_i32 : BitVec 32 := 64#32
  let v4 : BitVec 32 := Scalar.muli v3 c64_i32
  let v5 : BitVec 32 := v4
  let v193 : Index := Scalar.indexCast v5
  let c768_104 : Index := 768#32
  ![v193.toNat, 768]
def k0_off8 (i : grid0.Coords) : Fin 2 → Nat :=
  let c116_i32 : BitVec 32 := 116#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c116_i32 v2
  let c64_i32 : BitVec 32 := 64#32
  let v4 : BitVec 32 := Scalar.muli v3 c64_i32
  let v5 : BitVec 32 := v4
  let v224 : Index := Scalar.indexCast v5
  let c896_121 : Index := 896#32
  ![v224.toNat, 896]
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  let c0_i32_0 : BitVec 32 := 0#32
  ![c0_i32.toNat, v0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c31_i32 : BitVec 32 := 31#32
  let v1 : BitVec 1 := Scalar.cmpi .eq arg1 c31_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let v4 : BitVec 32 := Scalar.addi c0_i32_1 arg0
  let c0_i32_2 : BitVec 32 := 0#32
  let c0_i32_3 : BitVec 32 := 0#32
  let c0_i32_4 : BitVec 32 := 0#32
  ![v3.toNat, v4.toNat, c0_i32_2.toNat, c0_i32_3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8192x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8192x8192 : Shape := ⟨2, ![8192, 8192]⟩
abbrev S256x8192 : Shape := ⟨2, ![256, 8192]⟩
abbrev S2x16x15x31 : Shape := ⟨4, ![2, 16, 15, 31]⟩
abbrev S1x16x15x31 : Shape := ⟨4, ![1, 16, 15, 31]⟩
abbrev S16x15x31 : Shape := ⟨3, ![16, 15, 31]⟩
abbrev S8192x1024 : Shape := ⟨2, ![8192, 1024]⟩
abbrev S8192x2048 : Shape := ⟨2, ![8192, 2048]⟩
abbrev S256x1024 : Shape := ⟨2, ![256, 1024]⟩
abbrev S256x2048 : Shape := ⟨2, ![256, 2048]⟩
abbrev S8192x16x128 : Shape := ⟨3, ![8192, 16, 128]⟩
abbrev S256x16x128 : Shape := ⟨3, ![256, 16, 128]⟩
abbrev S8192 : Shape := ⟨1, ![8192]⟩
abbrev S_ : Shape := ⟨0, ![]⟩
abbrev S128 : Shape := ⟨1, ![128]⟩
abbrev S8192x1 : Shape := ⟨2, ![8192, 1]⟩
abbrev S1x128 : Shape := ⟨2, ![1, 128]⟩
abbrev S8192x128 : Shape := ⟨2, ![8192, 128]⟩
abbrev S8192x128x1 : Shape := ⟨3, ![8192, 128, 1]⟩
abbrev S8192x128x2 : Shape := ⟨3, ![8192, 128, 2]⟩
abbrev S16x8192x128 : Shape := ⟨3, ![16, 8192, 128]⟩
abbrev S8192x128x16x128 : Shape := ⟨4, ![8192, 128, 16, 128]⟩
abbrev S16x8192x256 : Shape := ⟨3, ![16, 8192, 256]⟩
abbrev S16x8192x384 : Shape := ⟨3, ![16, 8192, 384]⟩
abbrev S16x8192 : Shape := ⟨2, ![16, 8192]⟩
abbrev S16x8192x1 : Shape := ⟨3, ![16, 8192, 1]⟩
abbrev S16x128x8192 : Shape := ⟨3, ![16, 128, 8192]⟩

abbrev nBuf : Space → Nat
  | .hbm => 222
  | .vmem => 0
  | .smem => 0
  | _ => 0

abbrev hbmTy0_0 (i : Nat) : BufTy := match i % 128 with
  | 0 => ⟨S8192x8192, .bf16⟩
  | 1 => ⟨S256x8192, .bf16⟩
  | 2 => ⟨S2x16x15x31, .f32⟩
  | 3 => ⟨S1x16x15x31, .f32⟩
  | 4 => ⟨S16x15x31, .f32⟩
  | 5 => ⟨S8192x8192, .f32⟩
  | 6 => ⟨S256x8192, .f32⟩
  | 7 => ⟨S8192x1024, .f32⟩
  | 8 => ⟨S8192x2048, .f32⟩
  | 9 => ⟨S8192x2048, .f32⟩
  | 10 => ⟨S8192x2048, .f32⟩
  | 11 => ⟨S8192x1024, .f32⟩
  | 12 => ⟨S256x1024, .f32⟩
  | 13 => ⟨S256x2048, .f32⟩
  | 14 => ⟨S256x2048, .f32⟩
  | 15 => ⟨S256x2048, .f32⟩
  | 16 => ⟨S256x1024, .f32⟩
  | 17 => ⟨S8192x16x128, .f32⟩
  | 18 => ⟨S8192x16x128, .f32⟩
  | 19 => ⟨S8192x16x128, .f32⟩
  | 20 => ⟨S256x16x128, .f32⟩
  | 21 => ⟨S256x16x128, .f32⟩
  | 22 => ⟨S8192, .i32⟩
  | 23 => ⟨S_, .i32⟩
  | 24 => ⟨S_, .i32⟩
  | 25 => ⟨S8192, .i32⟩
  | 26 => ⟨S8192, .i32⟩
  | 27 => ⟨S8192, .i32⟩
  | 28 => ⟨S_, .i32⟩
  | 29 => ⟨S8192, .i32⟩
  | 30 => ⟨S8192, .i1⟩
  | 31 => ⟨S8192, .i32⟩
  | 32 => ⟨S8192, .i32⟩
  | 33 => ⟨S_, .i32⟩
  | 34 => ⟨S8192, .i32⟩
  | 35 => ⟨S8192, .i1⟩
  | 36 => ⟨S8192, .i1⟩
  | 37 => ⟨S_, .i32⟩
  | 38 => ⟨S8192, .i32⟩
  | 39 => ⟨S8192, .i32⟩
  | 40 => ⟨S8192, .i32⟩
  | 41 => ⟨S8192, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S8192, .i32⟩
  | 49 => ⟨S8192, .i32⟩
  | 50 => ⟨S_, .i32⟩
  | 51 => ⟨S8192, .i32⟩
  | 52 => ⟨S8192, .i1⟩
  | 53 => ⟨S_, .i32⟩
  | 54 => ⟨S8192, .i32⟩
  | 55 => ⟨S8192, .i1⟩
  | 56 => ⟨S_, .i32⟩
  | 57 => ⟨S_, .i1⟩
  | 58 => ⟨S8192, .i1⟩
  | 59 => ⟨S8192, .i1⟩
  | 60 => ⟨S8192, .i1⟩
  | 61 => ⟨S8192, .i32⟩
  | 62 => ⟨S8192, .i32⟩
  | 63 => ⟨S8192, .i32⟩
  | 64 => ⟨S_, .i32⟩
  | 65 => ⟨S8192, .i32⟩
  | 66 => ⟨S8192, .i32⟩
  | 67 => ⟨S_, .i32⟩
  | 68 => ⟨S_, .i32⟩
  | 69 => ⟨S_, .i32⟩
  | 70 => ⟨S8192, .i32⟩
  | 71 => ⟨S8192, .i32⟩
  | 72 => ⟨S_, .i32⟩
  | 73 => ⟨S8192, .i32⟩
  | 74 => ⟨S8192, .i32⟩
  | 75 => ⟨S_, .i32⟩
  | 76 => ⟨S8192, .i32⟩
  | 77 => ⟨S8192, .i32⟩
  | 78 => ⟨S_, .i32⟩
  | 79 => ⟨S_, .i32⟩
  | 80 => ⟨S_, .i32⟩
  | 81 => ⟨S8192, .i32⟩
  | 82 => ⟨S8192, .i32⟩
  | 83 => ⟨S_, .i32⟩
  | 84 => ⟨S8192, .i32⟩
  | 85 => ⟨S8192, .i32⟩
  | 86 => ⟨S128, .i32⟩
  | 87 => ⟨S_, .i32⟩
  | 88 => ⟨S_, .i32⟩
  | 89 => ⟨S128, .i32⟩
  | 90 => ⟨S128, .i32⟩
  | 91 => ⟨S128, .i32⟩
  | 92 => ⟨S_, .i32⟩
  | 93 => ⟨S128, .i32⟩
  | 94 => ⟨S128, .i1⟩
  | 95 => ⟨S128, .i32⟩
  | 96 => ⟨S128, .i32⟩
  | 97 => ⟨S_, .i32⟩
  | 98 => ⟨S128, .i32⟩
  | 99 => ⟨S128, .i1⟩
  | 100 => ⟨S128, .i1⟩
  | 101 => ⟨S_, .i32⟩
  | 102 => ⟨S128, .i32⟩
  | 103 => ⟨S128, .i32⟩
  | 104 => ⟨S128, .i32⟩
  | 105 => ⟨S128, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S128, .i32⟩
  | 113 => ⟨S128, .i32⟩
  | 114 => ⟨S_, .i32⟩
  | 115 => ⟨S128, .i32⟩
  | 116 => ⟨S128, .i1⟩
  | 117 => ⟨S_, .i32⟩
  | 118 => ⟨S128, .i32⟩
  | 119 => ⟨S128, .i1⟩
  | 120 => ⟨S_, .i32⟩
  | 121 => ⟨S_, .i1⟩
  | 122 => ⟨S128, .i1⟩
  | 123 => ⟨S128, .i1⟩
  | 124 => ⟨S128, .i1⟩
  | 125 => ⟨S128, .i32⟩
  | 126 => ⟨S128, .i32⟩
  | 127 => ⟨S128, .i32⟩
  | _ => ⟨S8192x8192, .bf16⟩

abbrev hbmTy0_1 (i : Nat) : BufTy := match i % 128 with
  | 0 => ⟨S8192x1, .i32⟩
  | 1 => ⟨S1x128, .i32⟩
  | 2 => ⟨S8192x128, .i32⟩
  | 3 => ⟨S8192x128, .i32⟩
  | 4 => ⟨S8192x128, .i32⟩
  | 5 => ⟨S8192x1, .i32⟩
  | 6 => ⟨S1x128, .i32⟩
  | 7 => ⟨S8192x128, .i32⟩
  | 8 => ⟨S8192x128, .i32⟩
  | 9 => ⟨S8192x128, .i32⟩
  | 10 => ⟨S_, .i32⟩
  | 11 => ⟨S8192x128, .i32⟩
  | 12 => ⟨S8192x128, .i32⟩
  | 13 => ⟨S8192x128, .i32⟩
  | 14 => ⟨S8192x1, .i32⟩
  | 15 => ⟨S8192x128, .i32⟩
  | 16 => ⟨S8192x128, .i32⟩
  | 17 => ⟨S_, .i32⟩
  | 18 => ⟨S8192x128, .i32⟩
  | 19 => ⟨S8192x128, .i32⟩
  | 20 => ⟨S8192x1, .i32⟩
  | 21 => ⟨S8192x128, .i32⟩
  | 22 => ⟨S8192x128, .i32⟩
  | 23 => ⟨S_, .i32⟩
  | 24 => ⟨S8192x128, .i32⟩
  | 25 => ⟨S8192x128, .i32⟩
  | 26 => ⟨S_, .i32⟩
  | 27 => ⟨S8192x128, .i32⟩
  | 28 => ⟨S8192x128, .i1⟩
  | 29 => ⟨S_, .i32⟩
  | 30 => ⟨S8192x128, .i32⟩
  | 31 => ⟨S8192x128, .i32⟩
  | 32 => ⟨S8192x128, .i32⟩
  | 33 => ⟨S_, .i32⟩
  | 34 => ⟨S8192x128, .i32⟩
  | 35 => ⟨S8192x128, .i1⟩
  | 36 => ⟨S_, .i32⟩
  | 37 => ⟨S8192x128, .i32⟩
  | 38 => ⟨S8192x128, .i32⟩
  | 39 => ⟨S8192x128, .i32⟩
  | 40 => ⟨S8192x128x1, .i32⟩
  | 41 => ⟨S8192x128x1, .i32⟩
  | 42 => ⟨S8192x128x2, .i32⟩
  | 43 => ⟨S16x8192x128, .f32⟩
  | 44 => ⟨S_, .i32⟩
  | 45 => ⟨S8192x128, .i32⟩
  | 46 => ⟨S8192x128, .i1⟩
  | 47 => ⟨S_, .i32⟩
  | 48 => ⟨S8192x128, .i32⟩
  | 49 => ⟨S8192x128, .i32⟩
  | 50 => ⟨S8192x128, .i32⟩
  | 51 => ⟨S8192x128x1, .i32⟩
  | 52 => ⟨S8192x128x16x128, .f32⟩
  | 53 => ⟨S_, .i32⟩
  | 54 => ⟨S8192x128, .i32⟩
  | 55 => ⟨S8192x128, .i1⟩
  | 56 => ⟨S_, .i32⟩
  | 57 => ⟨S8192x128, .i32⟩
  | 58 => ⟨S8192x128, .i32⟩
  | 59 => ⟨S8192x128, .i32⟩
  | 60 => ⟨S8192x128x1, .i32⟩
  | 61 => ⟨S8192x128x16x128, .f32⟩
  | 62 => ⟨S16x8192x128, .f32⟩
  | 63 => ⟨S_, .f32⟩
  | 64 => ⟨S16x8192x128, .f32⟩
  | 65 => ⟨S16x8192x128, .f32⟩
  | 66 => ⟨S16x8192x128, .f32⟩
  | 67 => ⟨S16x8192x256, .f32⟩
  | 68 => ⟨S_, .f32⟩
  | 69 => ⟨S16x8192x256, .f32⟩
  | 70 => ⟨S16x8192x256, .f32⟩
  | 71 => ⟨S16x8192x384, .f32⟩
  | 72 => ⟨S_, .f32⟩
  | 73 => ⟨S16x8192, .f32⟩
  | 74 => ⟨S_, .f32⟩
  | 75 => ⟨S16x8192, .f32⟩
  | 76 => ⟨S16x8192, .f32⟩
  | 77 => ⟨S16x8192x1, .f32⟩
  | 78 => ⟨S16x8192x384, .f32⟩
  | 79 => ⟨S16x8192x384, .f32⟩
  | 80 => ⟨S16x8192x384, .f32⟩
  | 81 => ⟨S_, .f32⟩
  | 82 => ⟨S16x8192, .f32⟩
  | 83 => ⟨S16x8192x1, .f32⟩
  | 84 => ⟨S16x8192x384, .f32⟩
  | 85 => ⟨S16x8192x384, .f32⟩
  | 86 => ⟨S16x8192x128, .f32⟩
  | 87 => ⟨S8192x16x128, .f32⟩
  | 88 => ⟨S16x8192x256, .f32⟩
  | 89 => ⟨S16x128x8192, .f32⟩
  | 90 => ⟨S8192x16x128, .f32⟩
  | 91 => ⟨S8192x16x128, .f32⟩
  | 92 => ⟨S8192x2048, .f32⟩
  | 93 => ⟨S8192x2048, .bf16⟩
  | _ => ⟨S8192x8192, .bf16⟩

abbrev hbmTy (i : Nat) : BufTy := match i / 128 with
  | 0 => hbmTy0_0 i
  | 1 => hbmTy0_1 i
  | _ => ⟨S8192x8192, .bf16⟩

abbrev bufTy : (tb : Table) → Fin (tcTables nBuf tb) → BufTy
  | .hbm, ⟨i, _⟩ => hbmTy i
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v20 : Ref sig .tc := ⟨.hbm, 40, rfl⟩
abbrev main_v21 : Ref sig .tc := ⟨.hbm, 41, rfl⟩
abbrev main_c_0 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_1 : Ref sig .tc := ⟨.hbm, 50, rfl⟩
abbrev main_call1_v5 : Ref sig .tc := ⟨.hbm, 51, rfl⟩
abbrev main_call1_v6 : Ref sig .tc := ⟨.hbm, 52, rfl⟩
abbrev main_call1_c_2 : Ref sig .tc := ⟨.hbm, 53, rfl⟩
abbrev main_call1_v7 : Ref sig .tc := ⟨.hbm, 54, rfl⟩
abbrev main_call1_v8 : Ref sig .tc := ⟨.hbm, 55, rfl⟩
abbrev main_call1_c_3 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_v22 : Ref sig .tc := ⟨.hbm, 63, rfl⟩
abbrev main_c_1 : Ref sig .tc := ⟨.hbm, 64, rfl⟩
abbrev main_v23 : Ref sig .tc := ⟨.hbm, 65, rfl⟩
abbrev main_v24 : Ref sig .tc := ⟨.hbm, 66, rfl⟩
abbrev main_c_2 : Ref sig .tc := ⟨.hbm, 67, rfl⟩
abbrev main_c_3 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_v25 : Ref sig .tc := ⟨.hbm, 74, rfl⟩
abbrev main_c_4 : Ref sig .tc := ⟨.hbm, 75, rfl⟩
abbrev main_v26 : Ref sig .tc := ⟨.hbm, 76, rfl⟩
abbrev main_v27 : Ref sig .tc := ⟨.hbm, 77, rfl⟩
abbrev main_c_5 : Ref sig .tc := ⟨.hbm, 78, rfl⟩
abbrev main_c_6 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_v28 : Ref sig .tc := ⟨.hbm, 85, rfl⟩
abbrev main_v29 : Ref sig .tc := ⟨.hbm, 86, rfl⟩
abbrev main_c_7 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_call4_v5 : Ref sig .tc := ⟨.hbm, 93, rfl⟩
abbrev main_call4_v6 : Ref sig .tc := ⟨.hbm, 94, rfl⟩
abbrev main_call4_v7 : Ref sig .tc := ⟨.hbm, 95, rfl⟩
abbrev main_call4_v8 : Ref sig .tc := ⟨.hbm, 96, rfl⟩
abbrev main_call4_c : Ref sig .tc := ⟨.hbm, 97, rfl⟩
abbrev main_call4_v9 : Ref sig .tc := ⟨.hbm, 98, rfl⟩
abbrev main_call4_v10 : Ref sig .tc := ⟨.hbm, 99, rfl⟩
abbrev main_call4_v11 : Ref sig .tc := ⟨.hbm, 100, rfl⟩
abbrev main_call4_c_0 : Ref sig .tc := ⟨.hbm, 101, rfl⟩
abbrev main_call4_v12 : Ref sig .tc := ⟨.hbm, 102, rfl⟩
abbrev main_call4_v13 : Ref sig .tc := ⟨.hbm, 103, rfl⟩
abbrev main_v30 : Ref sig .tc := ⟨.hbm, 104, rfl⟩
abbrev main_v31 : Ref sig .tc := ⟨.hbm, 105, rfl⟩
abbrev main_c_8 : Ref sig .tc := ⟨.hbm, 106, rfl⟩
abbrev main_call5_v0 : Ref sig .tc := ⟨.hbm, 107, rfl⟩
abbrev main_call5_c : Ref sig .tc := ⟨.hbm, 108, rfl⟩
abbrev main_call5_v1 : Ref sig .tc := ⟨.hbm, 109, rfl⟩
abbrev main_call5_c_0 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_call5_c_1 : Ref sig .tc := ⟨.hbm, 114, rfl⟩
abbrev main_call5_v5 : Ref sig .tc := ⟨.hbm, 115, rfl⟩
abbrev main_call5_v6 : Ref sig .tc := ⟨.hbm, 116, rfl⟩
abbrev main_call5_c_2 : Ref sig .tc := ⟨.hbm, 117, rfl⟩
abbrev main_call5_v7 : Ref sig .tc := ⟨.hbm, 118, rfl⟩
abbrev main_call5_v8 : Ref sig .tc := ⟨.hbm, 119, rfl⟩
abbrev main_call5_c_3 : Ref sig .tc := ⟨.hbm, 120, rfl⟩
abbrev main_call5_v9 : Ref sig .tc := ⟨.hbm, 121, rfl⟩
abbrev main_call5_v10 : Ref sig .tc := ⟨.hbm, 122, rfl⟩
abbrev main_call5_v11 : Ref sig .tc := ⟨.hbm, 123, rfl⟩
abbrev main_call5_v12 : Ref sig .tc := ⟨.hbm, 124, rfl⟩
abbrev main_call5_v13 : Ref sig .tc := ⟨.hbm, 125, rfl⟩
abbrev main_call5_v14 : Ref sig .tc := ⟨.hbm, 126, rfl⟩
abbrev main_v32 : Ref sig .tc := ⟨.hbm, 127, rfl⟩
abbrev main_v33 : Ref sig .tc := ⟨.hbm, 128, rfl⟩
abbrev main_v34 : Ref sig .tc := ⟨.hbm, 129, rfl⟩
abbrev main_v35 : Ref sig .tc := ⟨.hbm, 130, rfl⟩
abbrev main_v36 : Ref sig .tc := ⟨.hbm, 131, rfl⟩
abbrev main_v37 : Ref sig .tc := ⟨.hbm, 132, rfl⟩
abbrev main_v38 : Ref sig .tc := ⟨.hbm, 133, rfl⟩
abbrev main_v39 : Ref sig .tc := ⟨.hbm, 134, rfl⟩
abbrev main_v40 : Ref sig .tc := ⟨.hbm, 135, rfl⟩
abbrev main_v41 : Ref sig .tc := ⟨.hbm, 136, rfl⟩
abbrev main_v42 : Ref sig .tc := ⟨.hbm, 137, rfl⟩
abbrev main_c_9 : Ref sig .tc := ⟨.hbm, 138, rfl⟩
abbrev main_v43 : Ref sig .tc := ⟨.hbm, 139, rfl⟩
abbrev main_v44 : Ref sig .tc := ⟨.hbm, 140, rfl⟩
abbrev main_v45 : Ref sig .tc := ⟨.hbm, 141, rfl⟩
abbrev main_v46 : Ref sig .tc := ⟨.hbm, 142, rfl⟩
abbrev main_v47 : Ref sig .tc := ⟨.hbm, 143, rfl⟩
abbrev main_v48 : Ref sig .tc := ⟨.hbm, 144, rfl⟩
abbrev main_c_10 : Ref sig .tc := ⟨.hbm, 145, rfl⟩
abbrev main_v49 : Ref sig .tc := ⟨.hbm, 146, rfl⟩
abbrev main_v50 : Ref sig .tc := ⟨.hbm, 147, rfl⟩
abbrev main_v51 : Ref sig .tc := ⟨.hbm, 148, rfl⟩
abbrev main_v52 : Ref sig .tc := ⟨.hbm, 149, rfl⟩
abbrev main_v53 : Ref sig .tc := ⟨.hbm, 150, rfl⟩
abbrev main_c_11 : Ref sig .tc := ⟨.hbm, 151, rfl⟩
abbrev main_v54 : Ref sig .tc := ⟨.hbm, 152, rfl⟩
abbrev main_v55 : Ref sig .tc := ⟨.hbm, 153, rfl⟩
abbrev main_c_12 : Ref sig .tc := ⟨.hbm, 154, rfl⟩
abbrev main_v56 : Ref sig .tc := ⟨.hbm, 155, rfl⟩
abbrev main_v57 : Ref sig .tc := ⟨.hbm, 156, rfl⟩
abbrev main_c_13 : Ref sig .tc := ⟨.hbm, 157, rfl⟩
abbrev main_v58 : Ref sig .tc := ⟨.hbm, 158, rfl⟩
abbrev main_v59 : Ref sig .tc := ⟨.hbm, 159, rfl⟩
abbrev main_v60 : Ref sig .tc := ⟨.hbm, 160, rfl⟩
abbrev main_c_14 : Ref sig .tc := ⟨.hbm, 161, rfl⟩
abbrev main_v61 : Ref sig .tc := ⟨.hbm, 162, rfl⟩
abbrev main_v62 : Ref sig .tc := ⟨.hbm, 163, rfl⟩
abbrev main_c_15 : Ref sig .tc := ⟨.hbm, 164, rfl⟩
abbrev main_v63 : Ref sig .tc := ⟨.hbm, 165, rfl⟩
abbrev main_v64 : Ref sig .tc := ⟨.hbm, 166, rfl⟩
abbrev main_v65 : Ref sig .tc := ⟨.hbm, 167, rfl⟩
abbrev main_v66 : Ref sig .tc := ⟨.hbm, 168, rfl⟩
abbrev main_v67 : Ref sig .tc := ⟨.hbm, 169, rfl⟩
abbrev main_v68 : Ref sig .tc := ⟨.hbm, 170, rfl⟩
abbrev main_v69 : Ref sig .tc := ⟨.hbm, 171, rfl⟩
abbrev main_c_16 : Ref sig .tc := ⟨.hbm, 172, rfl⟩
abbrev main_v70 : Ref sig .tc := ⟨.hbm, 173, rfl⟩
abbrev main_v71 : Ref sig .tc := ⟨.hbm, 174, rfl⟩
abbrev main_c_17 : Ref sig .tc := ⟨.hbm, 175, rfl⟩
abbrev main_v72 : Ref sig .tc := ⟨.hbm, 176, rfl⟩
abbrev main_v73 : Ref sig .tc := ⟨.hbm, 177, rfl⟩
abbrev main_v74 : Ref sig .tc := ⟨.hbm, 178, rfl⟩
abbrev main_v75 : Ref sig .tc := ⟨.hbm, 179, rfl⟩
abbrev main_v76 : Ref sig .tc := ⟨.hbm, 180, rfl⟩
abbrev main_c_18 : Ref sig .tc := ⟨.hbm, 181, rfl⟩
abbrev main_v77 : Ref sig .tc := ⟨.hbm, 182, rfl⟩
abbrev main_v78 : Ref sig .tc := ⟨.hbm, 183, rfl⟩
abbrev main_c_19 : Ref sig .tc := ⟨.hbm, 184, rfl⟩
abbrev main_v79 : Ref sig .tc := ⟨.hbm, 185, rfl⟩
abbrev main_v80 : Ref sig .tc := ⟨.hbm, 186, rfl⟩
abbrev main_v81 : Ref sig .tc := ⟨.hbm, 187, rfl⟩
abbrev main_v82 : Ref sig .tc := ⟨.hbm, 188, rfl⟩
abbrev main_v83 : Ref sig .tc := ⟨.hbm, 189, rfl⟩
abbrev main_v84 : Ref sig .tc := ⟨.hbm, 190, rfl⟩
abbrev main_cst : Ref sig .tc := ⟨.hbm, 191, rfl⟩
abbrev main_v85 : Ref sig .tc := ⟨.hbm, 192, rfl⟩
abbrev main_v86 : Ref sig .tc := ⟨.hbm, 193, rfl⟩
abbrev main_v87 : Ref sig .tc := ⟨.hbm, 194, rfl⟩
abbrev main_v88 : Ref sig .tc := ⟨.hbm, 195, rfl⟩
abbrev main_cst_20 : Ref sig .tc := ⟨.hbm, 196, rfl⟩
abbrev main_v89 : Ref sig .tc := ⟨.hbm, 197, rfl⟩
abbrev main_v90 : Ref sig .tc := ⟨.hbm, 198, rfl⟩
abbrev main_v91 : Ref sig .tc := ⟨.hbm, 199, rfl⟩
abbrev main_cst_21 : Ref sig .tc := ⟨.hbm, 200, rfl⟩
abbrev main_v92 : Ref sig .tc := ⟨.hbm, 201, rfl⟩
abbrev main_cst_22 : Ref sig .tc := ⟨.hbm, 202, rfl⟩
abbrev main_v93 : Ref sig .tc := ⟨.hbm, 203, rfl⟩
abbrev main_v94 : Ref sig .tc := ⟨.hbm, 204, rfl⟩
abbrev main_v95 : Ref sig .tc := ⟨.hbm, 205, rfl⟩
abbrev main_v96 : Ref sig .tc := ⟨.hbm, 206, rfl⟩
abbrev main_v97 : Ref sig .tc := ⟨.hbm, 207, rfl⟩
abbrev main_v98 : Ref sig .tc := ⟨.hbm, 208, rfl⟩
abbrev main_cst_23 : Ref sig .tc := ⟨.hbm, 209, rfl⟩
abbrev main_v99 : Ref sig .tc := ⟨.hbm, 210, rfl⟩
abbrev main_v100 : Ref sig .tc := ⟨.hbm, 211, rfl⟩
abbrev main_v101 : Ref sig .tc := ⟨.hbm, 212, rfl⟩
abbrev main_v102 : Ref sig .tc := ⟨.hbm, 213, rfl⟩
abbrev main_v103 : Ref sig .tc := ⟨.hbm, 214, rfl⟩
abbrev main_v104 : Ref sig .tc := ⟨.hbm, 215, rfl⟩
abbrev main_v105 : Ref sig .tc := ⟨.hbm, 216, rfl⟩
abbrev main_v106 : Ref sig .tc := ⟨.hbm, 217, rfl⟩
abbrev main_v107 : Ref sig .tc := ⟨.hbm, 218, rfl⟩
abbrev main_v108 : Ref sig .tc := ⟨.hbm, 219, rfl⟩
abbrev main_v109 : Ref sig .tc := ⟨.hbm, 220, rfl⟩
abbrev main_v110 : Ref sig .tc := ⟨.hbm, 221, rfl⟩

abbrev nD : Nat := 1
abbrev τ : Topo := Topo.v7x

variable {F : FTy → Type} [FloatOps F]
-- ==== Kernel2.lean ====
abbrev S8192x4096 : Shape := ⟨2, ![8192, 4096]⟩
abbrev S8192x1024 : Shape := ⟨2, ![8192, 1024]⟩
abbrev S8192x2048 : Shape := ⟨2, ![8192, 2048]⟩
abbrev S1x4096x12288 : Shape := ⟨3, ![1, 4096, 12288]⟩
abbrev S12288 : Shape := ⟨1, ![12288]⟩
abbrev S1x1024x4096 : Shape := ⟨3, ![1, 1024, 4096]⟩
abbrev S1x2048x4096 : Shape := ⟨3, ![1, 2048, 4096]⟩
abbrev S1x1x12288 : Shape := ⟨3, ![1, 1, 12288]⟩
abbrev S1024x4096 : Shape := ⟨2, ![1024, 4096]⟩
abbrev S1024x1024 : Shape := ⟨2, ![1024, 1024]⟩
abbrev S1024x2048 : Shape := ⟨2, ![1024, 2048]⟩
abbrev S1x4096x256 : Shape := ⟨3, ![1, 4096, 256]⟩
abbrev S1x1x256 : Shape := ⟨3, ![1, 1, 256]⟩
abbrev S1x1024x256 : Shape := ⟨3, ![1, 1024, 256]⟩
abbrev S1x2048x256 : Shape := ⟨3, ![1, 2048, 256]⟩
abbrev S1024x256 : Shape := ⟨2, ![1024, 256]⟩
abbrev S4096x256 : Shape := ⟨2, ![4096, 256]⟩
abbrev S1x256 : Shape := ⟨2, ![1, 256]⟩
abbrev S2048x256 : Shape := ⟨2, ![2048, 256]⟩

abbrev nBuf : Space → Nat
  | .hbm => 11
  | .vmem => 27
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x2048, .bf16⟩
  | .hbm, ⟨3, _⟩ => ⟨S8192x1024, .bf16⟩
  | .hbm, ⟨4, _⟩ => ⟨S1x4096x12288, .bf16⟩
  | .hbm, ⟨5, _⟩ => ⟨S12288, .f32⟩
  | .hbm, ⟨6, _⟩ => ⟨S1x1024x4096, .bf16⟩
  | .hbm, ⟨7, _⟩ => ⟨S1x2048x4096, .bf16⟩
  | .hbm, ⟨8, _⟩ => ⟨S1x1024x4096, .bf16⟩
  | .hbm, ⟨9, _⟩ => ⟨S1x1x12288, .f32⟩
  | .hbm, ⟨10, _⟩ => ⟨S8192x4096, .bf16⟩
  | .local _ .vmem, ⟨0, _⟩ => ⟨S1024x4096, .bf16⟩
  | .local _ .vmem, ⟨1, _⟩ => ⟨S1024x1024, .bf16⟩
  | .local _ .vmem, ⟨2, _⟩ => ⟨S1024x1024, .bf16⟩
  | .local _ .vmem, ⟨3, _⟩ => ⟨S1024x2048, .bf16⟩
  | .local _ .vmem, ⟨4, _⟩ => ⟨S1024x2048, .bf16⟩
  | .local _ .vmem, ⟨5, _⟩ => ⟨S1024x1024, .bf16⟩
  | .local _ .vmem, ⟨6, _⟩ => ⟨S1024x1024, .bf16⟩
  | .local _ .vmem, ⟨7, _⟩ => ⟨S1x4096x256, .bf16⟩
  | .local _ .vmem, ⟨8, _⟩ => ⟨S1x4096x256, .bf16⟩
  | .local _ .vmem, ⟨9, _⟩ => ⟨S1x4096x256, .bf16⟩
  | .local _ .vmem, ⟨10, _⟩ => ⟨S1x4096x256, .bf16⟩
  | .local _ .vmem, ⟨11, _⟩ => ⟨S1x4096x256, .bf16⟩
  | .local _ .vmem, ⟨12, _⟩ => ⟨S1x4096x256, .bf16⟩
  | .local _ .vmem, ⟨13, _⟩ => ⟨S1x1x256, .f32⟩
  | .local _ .vmem, ⟨14, _⟩ => ⟨S1x1x256, .f32⟩
  | .local _ .vmem, ⟨15, _⟩ => ⟨S1x1x256, .f32⟩
  | .local _ .vmem, ⟨16, _⟩ => ⟨S1x1x256, .f32⟩
  | .local _ .vmem, ⟨17, _⟩ => ⟨S1x1x256, .f32⟩
  | .local _ .vmem, ⟨18, _⟩ => ⟨S1x1x256, .f32⟩
  | .local _ .vmem, ⟨19, _⟩ => ⟨S1x1024x256, .bf16⟩
  | .local _ .vmem, ⟨20, _⟩ => ⟨S1x1024x256, .bf16⟩
  | .local _ .vmem, ⟨21, _⟩ => ⟨S1x2048x256, .bf16⟩
  | .local _ .vmem, ⟨22, _⟩ => ⟨S1x2048x256, .bf16⟩
  | .local _ .vmem, ⟨23, _⟩ => ⟨S1x1024x256, .bf16⟩
  | .local _ .vmem, ⟨24, _⟩ => ⟨S1x1024x256, .bf16⟩
  | .local _ .vmem, ⟨25, _⟩ => ⟨S1024x256, .bf16⟩
  | .local _ .vmem, ⟨26, _⟩ => ⟨S1024x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![c0_i32.toNat, c0_i32_0.toNat, v0.toNat]

def cc0_transform_9 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  let c0_i32_1 : BitVec 32 := 0#32
  ![c0_i32.toNat, c0_i32_0.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S8192x4096 : Shape := ⟨2, ![8192, 4096]⟩
abbrev S8192x1024 : Shape := ⟨2, ![8192, 1024]⟩
abbrev S8192x2048 : Shape := ⟨2, ![8192, 2048]⟩
abbrev S1x4096x12288 : Shape := ⟨3, ![1, 4096, 12288]⟩
abbrev S12288 : Shape := ⟨1, ![12288]⟩
abbrev S1x1024x4096 : Shape := ⟨3, ![1, 1024, 4096]⟩
abbrev S1x2048x4096 : Shape := ⟨3, ![1, 2048, 4096]⟩
abbrev S4096x12288 : Shape := ⟨2, ![4096, 12288]⟩
abbrev S1024x4096 : Shape := ⟨2, ![1024, 4096]⟩
abbrev S2048x4096 : Shape := ⟨2, ![2048, 4096]⟩
abbrev S8192x12288 : Shape := ⟨2, ![8192, 12288]⟩
abbrev S1x12288 : Shape := ⟨2, ![1, 12288]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x2048, .bf16⟩
  | .hbm, ⟨3, _⟩ => ⟨S8192x1024, .bf16⟩
  | .hbm, ⟨4, _⟩ => ⟨S1x4096x12288, .bf16⟩
  | .hbm, ⟨5, _⟩ => ⟨S12288, .f32⟩
  | .hbm, ⟨6, _⟩ => ⟨S1x1024x4096, .bf16⟩
  | .hbm, ⟨7, _⟩ => ⟨S1x2048x4096, .bf16⟩
  | .hbm, ⟨8, _⟩ => ⟨S1x1024x4096, .bf16⟩
  | .hbm, ⟨9, _⟩ => ⟨S8192x4096, .f32⟩
  | .hbm, ⟨10, _⟩ => ⟨S8192x1024, .f32⟩
  | .hbm, ⟨11, _⟩ => ⟨S8192x2048, .f32⟩
  | .hbm, ⟨12, _⟩ => ⟨S8192x1024, .f32⟩
  | .hbm, ⟨13, _⟩ => ⟨S4096x12288, .bf16⟩
  | .hbm, ⟨14, _⟩ => ⟨S4096x12288, .f32⟩
  | .hbm, ⟨15, _⟩ => ⟨S1024x4096, .bf16⟩
  | .hbm, ⟨16, _⟩ => ⟨S1024x4096, .f32⟩
  | .hbm, ⟨17, _⟩ => ⟨S2048x4096, .bf16⟩
  | .hbm, ⟨18, _⟩ => ⟨S2048x4096, .f32⟩
  | .hbm, ⟨19, _⟩ => ⟨S1024x4096, .bf16⟩
  | .hbm, ⟨20, _⟩ => ⟨S1024x4096, .f32⟩
  | .hbm, ⟨21, _⟩ => ⟨S8192x12288, .f32⟩
  | .hbm, ⟨22, _⟩ => ⟨S1x12288, .f32⟩
  | .hbm, ⟨23, _⟩ => ⟨S8192x12288, .f32⟩
  | .hbm, ⟨24, _⟩ => ⟨S8192x12288, .f32⟩
  | .hbm, ⟨25, _⟩ => ⟨S8192x12288, .f32⟩
  | .hbm, ⟨26, _⟩ => ⟨S8192x12288, .f32⟩
  | .hbm, ⟨27, _⟩ => ⟨S_, .f32⟩
  | .hbm, ⟨28, _⟩ => ⟨S8192x12288, .f32⟩
  | .hbm, ⟨29, _⟩ => ⟨S8192x12288, .f32⟩
  | .hbm, ⟨30, _⟩ => ⟨S_, .f32⟩
  | .hbm, ⟨31, _⟩ => ⟨S8192x12288, .f32⟩
  | .hbm, ⟨32, _⟩ => ⟨S8192x12288, .f32⟩
  | .hbm, ⟨33, _⟩ => ⟨S8192x4096, .f32⟩
  | .hbm, ⟨34, _⟩ => ⟨S8192x4096, .f32⟩
  | .hbm, ⟨35, _⟩ => ⟨S8192x4096, .f32⟩
  | .hbm, ⟨36, _⟩ => ⟨S8192x4096, .f32⟩
  | .hbm, ⟨37, _⟩ => ⟨S8192x4096, .f32⟩
  | .hbm, ⟨38, _⟩ => ⟨S8192x4096, .f32⟩
  | .hbm, ⟨39, _⟩ => ⟨S8192x4096, .f32⟩
  | .hbm, ⟨40, _⟩ => ⟨S8192x4096, .f32⟩
  | .hbm, ⟨41, _⟩ => ⟨S8192x4096, .f32⟩
  | .hbm, ⟨42, _⟩ => ⟨S8192x4096, .f32⟩
  | .hbm, ⟨43, _⟩ => ⟨S8192x4096, .f32⟩
  | .hbm, ⟨44, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel3.lean ====
abbrev S8192x11008 : Shape := ⟨2, ![8192, 11008]⟩
abbrev S1x11008x4096 : Shape := ⟨3, ![1, 11008, 4096]⟩
abbrev S8192x4096 : Shape := ⟨2, ![8192, 4096]⟩
abbrev S1x4096 : Shape := ⟨2, ![1, 4096]⟩
abbrev S512x11008 : Shape := ⟨2, ![512, 11008]⟩
abbrev S1x11008x512 : Shape := ⟨3, ![1, 11008, 512]⟩
abbrev S512x512 : Shape := ⟨2, ![512, 512]⟩
abbrev S1x512 : Shape := ⟨2, ![1, 512]⟩
abbrev S11008x512 : Shape := ⟨2, ![11008, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x11008, .bf16⟩
  | .hbm, ⟨1, _⟩ => ⟨S1x11008x4096, .bf16⟩
  | .hbm, ⟨2, _⟩ => ⟨S8192x4096, .f32⟩
  | .hbm, ⟨3, _⟩ => ⟨S1x4096, .f32⟩
  | .hbm, ⟨4, _⟩ => ⟨S8192x4096, .f32⟩
  | .local _ .vmem, ⟨0, _⟩ => ⟨S512x11008, .bf16⟩
  | .local _ .vmem, ⟨1, _⟩ => ⟨S512x11008, .bf16⟩
  | .local _ .vmem, ⟨2, _⟩ => ⟨S1x11008x512, .bf16⟩
  | .local _ .vmem, ⟨3, _⟩ => ⟨S1x11008x512, .bf16⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S8192x11008 : Shape := ⟨2, ![8192, 11008]⟩
abbrev S1x11008x4096 : Shape := ⟨3, ![1, 11008, 4096]⟩
abbrev S8192x4096 : Shape := ⟨2, ![8192, 4096]⟩
abbrev S1x4096 : Shape := ⟨2, ![1, 4096]⟩
abbrev S11008x4096 : Shape := ⟨2, ![11008, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S1x11008x4096, .bf16⟩
  | .hbm, ⟨2, _⟩ => ⟨S8192x4096, .f32⟩
  | .hbm, ⟨3, _⟩ => ⟨S1x4096, .f32⟩
  | .hbm, ⟨4, _⟩ => ⟨S8192x11008, .f32⟩
  | .hbm, ⟨5, _⟩ => ⟨S11008x4096, .bf16⟩
  | .hbm, ⟨6, _⟩ => ⟨S11008x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel4.lean ====
abbrev S8192x4096 : Shape := ⟨2, ![8192, 4096]⟩
abbrev S1x4096x4096 : Shape := ⟨3, ![1, 4096, 4096]⟩
abbrev S1x4096 : Shape := ⟨2, ![1, 4096]⟩
abbrev S1024x4096 : Shape := ⟨2, ![1024, 4096]⟩
abbrev S1x4096x1024 : Shape := ⟨3, ![1, 4096, 1024]⟩
abbrev S1024x1024 : Shape := ⟨2, ![1024, 1024]⟩
abbrev S1x1024 : Shape := ⟨2, ![1, 1024]⟩
abbrev S4096x1024 : Shape := ⟨2, ![4096, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .bf16⟩
  | .hbm, ⟨2, _⟩ => ⟨S8192x4096, .f32⟩
  | .hbm, ⟨3, _⟩ => ⟨S1x4096, .f32⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8192x4096 : Shape := ⟨2, ![8192, 4096]⟩
abbrev S1x4096x4096 : Shape := ⟨3, ![1, 4096, 4096]⟩
abbrev S1x4096 : Shape := ⟨2, ![1, 4096]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .bf16⟩
  | .hbm, ⟨2, _⟩ => ⟨S8192x4096, .f32⟩
  | .hbm, ⟨3, _⟩ => ⟨S1x4096, .f32⟩
  | .hbm, ⟨4, _⟩ => ⟨S8192x4096, .f32⟩
  | .hbm, ⟨5, _⟩ => ⟨S4096x4096, .bf16⟩
  | .hbm, ⟨6, _⟩ => ⟨S4096x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel5.lean ====
abbrev S8192x4096 : Shape := ⟨2, ![8192, 4096]⟩
abbrev S8x16x4096 : Shape := ⟨3, ![8, 16, 4096]⟩
abbrev S2x4096x22016 : Shape := ⟨3, ![2, 4096, 22016]⟩
abbrev S2x3x22016 : Shape := ⟨3, ![2, 3, 22016]⟩
abbrev S2x22016 : Shape := ⟨2, ![2, 22016]⟩
abbrev S2x11008x4096 : Shape := ⟨3, ![2, 11008, 4096]⟩
abbrev S2x1x22016 : Shape := ⟨3, ![2, 1, 22016]⟩
abbrev S8192x11008 : Shape := ⟨2, ![8192, 11008]⟩
abbrev S11008x4096 : Shape := ⟨2, ![11008, 4096]⟩
abbrev S1024x4096 : Shape := ⟨2, ![1024, 4096]⟩
abbrev S1x16x4096 : Shape := ⟨3, ![1, 16, 4096]⟩
abbrev S1x4096x256 : Shape := ⟨3, ![1, 4096, 256]⟩
abbrev S1x3x256 : Shape := ⟨3, ![1, 3, 256]⟩
abbrev S1x1x256 : Shape := ⟨3, ![1, 1, 256]⟩
abbrev S1x32x4096 : Shape := ⟨3, ![1, 32, 4096]⟩
abbrev S1024x256 : Shape := ⟨2, ![1024, 256]⟩
abbrev S32x4096 : Shape := ⟨2, ![32, 4096]⟩
abbrev S1040x4096 : Shape := ⟨2, ![1040, 4096]⟩
abbrev S16x4096 : Shape := ⟨2, ![16, 4096]⟩
abbrev S4096x256 : Shape := ⟨2, ![4096, 256]⟩
abbrev S1040x256 : Shape := ⟨2, ![1040, 256]⟩
abbrev S1x256 : Shape := ⟨2, ![1, 256]⟩

abbrev nBuf : Space → Nat
  | .hbm => 9
  | .vmem => 22
  | .smem => 0
  | _ => 0

abbrev bufTy : (tb : Table) → Fin (tcTables nBuf tb) → BufTy
  | .hbm, ⟨0, _⟩ => ⟨S8192x4096, .bf16⟩
  | .hbm, ⟨1, _⟩ => ⟨S8x16x4096, .bf16⟩
  | .hbm, ⟨2, _⟩ => ⟨S2x4096x22016, .f32⟩
  | .hbm, ⟨3, _⟩ => ⟨S2x3x22016, .f32⟩
  | .hbm, ⟨4, _⟩ => ⟨S2x22016, .f32⟩
  | .hbm, ⟨5, _⟩ => ⟨S2x11008x4096, .f32⟩
  | .hbm, ⟨6, _⟩ => ⟨S2x1x22016, .f32⟩
  | .hbm, ⟨7, _⟩ => ⟨S8192x11008, .bf16⟩
  | .hbm, ⟨8, _⟩ => ⟨S11008x4096, .bf16⟩
  | .local _ .vmem, ⟨0, _⟩ => ⟨S1024x4096, .bf16⟩
  | .local _ .vmem, ⟨1, _⟩ => ⟨S1x16x4096, .bf16⟩
  | .local _ .vmem, ⟨2, _⟩ => ⟨S1x16x4096, .bf16⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x4096x256, .f32⟩
  | .local _ .vmem, ⟨7, _⟩ => ⟨S1x3x256, .f32⟩
  | .local _ .vmem, ⟨8, _⟩ => ⟨S1x3x256, .f32⟩
  | .local _ .vmem, ⟨9, _⟩ => ⟨S1x3x256, .f32⟩
  | .local _ .vmem, ⟨10, _⟩ => ⟨S1x3x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S1x1x256, .f32⟩
  | .local _ .vmem, ⟨15, _⟩ => ⟨S1x32x4096, .f32⟩
  | .local _ .vmem, ⟨16, _⟩ => ⟨S1x32x4096, .f32⟩
  | .local _ .vmem, ⟨17, _⟩ => ⟨S1024x256, .bf16⟩
  | .local _ .vmem, ⟨18, _⟩ => ⟨S1024x256, .bf16⟩
  | .local _ .vmem, ⟨19, _⟩ => ⟨S32x4096, .bf16⟩
  | .local _ .vmem, ⟨20, _⟩ => ⟨S32x4096, .bf16⟩
  | .local _ .vmem, ⟨21, _⟩ => ⟨S1040x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_5 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_7 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  let c0_i32_1 : BitVec 32 := 0#32
  ![c0_i32.toNat, c0_i32_0.toNat, v0.toNat]

def cc0_transform_8 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c344_i32 : BitVec 32 := 344#32
  let v2 : BitVec 32 := Scalar.muli v1 c344_i32
  let c344_i32_0 : BitVec 32 := 344#32
  let v3 : BitVec 32 := Scalar.divsi v2 c344_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c344_i32_0 c0_i32_2
  let v10 : BitVec 32 := Scalar.extui v9
  let c0_i32_3 : BitVec 32 := 0#32
  let v11 : BitVec 1 := Scalar.cmpi .slt c344_i32_0 c0_i32_3
  let v12 : BitVec 32 := Scalar.extui v11
  let v13 : BitVec 32 := Scalar.subi v10 v12
  let v14 : BitVec 1 := Scalar.cmpi .ne v8 v13
  let v15 : BitVec 32 := Scalar.remsi v2 c344_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c0_i32_6 : BitVec 32 := 0#32
  let c0_i32_7 : BitVec 32 := 0#32
  ![c0_i32_5.toNat, v19.toNat, c0_i32_6.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c344_i32 : BitVec 32 := 344#32
  let v2 : BitVec 32 := Scalar.muli v1 c344_i32
  let c344_i32_0 : BitVec 32 := 344#32
  let v3 : BitVec 32 := Scalar.divsi v2 c344_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c344_i32_0 c0_i32_2
  let v10 : BitVec 32 := Scalar.extui v9
  let c0_i32_3 : BitVec 32 := 0#32
  let v11 : BitVec 1 := Scalar.cmpi .slt c344_i32_0 c0_i32_3
  let v12 : BitVec 32 := Scalar.extui v11
  let v13 : BitVec 32 := Scalar.subi v10 v12
  let v14 : BitVec 1 := Scalar.cmpi .ne v8 v13
  let v15 : BitVec 32 := Scalar.remsi v2 c344_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c0_i32_6 : BitVec 32 := 0#32
  ![v19.toNat, c0_i32_5.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x16x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x32x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference5Ideal.lean ====
abbrev S8192x4096 : Shape := ⟨2, ![8192, 4096]⟩
abbrev S8x16x4096 : Shape := ⟨3, ![8, 16, 4096]⟩
abbrev S2x4096x22016 : Shape := ⟨3, ![2, 4096, 22016]⟩
abbrev S2x3x22016 : Shape := ⟨3, ![2, 3, 22016]⟩
abbrev S2x22016 : Shape := ⟨2, ![2, 22016]⟩
abbrev S2x11008x4096 : Shape := ⟨3, ![2, 11008, 4096]⟩
abbrev S1x4096x22016 : Shape := ⟨3, ![1, 4096, 22016]⟩
abbrev S4096x22016 : Shape := ⟨2, ![4096, 22016]⟩
abbrev S8192x22016 : Shape := ⟨2, ![8192, 22016]⟩
abbrev S_ : Shape := ⟨0, ![]⟩
abbrev S8194x22016 : Shape := ⟨2, ![8194, 22016]⟩
abbrev S1x1x22016 : Shape := ⟨3, ![1, 1, 22016]⟩
abbrev S22016 : Shape := ⟨1, ![22016]⟩
abbrev S1x22016 : Shape := ⟨2, ![1, 22016]⟩
abbrev S8192x11008 : Shape := ⟨2, ![8192, 11008]⟩
abbrev S1x11008x4096 : Shape := ⟨3, ![1, 11008, 4096]⟩
abbrev S11008x4096 : Shape := ⟨2, ![11008, 4096]⟩

abbrev nBuf : Space → Nat
  | .hbm => 54
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8x16x4096, .bf16⟩
  | .hbm, ⟨2, _⟩ => ⟨S2x4096x22016, .f32⟩
  | .hbm, ⟨3, _⟩ => ⟨S2x3x22016, .f32⟩
  | .hbm, ⟨4, _⟩ => ⟨S2x22016, .f32⟩
  | .hbm, ⟨5, _⟩ => ⟨S2x11008x4096, .f32⟩
  | .hbm, ⟨6, _⟩ => ⟨S8192x4096, .f32⟩
  | .hbm, ⟨7, _⟩ => ⟨S1x4096x22016, .f32⟩
  | .hbm, ⟨8, _⟩ => ⟨S4096x22016, .f32⟩
  | .hbm, ⟨9, _⟩ => ⟨S8192x22016, .f32⟩
  | .hbm, ⟨10, _⟩ => ⟨S_, .i32⟩
  | .hbm, ⟨11, _⟩ => ⟨S_, .f32⟩
  | .hbm, ⟨12, _⟩ => ⟨S8194x22016, .f32⟩
  | .hbm, ⟨13, _⟩ => ⟨S8192x22016, .f32⟩
  | .hbm, ⟨14, _⟩ => ⟨S1x1x22016, .f32⟩
  | .hbm, ⟨15, _⟩ => ⟨S22016, .f32⟩
  | .hbm, ⟨16, _⟩ => ⟨S1x22016, .f32⟩
  | .hbm, ⟨17, _⟩ => ⟨S8192x22016, .f32⟩
  | .hbm, ⟨18, _⟩ => ⟨S8192x22016, .f32⟩
  | .hbm, ⟨19, _⟩ => ⟨S8192x22016, .f32⟩
  | .hbm, ⟨20, _⟩ => ⟨S1x1x22016, .f32⟩
  | .hbm, ⟨21, _⟩ => ⟨S22016, .f32⟩
  | .hbm, ⟨22, _⟩ => ⟨S1x22016, .f32⟩
  | .hbm, ⟨23, _⟩ => ⟨S8192x22016, .f32⟩
  | .hbm, ⟨24, _⟩ => ⟨S8192x22016, .f32⟩
  | .hbm, ⟨25, _⟩ => ⟨S8192x22016, .f32⟩
  | .hbm, ⟨26, _⟩ => ⟨S8192x22016, .f32⟩
  | .hbm, ⟨27, _⟩ => ⟨S1x1x22016, .f32⟩
  | .hbm, ⟨28, _⟩ => ⟨S22016, .f32⟩
  | .hbm, ⟨29, _⟩ => ⟨S1x22016, .f32⟩
  | .hbm, ⟨30, _⟩ => ⟨S8192x22016, .f32⟩
  | .hbm, ⟨31, _⟩ => ⟨S8192x22016, .f32⟩
  | .hbm, ⟨32, _⟩ => ⟨S8192x22016, .f32⟩
  | .hbm, ⟨33, _⟩ => ⟨S1x22016, .f32⟩
  | .hbm, ⟨34, _⟩ => ⟨S22016, .f32⟩
  | .hbm, ⟨35, _⟩ => ⟨S1x22016, .f32⟩
  | .hbm, ⟨36, _⟩ => ⟨S8192x22016, .f32⟩
  | .hbm, ⟨37, _⟩ => ⟨S8192x22016, .f32⟩
  | .hbm, ⟨38, _⟩ => ⟨S8192x11008, .f32⟩
  | .hbm, ⟨39, _⟩ => ⟨S8192x11008, .f32⟩
  | .hbm, ⟨40, _⟩ => ⟨S8192x11008, .f32⟩
  | .hbm, ⟨41, _⟩ => ⟨S8192x11008, .f32⟩
  | .hbm, ⟨42, _⟩ => ⟨S_, .f32⟩
  | .hbm, ⟨43, _⟩ => ⟨S8192x11008, .f32⟩
  | .hbm, ⟨44, _⟩ => ⟨S8192x11008, .f32⟩
  | .hbm, ⟨45, _⟩ => ⟨S_, .f32⟩
  | .hbm, ⟨46, _⟩ => ⟨S8192x11008, .f32⟩
  | .hbm, ⟨47, _⟩ => ⟨S8192x11008, .f32⟩
  | .hbm, ⟨48, _⟩ => ⟨S8192x11008, .f32⟩
  | .hbm, ⟨49, _⟩ => ⟨S8192x11008, .f32⟩
  | .hbm, ⟨50, _⟩ => ⟨S8192x11008, .bf16⟩
  | .hbm, ⟨51, _⟩ => ⟨S1x11008x4096, .f32⟩
  | .hbm, ⟨52, _⟩ => ⟨S11008x4096, .f32⟩
  | .hbm, ⟨53, _⟩ => ⟨S11008x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]
-- ==== Kernel6.lean ====
abbrev S8192x4096 : Shape := ⟨2, ![8192, 4096]⟩
abbrev S2x4096x8192 : Shape := ⟨3, ![2, 4096, 8192]⟩
abbrev S2x128 : Shape := ⟨2, ![2, 128]⟩
abbrev S2x4096x12288 : Shape := ⟨3, ![2, 4096, 12288]⟩
abbrev S2x1024x4096 : Shape := ⟨3, ![2, 1024, 4096]⟩
abbrev S2x2048x4096 : Shape := ⟨3, ![2, 2048, 4096]⟩
abbrev S2x4096x4096 : Shape := ⟨3, ![2, 4096, 4096]⟩
abbrev S_ : Shape := ⟨0, ![]⟩
abbrev S1024 : Shape := ⟨1, ![1024]⟩
abbrev S3072 : Shape := ⟨1, ![3072]⟩
abbrev S1x128 : Shape := ⟨2, ![1, 128]⟩
abbrev S128 : Shape := ⟨1, ![128]⟩
abbrev S16x128 : Shape := ⟨2, ![16, 128]⟩
abbrev S2048 : Shape := ⟨1, ![2048]⟩
abbrev S8192 : Shape := ⟨1, ![8192]⟩
abbrev S16x1x512 : Shape := ⟨3, ![16, 1, 512]⟩
abbrev S8192x8192 : Shape := ⟨2, ![8192, 8192]⟩
abbrev S4096x12288 : Shape := ⟨2, ![4096, 12288]⟩
abbrev S1024x4096 : Shape := ⟨2, ![1024, 4096]⟩
abbrev S2048x4096 : Shape := ⟨2, ![2048, 4096]⟩
abbrev S4096x4096 : Shape := ⟨2, ![4096, 4096]⟩
abbrev S1x4096x512 : Shape := ⟨3, ![1, 4096, 512]⟩
abbrev S1x1x512 : Shape := ⟨3, ![1, 1, 512]⟩
abbrev S1x32x12288 : Shape := ⟨3, ![1, 32, 12288]⟩
abbrev S1x16x4096 : Shape := ⟨3, ![1, 16, 4096]⟩
abbrev S1x32x4096 : Shape := ⟨3, ![1, 32, 4096]⟩
abbrev S1024x512 : Shape := ⟨2, ![1024, 512]⟩
abbrev S32x12288 : Shape := ⟨2, ![32, 12288]⟩
abbrev S16x4096 : Shape := ⟨2, ![16, 4096]⟩
abbrev S32x4096 : Shape := ⟨2, ![32, 4096]⟩
abbrev S4096x512 : Shape := ⟨2, ![4096, 512]⟩
abbrev S256x128 : Shape := ⟨2, ![256, 128]⟩
abbrev S256 : Shape := ⟨1, ![256]⟩
abbrev S256x1 : Shape := ⟨2, ![256, 1]⟩
abbrev S1x1x128 : Shape := ⟨3, ![1, 1, 128]⟩

abbrev nBuf : Space → Nat
  | .hbm => 31
  | .vmem => 30
  | .smem => 0
  | _ => 0

abbrev bufTy : (tb : Table) → Fin (tcTables nBuf tb) → BufTy
  | .hbm, ⟨0, _⟩ => ⟨S8192x4096, .bf16⟩
  | .hbm, ⟨1, _⟩ => ⟨S2x4096x8192, .f32⟩
  | .hbm, ⟨2, _⟩ => ⟨S2x128, .f32⟩
  | .hbm, ⟨3, _⟩ => ⟨S2x128, .f32⟩
  | .hbm, ⟨4, _⟩ => ⟨S2x4096x12288, .f32⟩
  | .hbm, ⟨5, _⟩ => ⟨S2x1024x4096, .f32⟩
  | .hbm, ⟨6, _⟩ => ⟨S2x2048x4096, .f32⟩
  | .hbm, ⟨7, _⟩ => ⟨S2x1024x4096, .f32⟩
  | .hbm, ⟨8, _⟩ => ⟨S2x4096x4096, .f32⟩
  | .hbm, ⟨9, _⟩ => ⟨S_, .f32⟩
  | .hbm, ⟨10, _⟩ => ⟨S1024, .f32⟩
  | .hbm, ⟨11, _⟩ => ⟨S_, .f32⟩
  | .hbm, ⟨12, _⟩ => ⟨S3072, .f32⟩
  | .hbm, ⟨13, _⟩ => ⟨S1x128, .f32⟩
  | .hbm, ⟨14, _⟩ => ⟨S128, .f32⟩
  | .hbm, ⟨15, _⟩ => ⟨S1x128, .f32⟩
  | .hbm, ⟨16, _⟩ => ⟨S16x128, .f32⟩
  | .hbm, ⟨17, _⟩ => ⟨S2048, .f32⟩
  | .hbm, ⟨18, _⟩ => ⟨S1x128, .f32⟩
  | .hbm, ⟨19, _⟩ => ⟨S128, .f32⟩
  | .hbm, ⟨20, _⟩ => ⟨S1x128, .f32⟩
  | .hbm, ⟨21, _⟩ => ⟨S16x128, .f32⟩
  | .hbm, ⟨22, _⟩ => ⟨S2048, .f32⟩
  | .hbm, ⟨23, _⟩ => ⟨S8192, .f32⟩
  | .hbm, ⟨24, _⟩ => ⟨S16x1x512, .f32⟩
  | .hbm, ⟨25, _⟩ => ⟨S8192x8192, .bf16⟩
  | .hbm, ⟨26, _⟩ => ⟨S4096x12288, .bf16⟩
  | .hbm, ⟨27, _⟩ => ⟨S1024x4096, .bf16⟩
  | .hbm, ⟨28, _⟩ => ⟨S2048x4096, .bf16⟩
  | .hbm, ⟨29, _⟩ => ⟨S1024x4096, .bf16⟩
  | .hbm, ⟨30, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x1x512, .f32⟩
  | .local _ .vmem, ⟨5, _⟩ => ⟨S1x1x512, .f32⟩
  | .local _ .vmem, ⟨6, _⟩ => ⟨S1x32x12288, .f32⟩
  | .local _ .vmem, ⟨7, _⟩ => ⟨S1x32x12288, .f32⟩
  | .local _ .vmem, ⟨8, _⟩ => ⟨S1x16x4096, .f32⟩
  | .local _ .vmem, ⟨9, _⟩ => ⟨S1x16x4096, .f32⟩
  | .local _ .vmem, ⟨10, _⟩ => ⟨S1x16x4096, .f32⟩
  | .local _ .vmem, ⟨11, _⟩ => ⟨S1x16x4096, .f32⟩
  | .local _ .vmem, ⟨12, _⟩ => ⟨S1x16x4096, .f32⟩
  | .local _ .vmem, ⟨13, _⟩ => ⟨S1x16x4096, .f32⟩
  | .local _ .vmem, ⟨14, _⟩ => ⟨S1x32x4096, .f32⟩
  | .local _ .vmem, ⟨15, _⟩ => ⟨S1x32x4096, .f32⟩
  | .local _ .vmem, ⟨16, _⟩ => ⟨S1024x512, .bf16⟩
  | .local _ .vmem, ⟨17, _⟩ => ⟨S1024x512, .bf16⟩
  | .local _ .vmem, ⟨18, _⟩ => ⟨S32x12288, .bf16⟩
  | .local _ .vmem, ⟨19, _⟩ => ⟨S32x12288, .bf16⟩
  | .local _ .vmem, ⟨20, _⟩ => ⟨S16x4096, .bf16⟩
  | .local _ .vmem, ⟨21, _⟩ => ⟨S16x4096, .bf16⟩
  | .local _ .vmem, ⟨22, _⟩ => ⟨S16x4096, .bf16⟩
  | .local _ .vmem, ⟨23, _⟩ => ⟨S16x4096, .bf16⟩
  | .local _ .vmem, ⟨24, _⟩ => ⟨S16x4096, .bf16⟩
  | .local _ .vmem, ⟨25, _⟩ => ⟨S16x4096, .bf16⟩
  | .local _ .vmem, ⟨26, _⟩ => ⟨S32x4096, .bf16⟩
  | .local _ .vmem, ⟨27, _⟩ => ⟨S32x4096, .bf16⟩
  | .local _ .vmem, ⟨28, _⟩ => ⟨S1024x512, .f32⟩
  | .local _ .vmem, ⟨29, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v14_3 : Ref sig .tc := ⟨.hbm, 28, rfl⟩
abbrev main_v14_4 : Ref sig .tc := ⟨.hbm, 29, rfl⟩
abbrev main_v14_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 17], ![false, false]⟩

def k0_cond2 (i : grid0.Coords) : BitVec 1 :=
  let arg1 : BitVec 32 := BitVec.ofNat 32 (i 1).val
  let c0_i32_26 : BitVec 32 := 0#32
  let v27 : BitVec 1 := Scalar.cmpi .sgt arg1 c0_i32_26
  let c16_i32 : BitVec 32 := 16#32
  let v28 : BitVec 1 := Scalar.cmpi .slt arg1 c16_i32
  let v29 : BitVec 1 := Scalar.andi v27 v28
  let c2_i32_24 : BitVec 32 := 2#32
  let v25 : BitVec 32 := Scalar.remsi arg1 c2_i32_24
  let c1_i32_25 : BitVec 32 := 1#32
  let v26 : BitVec 1 := Scalar.cmpi .eq v25 c1_i32_25
  let v33 : BitVec 1 := Scalar.andi v29 v26
  let v34 : BitVec 32 := Scalar.extui v33
  let c0_i32_29 : BitVec 32 := 0#32
  let v35 : BitVec 1 := Scalar.cmpi .ne v34 c0_i32_29
  v35

def k0_cond3 (i : grid0.Coords) : BitVec 1 :=
  let arg1 : BitVec 32 := BitVec.ofNat 32 (i 1).val
  let c0_i32_26 : BitVec 32 := 0#32
  let v27 : BitVec 1 := Scalar.cmpi .sgt arg1 c0_i32_26
  let c16_i32 : BitVec 32 := 16#32
  let v28 : BitVec 1 := Scalar.cmpi .slt arg1 c16_i32
  let v29 : BitVec 1 := Scalar.andi v27 v28
  let c2_i32_24 : BitVec 32 := 2#32
  let v25 : BitVec 32 := Scalar.remsi arg1 c2_i32_24
  let c1_i32_25 : BitVec 32 := 1#32
  let v26 : BitVec 1 := Scalar.cmpi .eq v25 c1_i32_25
  let v_true : BitVec 1 := 1#1
  let v36 : BitVec 1 := Scalar.xori v26 v_true
  let v37 : BitVec 1 := Scalar.andi v29 v36
  let v38 : BitVec 32 := Scalar.extui v37
  let c0_i32_30 : BitVec 32 := 0#32
  let v39 : BitVec 1 := Scalar.cmpi .ne v38 c0_i32_30
  v39

def k0_cond4 (i : grid0.Coords) : BitVec 1 :=
  let arg1 : BitVec 32 := BitVec.ofNat 32 (i 1).val
  let c16_i32_31 : BitVec 32 := 16#32
  let v40 : BitVec 1 := Scalar.cmpi .eq arg1 c16_i32_31
  let c2_i32_24 : BitVec 32 := 2#32
  let v25 : BitVec 32 := Scalar.remsi arg1 c2_i32_24
  let c1_i32_25 : BitVec 32 := 1#32
  let v26 : BitVec 1 := Scalar.cmpi .eq v25 c1_i32_25
  let v41 : BitVec 1 := Scalar.andi v40 v26
  let v42 : BitVec 32 := Scalar.extui v41
  let c0_i32_32 : BitVec 32 := 0#32
  let v43 : BitVec 1 := Scalar.cmpi .ne v42 c0_i32_32
  v43

def k0_cond5 (i : grid0.Coords) : BitVec 1 :=
  let arg1 : BitVec 32 := BitVec.ofNat 32 (i 1).val
  let c16_i32_33 : BitVec 32 := 16#32
  let v44 : BitVec 1 := Scalar.cmpi .eq arg1 c16_i32_33
  let c2_i32_24 : BitVec 32 := 2#32
  let v25 : BitVec 32 := Scalar.remsi arg1 c2_i32_24
  let c1_i32_25 : BitVec 32 := 1#32
  let v26 : BitVec 1 := Scalar.cmpi .eq v25 c1_i32_25
  let true_34 : BitVec 1 := 1#1
  let v45 : BitVec 1 := Scalar.xori v26 true_34
  let v46 : BitVec 1 := Scalar.andi v44 v45
  let v47 : BitVec 32 := Scalar.extui v46
  let c0_i32_35 : BitVec 32 := 0#32
  let v48 : BitVec 1 := Scalar.cmpi .ne v47 c0_i32_35
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![c0_i32_0.toNat, c0_i32_1.toNat, v1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  let c0_i32_3 : BitVec 32 := 0#32
  ![v2.toNat, c0_i32_1.toNat, c0_i32_2.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c128_i32 : BitVec 32 := 128#32
  let v3 : BitVec 32 := Scalar.muli v2 c128_i32
  let c128_i32_0 : BitVec 32 := 128#32
  let v4 : BitVec 32 := Scalar.divsi v3 c128_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c128_i32_0 c0_i32_2
  let v11 : BitVec 32 := Scalar.extui v10
  let c0_i32_3 : BitVec 32 := 0#32
  let v12 : BitVec 1 := Scalar.cmpi .slt c128_i32_0 c0_i32_3
  let v13 : BitVec 32 := Scalar.extui v12
  let v14 : BitVec 32 := Scalar.subi v11 v13
  let v15 : BitVec 1 := Scalar.cmpi .ne v9 v14
  let v16 : BitVec 32 := Scalar.remsi v3 c128_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  let c0_i32_7 : BitVec 32 := 0#32
  ![c0_i32_5.toNat, v20.toNat, c0_i32_6.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c64_i32 : BitVec 32 := 64#32
  let v3 : BitVec 32 := Scalar.muli v2 c64_i32
  let c128_i32 : BitVec 32 := 128#32
  let v4 : BitVec 32 := Scalar.divsi v3 c128_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c128_i32 c0_i32_1
  let v11 : BitVec 32 := Scalar.extui v10
  let c0_i32_2 : BitVec 32 := 0#32
  let v12 : BitVec 1 := Scalar.cmpi .slt c128_i32 c0_i32_2
  let v13 : BitVec 32 := Scalar.extui v12
  let v14 : BitVec 32 := Scalar.subi v11 v13
  let v15 : BitVec 1 := Scalar.cmpi .ne v9 v14
  let v16 : BitVec 32 := Scalar.remsi v3 c128_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c0_i32_4 : BitVec 32 := 0#32
  let c0_i32_5 : BitVec 32 := 0#32
  let c0_i32_6 : BitVec 32 := 0#32
  ![c0_i32_4.toNat, v20.toNat, c0_i32_5.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c128_i32 : BitVec 32 := 128#32
  let v3 : BitVec 32 := Scalar.muli v2 c128_i32
  let c128_i32_0 : BitVec 32 := 128#32
  let v4 : BitVec 32 := Scalar.divsi v3 c128_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c128_i32_0 c0_i32_2
  let v11 : BitVec 32 := Scalar.extui v10
  let c0_i32_3 : BitVec 32 := 0#32
  let v12 : BitVec 1 := Scalar.cmpi .slt c128_i32_0 c0_i32_3
  let v13 : BitVec 32 := Scalar.extui v12
  let v14 : BitVec 32 := Scalar.subi v11 v13
  let v15 : BitVec 1 := Scalar.cmpi .ne v9 v14
  let v16 : BitVec 32 := Scalar.remsi v3 c128_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  let c0_i32_7 : BitVec 32 := 0#32
  ![c0_i32_5.toNat, v20.toNat, c0_i32_6.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c64_i32 : BitVec 32 := 64#32
  let v3 : BitVec 32 := Scalar.muli v2 c64_i32
  let c128_i32 : BitVec 32 := 128#32
  let v4 : BitVec 32 := Scalar.divsi v3 c128_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c128_i32 c0_i32_1
  let v11 : BitVec 32 := Scalar.extui v10
  let c0_i32_2 : BitVec 32 := 0#32
  let v12 : BitVec 1 := Scalar.cmpi .slt c128_i32 c0_i32_2
  let v13 : BitVec 32 := Scalar.extui v12
  let v14 : BitVec 32 := Scalar.subi v11 v13
  let v15 : BitVec 1 := Scalar.cmpi .ne v9 v14
  let v16 : BitVec 32 := Scalar.remsi v3 c128_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c0_i32_4 : BitVec 32 := 0#32
  let c0_i32_5 : BitVec 32 := 0#32
  let c0_i32_6 : BitVec 32 := 0#32
  ![c0_i32_4.toNat, v20.toNat, c0_i32_5.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c128_i32 : BitVec 32 := 128#32
  let v3 : BitVec 32 := Scalar.muli v2 c128_i32
  let c128_i32_0 : BitVec 32 := 128#32
  let v4 : BitVec 32 := Scalar.divsi v3 c128_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c128_i32_0 c0_i32_2
  let v11 : BitVec 32 := Scalar.extui v10
  let c0_i32_3 : BitVec 32 := 0#32
  let v12 : BitVec 1 := Scalar.cmpi .slt c128_i32_0 c0_i32_3
  let v13 : BitVec 32 := Scalar.extui v12
  let v14 : BitVec 32 := Scalar.subi v11 v13
  let v15 : BitVec 1 := Scalar.cmpi .ne v9 v14
  let v16 : BitVec 32 := Scalar.remsi v3 c128_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  let c0_i32_7 : BitVec 32 := 0#32
  ![c0_i32_5.toNat, v20.toNat, c0_i32_6.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![arg0.toNat, v1.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c128_i32 : BitVec 32 := 128#32
  let v3 : BitVec 32 := Scalar.muli v2 c128_i32
  let c128_i32_0 : BitVec 32 := 128#32
  let v4 : BitVec 32 := Scalar.divsi v3 c128_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c128_i32_0 c0_i32_2
  let v11 : BitVec 32 := Scalar.extui v10
  let c0_i32_3 : BitVec 32 := 0#32
  let v12 : BitVec 1 := Scalar.cmpi .slt c128_i32_0 c0_i32_3
  let v13 : BitVec 32 := Scalar.extui v12
  let v14 : BitVec 32 := Scalar.subi v11 v13
  let v15 : BitVec 1 := Scalar.cmpi .ne v9 v14
  let v16 : BitVec 32 := Scalar.remsi v3 c128_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  ![v20.toNat, c0_i32_5.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c64_i32 : BitVec 32 := 64#32
  let v3 : BitVec 32 := Scalar.muli v2 c64_i32
  let c128_i32 : BitVec 32 := 128#32
  let v4 : BitVec 32 := Scalar.divsi v3 c128_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c128_i32 c0_i32_1
  let v11 : BitVec 32 := Scalar.extui v10
  let c0_i32_2 : BitVec 32 := 0#32
  let v12 : BitVec 1 := Scalar.cmpi .slt c128_i32 c0_i32_2
  let v13 : BitVec 32 := Scalar.extui v12
  let v14 : BitVec 32 := Scalar.subi v11 v13
  let v15 : BitVec 1 := Scalar.cmpi .ne v9 v14
  let v16 : BitVec 32 := Scalar.remsi v3 c128_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c0_i32_4 : BitVec 32 := 0#32
  let c0_i32_5 : BitVec 32 := 0#32
  ![v20.toNat, c0_i32_4.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c128_i32 : BitVec 32 := 128#32
  let v3 : BitVec 32 := Scalar.muli v2 c128_i32
  let c128_i32_0 : BitVec 32 := 128#32
  let v4 : BitVec 32 := Scalar.divsi v3 c128_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c128_i32_0 c0_i32_2
  let v11 : BitVec 32 := Scalar.extui v10
  let c0_i32_3 : BitVec 32 := 0#32
  let v12 : BitVec 1 := Scalar.cmpi .slt c128_i32_0 c0_i32_3
  let v13 : BitVec 32 := Scalar.extui v12
  let v14 : BitVec 32 := Scalar.subi v11 v13
  let v15 : BitVec 1 := Scalar.cmpi .ne v9 v14
  let v16 : BitVec 32 := Scalar.remsi v3 c128_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  ![v20.toNat, c0_i32_5.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c64_i32 : BitVec 32 := 64#32
  let v3 : BitVec 32 := Scalar.muli v2 c64_i32
  let c128_i32 : BitVec 32 := 128#32
  let v4 : BitVec 32 := Scalar.divsi v3 c128_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c128_i32 c0_i32_1
  let v11 : BitVec 32 := Scalar.extui v10
  let c0_i32_2 : BitVec 32 := 0#32
  let v12 : BitVec 1 := Scalar.cmpi .slt c128_i32 c0_i32_2
  let v13 : BitVec 32 := Scalar.extui v12
  let v14 : BitVec 32 := Scalar.subi v11 v13
  let v15 : BitVec 1 := Scalar.cmpi .ne v9 v14
  let v16 : BitVec 32 := Scalar.remsi v3 c128_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c0_i32_4 : BitVec 32 := 0#32
  let c0_i32_5 : BitVec 32 := 0#32
  ![v20.toNat, c0_i32_4.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c128_i32 : BitVec 32 := 128#32
  let v3 : BitVec 32 := Scalar.muli v2 c128_i32
  let c128_i32_0 : BitVec 32 := 128#32
  let v4 : BitVec 32 := Scalar.divsi v3 c128_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c128_i32_0 c0_i32_2
  let v11 : BitVec 32 := Scalar.extui v10
  let c0_i32_3 : BitVec 32 := 0#32
  let v12 : BitVec 1 := Scalar.cmpi .slt c128_i32_0 c0_i32_3
  let v13 : BitVec 32 := Scalar.extui v12
  let v14 : BitVec 32 := Scalar.subi v11 v13
  let v15 : BitVec 1 := Scalar.cmpi .ne v9 v14
  let v16 : BitVec 32 := Scalar.remsi v3 c128_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  ![v20.toNat, c0_i32_5.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x32x12288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x12288 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference6Ideal.lean ====
abbrev S8192x4096 : Shape := ⟨2, ![8192, 4096]⟩
abbrev S2x4096x8192 : Shape := ⟨3, ![2, 4096, 8192]⟩
abbrev S2x128 : Shape := ⟨2, ![2, 128]⟩
abbrev S2x4096x12288 : Shape := ⟨3, ![2, 4096, 12288]⟩
abbrev S2x1024x4096 : Shape := ⟨3, ![2, 1024, 4096]⟩
abbrev S2x2048x4096 : Shape := ⟨3, ![2, 2048, 4096]⟩
abbrev S2x4096x4096 : Shape := ⟨3, ![2, 4096, 4096]⟩
abbrev S1x4096x8192 : Shape := ⟨3, ![1, 4096, 8192]⟩
abbrev S4096x8192 : Shape := ⟨2, ![4096, 8192]⟩
abbrev S8192x8192 : Shape := ⟨2, ![8192, 8192]⟩
abbrev S8192x1024 : Shape := ⟨2, ![8192, 1024]⟩
abbrev S8192x2048 : Shape := ⟨2, ![8192, 2048]⟩
abbrev S8192x16x128 : Shape := ⟨3, ![8192, 16, 128]⟩
abbrev S1x128 : Shape := ⟨2, ![1, 128]⟩
abbrev S128 : Shape := ⟨1, ![128]⟩
abbrev S_ : Shape := ⟨0, ![]⟩
abbrev S8192x16 : Shape := ⟨2, ![8192, 16]⟩
abbrev S8192x16x1 : Shape := ⟨3, ![8192, 16, 1]⟩
abbrev S1x1x128 : Shape := ⟨3, ![1, 1, 128]⟩
abbrev S1x4096x12288 : Shape := ⟨3, ![1, 4096, 12288]⟩
abbrev S4096x12288 : Shape := ⟨2, ![4096, 12288]⟩
abbrev S1x1024x4096 : Shape := ⟨3, ![1, 1024, 4096]⟩
abbrev S1024x4096 : Shape := ⟨2, ![1024, 4096]⟩
abbrev S1x2048x4096 : Shape := ⟨3, ![1, 2048, 4096]⟩
abbrev S2048x4096 : Shape := ⟨2, ![2048, 4096]⟩
abbrev S1x4096x4096 : Shape := ⟨3, ![1, 4096, 4096]⟩
abbrev S4096x4096 : Shape := ⟨2, ![4096, 4096]⟩

abbrev nBuf : Space → Nat
  | .hbm => 75
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x8192, .f32⟩
  | .hbm, ⟨2, _⟩ => ⟨S2x128, .f32⟩
  | .hbm, ⟨3, _⟩ => ⟨S2x128, .f32⟩
  | .hbm, ⟨4, _⟩ => ⟨S2x4096x12288, .f32⟩
  | .hbm, ⟨5, _⟩ => ⟨S2x1024x4096, .f32⟩
  | .hbm, ⟨6, _⟩ => ⟨S2x2048x4096, .f32⟩
  | .hbm, ⟨7, _⟩ => ⟨S2x1024x4096, .f32⟩
  | .hbm, ⟨8, _⟩ => ⟨S2x4096x4096, .f32⟩
  | .hbm, ⟨9, _⟩ => ⟨S8192x4096, .f32⟩
  | .hbm, ⟨10, _⟩ => ⟨S1x4096x8192, .f32⟩
  | .hbm, ⟨11, _⟩ => ⟨S4096x8192, .f32⟩
  | .hbm, ⟨12, _⟩ => ⟨S8192x8192, .f32⟩
  | .hbm, ⟨13, _⟩ => ⟨S8192x1024, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x1024, .f32⟩
  | .hbm, ⟨18, _⟩ => ⟨S8192x16x128, .f32⟩
  | .hbm, ⟨19, _⟩ => ⟨S1x128, .f32⟩
  | .hbm, ⟨20, _⟩ => ⟨S128, .f32⟩
  | .hbm, ⟨21, _⟩ => ⟨S8192x16x128, .f32⟩
  | .hbm, ⟨22, _⟩ => ⟨S_, .f32⟩
  | .hbm, ⟨23, _⟩ => ⟨S8192x16, .f32⟩
  | .hbm, ⟨24, _⟩ => ⟨S8192x16x1, .f32⟩
  | .hbm, ⟨25, _⟩ => ⟨S_, .f32⟩
  | .hbm, ⟨26, _⟩ => ⟨S8192x16x1, .f32⟩
  | .hbm, ⟨27, _⟩ => ⟨S8192x16x1, .f32⟩
  | .hbm, ⟨28, _⟩ => ⟨S_, .f32⟩
  | .hbm, ⟨29, _⟩ => ⟨S8192x16x1, .f32⟩
  | .hbm, ⟨30, _⟩ => ⟨S8192x16x1, .f32⟩
  | .hbm, ⟨31, _⟩ => ⟨S8192x16x1, .f32⟩
  | .hbm, ⟨32, _⟩ => ⟨S8192x16x128, .f32⟩
  | .hbm, ⟨33, _⟩ => ⟨S8192x16x128, .f32⟩
  | .hbm, ⟨34, _⟩ => ⟨S1x1x128, .f32⟩
  | .hbm, ⟨35, _⟩ => ⟨S8192x16x128, .f32⟩
  | .hbm, ⟨36, _⟩ => ⟨S8192x16x128, .f32⟩
  | .hbm, ⟨37, _⟩ => ⟨S8192x2048, .f32⟩
  | .hbm, ⟨38, _⟩ => ⟨S8192x16x128, .f32⟩
  | .hbm, ⟨39, _⟩ => ⟨S1x128, .f32⟩
  | .hbm, ⟨40, _⟩ => ⟨S128, .f32⟩
  | .hbm, ⟨41, _⟩ => ⟨S8192x16x128, .f32⟩
  | .hbm, ⟨42, _⟩ => ⟨S_, .f32⟩
  | .hbm, ⟨43, _⟩ => ⟨S8192x16, .f32⟩
  | .hbm, ⟨44, _⟩ => ⟨S8192x16x1, .f32⟩
  | .hbm, ⟨45, _⟩ => ⟨S_, .f32⟩
  | .hbm, ⟨46, _⟩ => ⟨S8192x16x1, .f32⟩
  | .hbm, ⟨47, _⟩ => ⟨S8192x16x1, .f32⟩
  | .hbm, ⟨48, _⟩ => ⟨S_, .f32⟩
  | .hbm, ⟨49, _⟩ => ⟨S8192x16x1, .f32⟩
  | .hbm, ⟨50, _⟩ => ⟨S8192x16x1, .f32⟩
  | .hbm, ⟨51, _⟩ => ⟨S8192x16x1, .f32⟩
  | .hbm, ⟨52, _⟩ => ⟨S8192x16x128, .f32⟩
  | .hbm, ⟨53, _⟩ => ⟨S8192x16x128, .f32⟩
  | .hbm, ⟨54, _⟩ => ⟨S1x1x128, .f32⟩
  | .hbm, ⟨55, _⟩ => ⟨S8192x16x128, .f32⟩
  | .hbm, ⟨56, _⟩ => ⟨S8192x16x128, .f32⟩
  | .hbm, ⟨57, _⟩ => ⟨S8192x2048, .f32⟩
  | .hbm, ⟨58, _⟩ => ⟨S8192x8192, .f32⟩
  | .hbm, ⟨59, _⟩ => ⟨S8192x8192, .bf16⟩
  | .hbm, ⟨60, _⟩ => ⟨S1x4096x12288, .f32⟩
  | .hbm, ⟨61, _⟩ => ⟨S4096x12288, .f32⟩
  | .hbm, ⟨62, _⟩ => ⟨S4096x12288, .bf16⟩
  | .hbm, ⟨63, _⟩ => ⟨S1x1024x4096, .f32⟩
  | .hbm, ⟨64, _⟩ => ⟨S1024x4096, .f32⟩
  | .hbm, ⟨65, _⟩ => ⟨S1024x4096, .bf16⟩
  | .hbm, ⟨66, _⟩ => ⟨S1x2048x4096, .f32⟩
  | .hbm, ⟨67, _⟩ => ⟨S2048x4096, .f32⟩
  | .hbm, ⟨68, _⟩ => ⟨S2048x4096, .bf16⟩
  | .hbm, ⟨69, _⟩ => ⟨S1x1024x4096, .f32⟩
  | .hbm, ⟨70, _⟩ => ⟨S1024x4096, .f32⟩
  | .hbm, ⟨71, _⟩ => ⟨S1024x4096, .bf16⟩
  | .hbm, ⟨72, _⟩ => ⟨S1x4096x4096, .f32⟩
  | .hbm, ⟨73, _⟩ => ⟨S4096x4096, .f32⟩
  | .hbm, ⟨74, _⟩ => ⟨S4096x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩

abbrev nD : Nat := 1
abbrev τ : Topo := Topo.v7x

variable {F : FTy → Type} [FloatOps F]
-- ==== Proof.Att.Softmax.lean ====
/- The softmax identity behind the attention: dropping the masked keys and dividing at the end. -/
module

public import Idealize.ShloMosaic.PureOps.Ideal
public import Idealize.ShloMosaic.Lib.Pointwise

@[expose] public section

namespace Cert.Proof.Softmax

open Idealize.ShloMosaic

/-- The greatest of finitely many scores, `⊥` for none: how a maximum reduction from `−∞` reads. -/
noncomputable abbrev top {I : Type*} [Fintype I] (S : I → EReal) : EReal := Finset.univ.fold max ⊥ S

theorem top_eq_sup {I : Type*} [Fintype I] (S : I → EReal) : top S = Finset.univ.sup S := rfl

/-- The greatest of finitely many reals, at least one, is real. -/
theorem top_real {J : Type*} [Fintype J] [Nonempty J] (x : J → ℝ) : ∃ m : ℝ, top (fun j => (x j : EReal)) = m ∧ ∀ j, x j ≤ m := by
  rw [top_eq_sup]
  obtain ⟨j, -, hj⟩ := Finset.exists_mem_eq_sup Finset.univ Finset.univ_nonempty (fun j => (x j : EReal))
  refine ⟨x j, hj, fun k => ?_⟩
  have := Finset.le_sup (f := fun j => (x j : EReal)) (Finset.mem_univ k)
  rw [hj] at this
  exact_mod_cast this

/-- Masked keys (score `⊥`) do not change the greatest score. -/
theorem top_masked {I J : Type*} [Fintype I] [Fintype J] (φ : J → I) (S : I → EReal)
    (hout : ∀ i, (∀ j, φ j ≠ i) → S i = ⊥) : top S = top (fun j => S (φ j)) := by
  rw [top_eq_sup, top_eq_sup]
  refine le_antisymm (Finset.sup_le fun i _ => ?_) (Finset.sup_le fun j _ => Finset.le_sup (Finset.mem_univ _))
  by_cases h : ∃ j, φ j = i
  · obtain ⟨j, rfl⟩ := h
    exact Finset.le_sup (f := fun j => S (φ j)) (Finset.mem_univ j)
  · rw [hout i (by simpa using h)]; exact bot_le

/-- A sum over all keys whose terms vanish off the image of `φ` is the sum along `φ`. -/
theorem sum_masked {I J : Type*} [Fintype I] [Fintype J] (φ : J → I) (hφ : Function.Injective φ) (f : I → EReal)
    (hout : ∀ i, (∀ j, φ j ≠ i) → f i = 0) : ∑ i, f i = ∑ j, f (φ j) := by
  classical
  rw [← Finset.sum_image (s := Finset.univ) (g := φ) (f := f) (fun a _ b _ h => hφ h)]
  refine (Finset.sum_subset (Finset.subset_univ _) fun i _ hi => hout i fun j hj => hi ?_).symm
  exact Finset.mem_image.2 ⟨j, Finset.mem_univ _, hj⟩

/-- A nonnegative real factor goes into a sum of extended reals. -/
theorem sum_mul_coe {J : Type*} (s : Finset J) (f : J → EReal) (c : ℝ) (hc : 0 ≤ c) :
    (∑ j ∈ s, f j) * (c : EReal) = ∑ j ∈ s, f j * c := by
  classical
  induction s using Finset.induction_on with
  | empty => simp
  | insert a s ha ih =>
    rw [Finset.sum_insert ha, Finset.sum_insert ha, EReal.right_distrib_of_nonneg_of_ne_top
      (EReal.coe_nonneg.2 hc) (EReal.coe_ne_top c), ih]

/-- The softmax weights of the scores `S` divided at the end, applied to `V`. -/
noncomputable abbrev late {I : Type*} [Fintype I] (S V : I → EReal) : EReal :=
  Ideal.div (∑ i, Ideal.exp (S i - top S) * V i) (∑ i, Ideal.exp (S i - top S))

/-- The softmax weights of the scores `x` divided one by one, applied to `W`. -/
noncomputable abbrev early {J : Type*} [Fintype J] (x W : J → EReal) : EReal :=
  ∑ j, Ideal.div (Ideal.exp (x j - top x)) (∑ k, Ideal.exp (x k - top x)) * W j

/-- Attention over all keys, the masked ones at score `⊥`, with one division at the end, is attention over the keys
    that are not masked (at least one, their scores real), each weight divided. The values may be anything. -/
theorem late_eq_early {I J : Type*} [Fintype I] [Fintype J] [Nonempty J] (φ : J → I) (hφ : Function.Injective φ)
    (S V : I → EReal) (x W : J → EReal) (hx : ∀ j, x j ≠ ⊥ ∧ x j ≠ ⊤) (hS : ∀ j, S (φ j) = x j)
    (hW : ∀ j, V (φ j) = W j) (hout : ∀ i, (∀ j, φ j ≠ i) → S i = ⊥) : late S V = early x W := by
  obtain ⟨r, hr⟩ : ∃ r : J → ℝ, ∀ j, x j = r j :=
    ⟨fun j => (x j).toReal, fun j => (EReal.coe_toReal (hx j).2 (hx j).1).symm⟩
  obtain rfl : x = fun j => (r j : EReal) := funext hr
  obtain rfl : W = fun j => V (φ j) := funext fun j => (hW j).symm
  have ht : top S = top (fun j => (r j : EReal)) := by rw [top_masked φ S hout]; simp only [hS]
  obtain ⟨m, hm, hle⟩ := top_real r
  have hz : ∀ i, (∀ j, φ j ≠ i) → Ideal.exp (S i - (m : EReal)) = 0 := fun i hi => by
    rw [hout i hi, EReal.bot_sub]; rfl
  have he : ∀ j, Ideal.exp ((r j : EReal) - (m : EReal)) = (Real.exp (r j - m) : EReal) := fun j => by
    rw [← EReal.coe_sub, Ideal.exp_coe]
  unfold late early
  rw [ht, hm]
  rw [sum_masked φ hφ (fun i => Ideal.exp (S i - (m : EReal)) * V i) (fun i hi => by rw [hz i hi, zero_mul]),
    sum_masked φ hφ (fun i => Ideal.exp (S i - (m : EReal))) hz]
  simp only [hS, he]
  have hl : (∑ j, (Real.exp (r j - m) : EReal)) = ((∑ j, Real.exp (r j - m) : ℝ) : EReal) := by
    exact (map_sum (⟨⟨Real.toEReal, EReal.coe_zero⟩, EReal.coe_add⟩ : ℝ →+ EReal) _ _).symm
  rw [hl]
  have hpos : 0 < ∑ j, Real.exp (r j - m) := Finset.sum_pos (fun j _ => Real.exp_pos _) Finset.univ_nonempty
  rw [Ideal.div_coe hpos.ne', sum_mul_coe _ _ _ (by positivity)]
  refine Finset.sum_congr rfl fun j _ => ?_
  rw [Ideal.div_coe hpos.ne', mul_right_comm]

end Cert.Proof.Softmax

end
-- ==== Proof.Att.Head.lean ====
/- What one head of the kernel's body computes, read at an index. -/
module

public import proofs.«01_k».proof.Proof.Gen.KernelIdeal.Skeleton
public import proofs.«01_k».proof.Proof.Att.Softmax
public import Idealize.ShloMosaic.Lib.Pointwise

@[expose] public section

set_option maxRecDepth 16384

noncomputable section

namespace Cert.KernelIdeal.Att

open Cert.KernelIdeal Cert.KernelIdeal.Gen Idealize.ShloMosaic Idealize.ShloMosaic.TcCoe Idealize.SL.Sem

/-- The float word of `−∞` is `⊥`. -/
theorem ofBits_negInf : Ideal.ofBits .f32 0xFF800000#32 = ⊥ := by
  simp [Ideal.ofBits, Ideal.ieee]

/-- The staged keys (or values) of a head: the 768 of the grid rows, then the 256 of the context. -/
def stack (k : Vec Ideal S768x128 .bf16) (kc : Vec Ideal S256x128 .bf16) : FVec Ideal S1024x128 .bf16 :=
  concatenate S1024x128 0 [⟨S768x128, k⟩, ⟨S256x128, kc⟩] concatenates_S768x128_S256x128_S1024x128_d0

/-- The scaled products of the queries with the keys. -/
def prod (q : Vec Ideal S256x128 .bf16) (K : FVec Ideal S1024x128 .bf16) : FVec Ideal S256x1024 .f32 :=
  mulf (matmul (φ₁ := .bf16) (φ₂ := .bf16) dot_S256x128_S1024x128_S256x1024_1_1_0_0_n_n none q K (constant S256x1024 .f32 0x00000000#32))
    (broadcast S256x1024 (Scalar.ofBits .f32 0x3DB504F3#32))

/-- The scores: the bias added to the scaled products with the grid's keys. -/
def score (s : FVec Ideal S256x1024 .f32) (b : Vec Ideal S1x1x256x768 .f32) : FVec Ideal S256x1024 .f32 :=
  concatenate S256x1024 1 [⟨S256x768, addf (extractStridedSlice S256x768 ![0, 0] s slices_S256x1024_o0_0_S256x768)
      (shapeCast S256x768 b shapeCasts_S1x1x256x768_S256x768)⟩,
    ⟨S256x256, extractStridedSlice S256x256 ![0, 768] s slices_S256x1024_o0_768_S256x256⟩]
    concatenates_S256x768_S256x256_S256x1024_d1

/-- The weights before the division. -/
def weight (s : FVec Ideal S256x1024 .f32) : FVec Ideal S256x1024 .f32 :=
  exp (subf s (broadcastTo S256x1024 (shapeCast S256x1 (multiReduction .maximumf [1] S256 s 0xFF800000#32
    reduces_S256x1024_S256 (.inl rfl) rfl) shapeCasts_S256_S256x1) broadcasts_S256x1_S256x1024))

/-- The weighted sum of the values, divided by the sum of the weights. -/
def mix (p : FVec Ideal S256x1024 .f32) (V : FVec Ideal S1024x128 .bf16) : FVec Ideal S256x128 .bf16 :=
  truncf .bf16 (divf (matmul dot_S256x1024_S1024x128_S256x128_1_0_0_1_n_n none (truncf .bf16 p bitsLt_bf16_f32) V
      (constant S256x128 .f32 0x00000000#32))
    (broadcastTo S256x128 (shapeCast S256x1 (multiReduction .add [1] S256 p 0x00000000#32
      reduces_S256x1024_S256 (.inl rfl) rfl) shapeCasts_S256_S256x1) broadcasts_S256x1_S256x128)) bitsLt_bf16_f32

/-- What a head stores is those five in turn. -/
theorem pay1_eq (q : Vec Ideal S256x128 .bf16) (k : Vec Ideal S768x128 .bf16) (kc : Vec Ideal S256x128 .bf16)
    (v : Vec Ideal S768x128 .bf16) (vc : Vec Ideal S256x128 .bf16) (b : Vec Ideal S1x1x256x768 .f32) :
    k0_pay1 (F := Ideal) q k kc v vc b = mix (weight (score (prod q (stack k kc)) b)) (stack v vc) := rfl

theorem stack_apply (k : Vec Ideal S768x128 .bf16) (kc : Vec Ideal S256x128 .bf16) (i : Fin 1024) (d : Fin 128) :
    stack k kc (ix2 i d) = if h : i.val < 768 then k (ix2 ⟨i.val, h⟩ d) else kc (ix2 ⟨i.val - 768, by omega⟩ d) := by
  pointwise [stack]

theorem prod_apply (q : Vec Ideal S256x128 .bf16) (K : FVec Ideal S1024x128 .bf16) (r : Fin 256) (i : Fin 1024) :
    prod q K (ix2 r i) = (∑ d : Fin 128, (q (ix2 r d) : EReal) * K (ix2 i d)) * Ideal.ofBits .f32 0x3DB504F3#32 := by
  pointwise [prod]

theorem score_apply (s : FVec Ideal S256x1024 .f32) (b : Vec Ideal S1x1x256x768 .f32) (r : Fin 256) (i : Fin 1024) :
    score s b (ix2 r i) = if h : i.val < 768 then (s (ix2 r i) : EReal) + b (ix4 0 0 r ⟨i.val, h⟩) else s (ix2 r i) := by
  pointwise [score]
  by_cases h : i.val < 768
  · simp only [dif_pos h]
  · simp only [dif_neg h]
    congr 2
    exact Fin.ext (by simp only; omega)

theorem weight_apply (s : FVec Ideal S256x1024 .f32) (r : Fin 256) (i : Fin 1024) :
    weight s (ix2 r i) = Ideal.exp (s (ix2 r i) - Cert.Proof.Softmax.top fun l : Fin 1024 => s (ix2 r l)) := by
  pointwise [weight]
  rw [ofBits_negInf]

theorem mix_apply (p : FVec Ideal S256x1024 .f32) (V : FVec Ideal S1024x128 .bf16) (r : Fin 256) (d : Fin 128) :
    mix p V (ix2 r d) = Ideal.div (∑ i : Fin 1024, (p (ix2 r i) : EReal) * V (ix2 i d)) (∑ i : Fin 1024, (p (ix2 r i) : EReal)) := by
  pointwise [mix]

/-- The scores of a head's query row over its 1024 keys. -/
def rowScore (q : Vec Ideal S256x128 .bf16) (k : Vec Ideal S768x128 .bf16) (kc : Vec Ideal S256x128 .bf16)
    (b : Vec Ideal S1x1x256x768 .f32) (r : Fin 256) (i : Fin 1024) : EReal :=
  if h : i.val < 768 then
    (∑ d : Fin 128, (q (ix2 r d) : EReal) * k (ix2 ⟨i.val, h⟩ d)) * Ideal.ofBits .f32 0x3DB504F3#32 + b (ix4 0 0 r ⟨i.val, h⟩)
  else (∑ d : Fin 128, (q (ix2 r d) : EReal) * kc (ix2 ⟨i.val - 768, by omega⟩ d)) * Ideal.ofBits .f32 0x3DB504F3#32

/-- The values of a head, one column of its 1024 rows. -/
def colValue (v : Vec Ideal S768x128 .bf16) (vc : Vec Ideal S256x128 .bf16) (d : Fin 128) (i : Fin 1024) : EReal :=
  if h : i.val < 768 then v (ix2 ⟨i.val, h⟩ d) else vc (ix2 ⟨i.val - 768, by omega⟩ d)

/-- WHAT A HEAD STORES at query row `r`, column `d`: the softmax of its scores over the 1024 keys applied to the
    values, divided at the end. -/
theorem pay1_apply (q : Vec Ideal S256x128 .bf16) (k : Vec Ideal S768x128 .bf16) (kc : Vec Ideal S256x128 .bf16)
    (v : Vec Ideal S768x128 .bf16) (vc : Vec Ideal S256x128 .bf16) (b : Vec Ideal S1x1x256x768 .f32) (r : Fin 256) (d : Fin 128) :
    k0_pay1 (F := Ideal) q k kc v vc b (ix2 r d) = Cert.Proof.Softmax.late (rowScore q k kc b r) (colValue v vc d) := by
  have hs : ∀ i : Fin 1024, score (prod q (stack k kc)) b (ix2 r i) = rowScore q k kc b r i := fun i => by
    rw [score_apply, prod_apply, rowScore]
    by_cases h : i.val < 768
    · simp only [dif_pos h, stack_apply]
    · simp only [dif_neg h, stack_apply]
  have hv : ∀ i : Fin 1024, stack v vc (ix2 i d) = colValue v vc d i := fun i => by rw [stack_apply, colValue]
  rw [pay1_eq, mix_apply]
  simp only [weight_apply, hs, hv]

end Cert.KernelIdeal.Att

end
-- ==== Proof.Att.Out.lean ====
/- What the kernel's result array holds after the run, over the argument arrays and the bias table. -/
module

public import proofs.«01_k».proof.Proof.Gen.KernelIdeal.Value
public import proofs.«01_k».proof.Proof.Att.Head
public import Idealize.ShloMosaic.Lib.Pipeline.ValueKit

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Pipeline (Dat)
open Cert.Proof (Softmax.late)

/-- The first grid row whose keys block `b` of queries stages. -/
def firstRow (b : ℕ) : ℕ := min (4 * b - 4) 116

/-- Which of the three bias tables block `b` of queries reads. -/
def variant (b : ℕ) : ℕ := if b = 0 then 0 else if b = 31 then 2 else 1

theorem firstRow_le (b : ℕ) : firstRow b ≤ 116 := min_le_right _ _
theorem variant_lt (b : ℕ) : variant b < 3 := by unfold variant; split_ifs <;> omega

/-- The scores query `s` has in head `g` over the kernel's 1024 keys: 768 of twelve grid rows, then 256 of the context. -/
def score1024 (P : FVec Ideal S8192x8192 .bf16) (C : FVec Ideal S256x8192 .bf16) (B : FVec Ideal S3x32x256x768 .f32)
    (s : Fin 8192) (g : Fin 16) (i : Fin 1024) : EReal :=
  if h : i.val < 768 then
    (∑ d : Fin 128, (P (ix2 s ⟨1024 + g.val * 128 + d.val, by omega⟩) : EReal)
      * P (ix2 ⟨firstRow (s.val / 256) * 64 + i.val, by have := firstRow_le (s.val / 256); omega⟩ ⟨3072 + g.val * 128 + d.val, by omega⟩))
      * Ideal.ofBits .f32 0x3DB504F3#32
    + B (ix4 ⟨variant (s.val / 256), variant_lt _⟩ ⟨g.val, by omega⟩ ⟨s.val % 256, by omega⟩ ⟨i.val, h⟩)
  else
    (∑ d : Fin 128, (P (ix2 s ⟨1024 + g.val * 128 + d.val, by omega⟩) : EReal)
      * C (ix2 ⟨i.val - 768, by omega⟩ ⟨3072 + g.val * 128 + d.val, by omega⟩)) * Ideal.ofBits .f32 0x3DB504F3#32

/-- Column `e` of the values of the same 1024 keys. -/
def value1024 (P : FVec Ideal S8192x8192 .bf16) (C : FVec Ideal S256x8192 .bf16)
    (s : Fin 8192) (e : Fin 2048) (i : Fin 1024) : EReal :=
  if h : i.val < 768 then
    P (ix2 ⟨firstRow (s.val / 256) * 64 + i.val, by have := firstRow_le (s.val / 256); omega⟩ ⟨5120 + e.val, by omega⟩)
  else C (ix2 ⟨i.val - 768, by omega⟩ ⟨5120 + e.val, by omega⟩)

/-- What the kernel computes for query `s`, column `e`. -/
def out (P : FVec Ideal S8192x8192 .bf16) (C : FVec Ideal S256x8192 .bf16) (B : FVec Ideal S3x32x256x768 .f32) :
    FVec Ideal S8192x2048 .bf16 :=
  fun j => Cert.Proof.Softmax.late (score1024 P C B ⟨(j 0).val, (j 0).isLt⟩ ⟨(j 1).val / 128, by have : (j 1).val < 2048 := (j 1).isLt; omega⟩)
    (value1024 P C ⟨(j 0).val, (j 0).isLt⟩ ⟨(j 1).val, (j 1).isLt⟩)

/-- One head's store is `out` where the loaded blocks are the arrays' at the query `s`, column `e`. -/
theorem head_eq (P : FVec Ideal S8192x8192 .bf16) (C : FVec Ideal S256x8192 .bf16) (B : FVec Ideal S3x32x256x768 .f32)
    (q : Vec Ideal S256x128 .bf16) (k : Vec Ideal S768x128 .bf16) (kc : Vec Ideal S256x128 .bf16)
    (v : Vec Ideal S768x128 .bf16) (vc : Vec Ideal S256x128 .bf16) (b : Vec Ideal S1x1x256x768 .f32)
    (x : S256x128.Idx) (j : S8192x2048.Idx)
    (hx0 : (x 0).val = (j 0).val % 256) (hx1 : (x 1).val = (j 1).val % 128)
    (hq : ∀ (d : Fin 128) (i : S8192x8192.Idx), (i 0).val = (j 0).val → (i 1).val = 1024 + (j 1).val / 128 * 128 + d.val → q (ix2 (x 0) d) = P i)
    (hk : ∀ (l : Fin 768) (d : Fin 128) (i : S8192x8192.Idx), (i 0).val = firstRow ((j 0).val / 256) * 64 + l.val →
      (i 1).val = 3072 + (j 1).val / 128 * 128 + d.val → k (ix2 l d) = P i)
    (hkc : ∀ (l : Fin 256) (d : Fin 128) (i : S256x8192.Idx), (i 0).val = l.val →
      (i 1).val = 3072 + (j 1).val / 128 * 128 + d.val → kc (ix2 l d) = C i)
    (hv : ∀ (l : Fin 768) (i : S8192x8192.Idx), (i 0).val = firstRow ((j 0).val / 256) * 64 + l.val →
      (i 1).val = 5120 + (j 1).val → v (ix2 l (x 1)) = P i)
    (hvc : ∀ (l : Fin 256) (i : S256x8192.Idx), (i 0).val = l.val →
      (i 1).val = 5120 + (j 1).val → vc (ix2 l (x 1)) = C i)
    (hb : ∀ (l : Fin 768) (i : S3x32x256x768.Idx), (i 0).val = variant ((j 0).val / 256) → (i 1).val = (j 1).val / 128 →
      (i 2).val = (j 0).val % 256 → (i 3).val = l.val → b (ix4 0 0 (x 0) l) = B i) :
    k0_pay1 (F := Ideal) q k kc v vc b x = out P C B j := by
  have hs : rowScore q k kc b (x 0) = score1024 P C B ⟨(j 0).val, (j 0).isLt⟩ ⟨(j 1).val / 128, by have : (j 1).val < 2048 := (j 1).isLt; omega⟩ := by
    funext i
    unfold rowScore score1024
    by_cases h : i.val < 768
    · simp only [dif_pos h]
      refine congrArg₂ (· + ·) (congrArg (· * _) (Finset.sum_congr rfl fun d _ => ?_)) (hb ⟨i.val, h⟩ _ rfl rfl rfl rfl)
      exact congrArg₂ (· * ·) (hq d _ rfl rfl) (hk ⟨i.val, h⟩ d _ rfl rfl)
    · simp only [dif_neg h]
      refine congrArg (· * _) (Finset.sum_congr rfl fun d _ => ?_)
      exact congrArg₂ (· * ·) (hq d _ rfl rfl) (hkc ⟨i.val - 768, by omega⟩ d _ rfl rfl)
  have hw : colValue v vc (x 1) = value1024 P C ⟨(j 0).val, (j 0).isLt⟩ ⟨(j 1).val, (j 1).isLt⟩ := by
    funext i
    unfold colValue value1024
    by_cases h : i.val < 768
    · simp only [dif_pos h]
      exact hv ⟨i.val, h⟩ _ rfl rfl
    · simp only [dif_neg h]
      exact hvc ⟨i.val - 768, by omega⟩ _ rfl rfl
  refine (congrArg (k0_pay1 (F := Ideal) q k kc v vc b) (eq_ix2 x)).trans ?_
  refine (pay1_apply q k kc v vc b (x 0) (x 1)).trans ?_
  rw [show rowScore q k kc b (x 0) = _ from hs, show colValue v vc (x 1) = _ from hw, out]

/-- Every window's block, and where the staged keys begin, at every grid point. -/
theorem idx_val : ∀ t : Fin cfg0.N, win0_0.index t = ![t.val % 32, 1 + t.val / 32] ∧ win0_1.index t = ![0, 3 + t.val / 32]
    ∧ win0_2.index t = ![0, 5 + t.val / 32] ∧ win0_3.index t = ![0, 3 + t.val / 32] ∧ win0_4.index t = ![0, 5 + t.val / 32]
    ∧ win0_5.index t = ![variant (t.val % 32), t.val / 32, 0, 0] ∧ win0_6.index t = ![t.val % 32, t.val / 32] ∧ t.val / 32 < 2 :=
  (by decide +kernel : ∀ t : Fin grid0.N, _)

theorem off_val : ∀ t : Fin cfg0.N,
    k0_off1 (grid0.coords t) = ![firstRow (t.val % 32) * 64, 0] ∧ k0_off2 (grid0.coords t) = ![firstRow (t.val % 32) * 64, 128]
    ∧ k0_off3 (grid0.coords t) = ![firstRow (t.val % 32) * 64, 256] ∧ k0_off4 (grid0.coords t) = ![firstRow (t.val % 32) * 64, 384]
    ∧ k0_off5 (grid0.coords t) = ![firstRow (t.val % 32) * 64, 512] ∧ k0_off6 (grid0.coords t) = ![firstRow (t.val % 32) * 64, 640]
    ∧ k0_off7 (grid0.coords t) = ![firstRow (t.val % 32) * 64, 768] ∧ k0_off8 (grid0.coords t) = ![firstRow (t.val % 32) * 64, 896] :=
  (by decide +kernel : ∀ t : Fin grid0.N, _)

variable (m : (ℓ : Loc nD τ sig) → Buf (Elt Ideal) ℓ)

/-- A load of head `H / 128`'s queries. -/
theorem ld_q (c : Dev nD) (t : Fin cfg0.N) (H : ℕ) (inb) (r : Fin 256) (d : Fin 128) (i : S8192x8192.Idx)
    (h0 : (i 0).val = t.val % 32 * 256 + r.val) (h1 : (i 1).val = 1024 + t.val / 32 * 1024 + H + d.val) :
    View.ld (iblk m c 0 t) (Rect.unit (s := S256x1024) ![0, H] ![256, 128] inb) (ix2 r d) = m ((c : Thread nD τ).loc main_arg0) i := by
  pointwise; blk_ext [iblk, V, idx_val t]

/-- A load of head `H / 128`'s staged keys. -/
theorem ld_k (c : Dev nD) (t : Fin cfg0.N) (H : ℕ) (off : Fin 2 → ℕ) (ho : off = ![firstRow (t.val % 32) * 64, H]) (inb)
    (l : Fin 768) (d : Fin 128) (i : S8192x8192.Idx)
    (h0 : (i 0).val = firstRow (t.val % 32) * 64 + l.val) (h1 : (i 1).val = 3072 + t.val / 32 * 1024 + H + d.val) :
    View.ld (iblk m c 1 t) (Rect.unit (s := S8192x1024) off ![768, 128] inb) (ix2 l d) = m ((c : Thread nD τ).loc main_arg0) i := by
  subst ho
  pointwise; blk_ext [iblk, V, idx_val t]

/-- A load of head `H / 128`'s staged values. -/
theorem ld_v (c : Dev nD) (t : Fin cfg0.N) (H : ℕ) (off : Fin 2 → ℕ) (ho : off = ![firstRow (t.val % 32) * 64, H]) (inb)
    (l : Fin 768) (d : Fin 128) (i : S8192x8192.Idx)
    (h0 : (i 0).val = firstRow (t.val % 32) * 64 + l.val) (h1 : (i 1).val = 5120 + t.val / 32 * 1024 + H + d.val) :
    View.ld (iblk m c 2 t) (Rect.unit (s := S8192x1024) off ![768, 128] inb) (ix2 l d) = m ((c : Thread nD τ).loc main_arg0) i := by
  subst ho
  pointwise; blk_ext [iblk, V, idx_val t]

/-- A load of head `H / 128`'s context keys. -/
theorem ld_kc (c : Dev nD) (t : Fin cfg0.N) (H : ℕ) (inb) (l : Fin 256) (d : Fin 128) (i : S256x8192.Idx)
    (h0 : (i 0).val = l.val) (h1 : (i 1).val = 3072 + t.val / 32 * 1024 + H + d.val) :
    View.ld (iblk m c 3 t) (Rect.unit (s := S256x1024) ![0, H] ![256, 128] inb) (ix2 l d) = m ((c : Thread nD τ).loc main_arg1) i := by
  pointwise; blk_ext [iblk, V, idx_val t]

/-- A load of head `H / 128`'s context values. -/
theorem ld_vc (c : Dev nD) (t : Fin cfg0.N) (H : ℕ) (inb) (l : Fin 256) (d : Fin 128) (i : S256x8192.Idx)
    (h0 : (i 0).val = l.val) (h1 : (i 1).val = 5120 + t.val / 32 * 1024 + H + d.val) :
    View.ld (iblk m c 4 t) (Rect.unit (s := S256x1024) ![0, H] ![256, 128] inb) (ix2 l d) = m ((c : Thread nD τ).loc main_arg1) i := by
  pointwise; blk_ext [iblk, V, idx_val t]

/-- A load of head `n`'s bias. -/
theorem ld_b (c : Dev nD) (t : Fin cfg0.N) (n : ℕ) (inb) (r : Fin 256) (l : Fin 768) (i : S3x32x256x768.Idx)
    (h0 : (i 0).val = variant (t.val % 32)) (h1 : (i 1).val = t.val / 32 * 8 + n) (h2 : (i 2).val = r.val) (h3 : (i 3).val = l.val) :
    View.ld (iblk m c 5 t) (Rect.unit (s := S1x8x256x768) ![0, n, 0, 0] ![1, 1, 256, 768] inb) (ix4 0 0 r l) = V m c main_v215 i := by
  pointwise; blk_ext [iblk, idx_val t]

/-- THE RESULT ARRAY after the run is `out` of the argument arrays and the bias table. -/
theorem final (c : Dev nD) : (dats m 0 c).arrAt 6 (cfgs 0).N
    = out (m ((c : Thread nD τ).loc main_arg0)) (m ((c : Thread nD τ).loc main_arg1)) (V m c main_v215) := by
  refine (dats m 0 c).arrAt_eq_of_covers 6 _ (by decide +kernel) fun t _ y => ?_
  blk_simp
  rw [after0_6]; unfold outsAt0; frame_out
  obtain ⟨ht, hy0, hy1⟩ : t.val / 32 < 2 ∧ (y 0).val < 256 ∧ (y 1).val < 1024 :=
    ⟨(idx_val t).2.2.2.2.2.2.2, (y 0).isLt, (y 1).isLt⟩
  have e0 : ((((View.whole main_v216).slice (win0_6.rect t)).emb y) 0).val = t.val % 32 * 256 + (y 0).val := by
    blk_simp [idx_val t]
  have e1 : ((((View.whole main_v216).slice (win0_6.rect t)).emb y) 1).val = t.val / 32 * 1024 + (y 1).val := by
    blk_simp [idx_val t]
  generalize (((View.whole main_v216).slice (win0_6.rect t)).emb y) = j at e0 e1 ⊢
  have o := off_val t
  have hd : ∀ (n : ℕ) (hn : n < 8) (x : S256x128.Idx) (off : Fin 2 → ℕ) (ho : off = ![firstRow (t.val % 32) * 64, 128 * n])
      (i1 i2 i3 i4 i5 i6) (h0 : (y 0).val = (x 0).val) (h1 : (y 1).val = 128 * n + (x 1).val),
      k0_pay1 (F := Ideal) (View.ld (iblk m c 0 t) (Rect.unit (s := S256x1024) ![0, 128 * n] ![256, 128] i1))
        (View.ld (iblk m c 1 t) (Rect.unit (s := S8192x1024) off ![768, 128] i2))
        (View.ld (iblk m c 3 t) (Rect.unit (s := S256x1024) ![0, 128 * n] ![256, 128] i3))
        (View.ld (iblk m c 2 t) (Rect.unit (s := S8192x1024) off ![768, 128] i4))
        (View.ld (iblk m c 4 t) (Rect.unit (s := S256x1024) ![0, 128 * n] ![256, 128] i5))
        (View.ld (iblk m c 5 t) (Rect.unit (s := S1x8x256x768) ![0, n, 0, 0] ![1, 1, 256, 768] i6)) x
      = out (m ((c : Thread nD τ).loc main_arg0)) (m ((c : Thread nD τ).loc main_arg1)) (V m c main_v215) j := by
    intro n hn x off ho i1 i2 i3 i4 i5 i6 h0 h1
    have hx0 : (x 0).val < 256 := (x 0).isLt
    have hx1 : (x 1).val < 128 := (x 1).isLt
    have g0 : (j 0).val / 256 = t.val % 32 := by omega
    have g1 : (j 1).val / 128 = t.val / 32 * 8 + n := by omega
    refine head_eq _ _ _ _ _ _ _ _ _ x j (by omega) (by omega) ?_ ?_ ?_ ?_ ?_ ?_
    · intro d i h0' h1'; exact ld_q m c t _ _ _ _ _ (by omega) (by omega)
    · intro l d i h0' h1'; rw [g0] at h0'; exact ld_k m c t _ _ ho _ _ _ _ h0' (by omega)
    · intro l d i h0' h1'; exact ld_kc m c t _ _ _ _ _ h0' (by omega)
    · intro l i h0' h1'; rw [g0] at h0'; exact ld_v m c t _ _ ho _ _ _ _ h0' (by omega)
    · intro l i h0' h1'; exact ld_vc m c t _ _ _ _ _ h0' (by omega)
    · intro l i h0' h1' h2' h3'; rw [g0] at h0'; exact ld_b m c t _ _ _ _ _ h0' (by omega) (by omega) h3'
  canon_tiles x h
  case piece0 => exact hd 7 (by decide) x _ (o.2.2.2.2.2.2.2) _ _ _ _ _ _ (by omega) (by omega)
  case piece1 => exact hd 6 (by decide) x _ (o.2.2.2.2.2.2.1) _ _ _ _ _ _ (by omega) (by omega)
  case piece2 => exact hd 5 (by decide) x _ (o.2.2.2.2.2.1) _ _ _ _ _ _ (by omega) (by omega)
  case piece3 => exact hd 4 (by decide) x _ (o.2.2.2.2.1) _ _ _ _ _ _ (by omega) (by omega)
  case piece4 => exact hd 3 (by decide) x _ (o.2.2.2.1) _ _ _ _ _ _ (by omega) (by omega)
  case piece5 => exact hd 2 (by decide) x _ (o.2.2.1) _ _ _ _ _ _ (by omega) (by omega)
  case piece6 => exact hd 1 (by decide) x _ (o.2.1) _ _ _ _ _ _ (by omega) (by omega)
  case piece7 => exact hd 0 (by decide) x _ (o.1) _ _ _ _ _ _ (by omega) (by omega)

end Cert.KernelIdeal.Att

end
-- ==== Proof.Att.Stack.lean ====
/- Arrays stacked along an axis, read at an index: the three ways the bias table is put together. -/
module

public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.KernelIdeal.Att

open Cert.KernelIdeal Cert.KernelIdeal.Gen Idealize.ShloMosaic

/-- Twelve 64-column tiles side by side: column `i` is column `i % 64` of tile `i / 64`. -/
theorem tiles12_apply (a0 a1 a2 a3 a4 a5 a6 a7 a8 a9 a10 a11 : Vec Ideal S32x64x64 .f32) (g : Fin 32) (c : Fin 64) (i : Fin 768) :
    concatenate S32x64x768 2 [⟨S32x64x64, a0⟩, ⟨S32x64x64, a1⟩, ⟨S32x64x64, a2⟩, ⟨S32x64x64, a3⟩, ⟨S32x64x64, a4⟩, ⟨S32x64x64, a5⟩, ⟨S32x64x64, a6⟩, ⟨S32x64x64, a7⟩, ⟨S32x64x64, a8⟩, ⟨S32x64x64, a9⟩, ⟨S32x64x64, a10⟩, ⟨S32x64x64, a11⟩]
      concatenates_S32x64x64_S32x64x64_S32x64x64_S32x64x64_S32x64x64_S32x64x64_S32x64x64_S32x64x64_S32x64x64_S32x64x64_S32x64x64_S32x64x64_S32x64x768_d2 (ix3 g c i)
    = (![a0, a1, a2, a3, a4, a5, a6, a7, a8, a9, a10, a11] : Fin 12 → Vec Ideal S32x64x64 .f32) ⟨i.val / 64, by omega⟩ (ix3 g c ⟨i.val % 64, by omega⟩) := by
  obtain ⟨q, hq⟩ : ∃ q : Fin 12, i.val / 64 = q.val := ⟨⟨i.val / 64, by omega⟩, rfl⟩
  rw [show (⟨i.val / 64, by omega⟩ : Fin 12) = q from Fin.ext hq]
  generalize hR : (![a0, a1, a2, a3, a4, a5, a6, a7, a8, a9, a10, a11] : Fin 12 → Vec Ideal S32x64x64 .f32) q (ix3 g c ⟨i.val % 64, by omega⟩) = R
  pointwise
  match q, hq, hR with
  | ⟨0, _⟩, hq, hR =>
    replace hq : i.val / 64 = 0 := hq
    rw [dif_pos (by omega), ← hR]
    exact congrArg (fun z => a0 (ix3 g c z)) (Fin.ext (show i.val = i.val % 64 by omega))
  | ⟨1, _⟩, hq, hR =>
    replace hq : i.val / 64 = 1 := hq
    rw [dif_neg (by omega), dif_pos (by omega), ← hR]
    exact congrArg (fun z => a1 (ix3 g c z)) (Fin.ext (show i.val - 64 = i.val % 64 by omega))
  | ⟨2, _⟩, hq, hR =>
    replace hq : i.val / 64 = 2 := hq
    rw [dif_neg (by omega), dif_neg (by omega), dif_pos (by omega), ← hR]
    exact congrArg (fun z => a2 (ix3 g c z)) (Fin.ext (show i.val - 64 - 64 = i.val % 64 by omega))
  | ⟨3, _⟩, hq, hR =>
    replace hq : i.val / 64 = 3 := hq
    rw [dif_neg (by omega), dif_neg (by omega), dif_neg (by omega), dif_pos (by omega), ← hR]
    exact congrArg (fun z => a3 (ix3 g c z)) (Fin.ext (show i.val - 64 - 64 - 64 = i.val % 64 by omega))
  | ⟨4, _⟩, hq, hR =>
    replace hq : i.val / 64 = 4 := hq
    rw [dif_neg (by omega), dif_neg (by omega), dif_neg (by omega), dif_neg (by omega), dif_pos (by omega), ← hR]
    exact congrArg (fun z => a4 (ix3 g c z)) (Fin.ext (show i.val - 64 - 64 - 64 - 64 = i.val % 64 by omega))
  | ⟨5, _⟩, hq, hR =>
    replace hq : i.val / 64 = 5 := hq
    rw [dif_neg (by omega), dif_neg (by omega), dif_neg (by omega), dif_neg (by omega), dif_neg (by omega), dif_pos (by omega), ← hR]
    exact congrArg (fun z => a5 (ix3 g c z)) (Fin.ext (show i.val - 64 - 64 - 64 - 64 - 64 = i.val % 64 by omega))
  | ⟨6, _⟩, hq, hR =>
    replace hq : i.val / 64 = 6 := hq
    rw [dif_neg (by omega), dif_neg (by omega), dif_neg (by omega), dif_neg (by omega), dif_neg (by omega), dif_neg (by omega), dif_pos (by omega), ← hR]
    exact congrArg (fun z => a6 (ix3 g c z)) (Fin.ext (show i.val - 64 - 64 - 64 - 64 - 64 - 64 = i.val % 64 by omega))
  | ⟨7, _⟩, hq, hR =>
    replace hq : i.val / 64 = 7 := hq
    rw [dif_neg (by omega), dif_neg (by omega), dif_neg (by omega), dif_neg (by omega), dif_neg (by omega), dif_neg (by omega), dif_neg (by omega), dif_pos (by omega), ← hR]
    exact congrArg (fun z => a7 (ix3 g c z)) (Fin.ext (show i.val - 64 - 64 - 64 - 64 - 64 - 64 - 64 = i.val % 64 by omega))
  | ⟨8, _⟩, hq, hR =>
    replace hq : i.val / 64 = 8 := hq
    rw [dif_neg (by omega), dif_neg (by omega), dif_neg (by omega), dif_neg (by omega), dif_neg (by omega), dif_neg (by omega), dif_neg (by omega), dif_neg (by omega), dif_pos (by omega), ← hR]
    exact congrArg (fun z => a8 (ix3 g c z)) (Fin.ext (show i.val - 64 - 64 - 64 - 64 - 64 - 64 - 64 - 64 = i.val % 64 by omega))
  | ⟨9, _⟩, hq, hR =>
    replace hq : i.val / 64 = 9 := hq
    rw [dif_neg (by omega), dif_neg (by omega), dif_neg (by omega), dif_neg (by omega), dif_neg (by omega), dif_neg (by omega), dif_neg (by omega), dif_neg (by omega), dif_neg (by omega), dif_pos (by omega), ← hR]
    exact congrArg (fun z => a9 (ix3 g c z)) (Fin.ext (show i.val - 64 - 64 - 64 - 64 - 64 - 64 - 64 - 64 - 64 = i.val % 64 by omega))
  | ⟨10, _⟩, hq, hR =>
    replace hq : i.val / 64 = 10 := hq
    rw [dif_neg (by omega), dif_neg (by omega), dif_neg (by omega), dif_neg (by omega), dif_neg (by omega), dif_neg (by omega), dif_neg (by omega), dif_neg (by omega), dif_neg (by omega), dif_neg (by omega), dif_pos (by omega), ← hR]
    exact congrArg (fun z => a10 (ix3 g c z)) (Fin.ext (show i.val - 64 - 64 - 64 - 64 - 64 - 64 - 64 - 64 - 64 - 64 = i.val % 64 by omega))
  | ⟨11, _⟩, hq, hR =>
    replace hq : i.val / 64 = 11 := hq
    rw [dif_neg (by omega), dif_neg (by omega), dif_neg (by omega), dif_neg (by omega), dif_neg (by omega), dif_neg (by omega), dif_neg (by omega), dif_neg (by omega), dif_neg (by omega), dif_neg (by omega), dif_neg (by omega), ← hR]
    exact congrArg (fun z => a11 (ix3 g c z)) (Fin.ext (show i.val - 64 - 64 - 64 - 64 - 64 - 64 - 64 - 64 - 64 - 64 - 64 = i.val % 64 by omega))

/-- Four 64-row bands one under the other: row `r` is row `r % 64` of band `r / 64`. -/
theorem bands4_apply (a0 a1 a2 a3 : Vec Ideal S32x64x768 .f32) (g : Fin 32) (r : Fin 256) (i : Fin 768) :
    concatenate S32x256x768 1 [⟨S32x64x768, a0⟩, ⟨S32x64x768, a1⟩, ⟨S32x64x768, a2⟩, ⟨S32x64x768, a3⟩]
      concatenates_S32x64x768_S32x64x768_S32x64x768_S32x64x768_S32x256x768_d1 (ix3 g r i)
    = (![a0, a1, a2, a3] : Fin 4 → Vec Ideal S32x64x768 .f32) ⟨r.val / 64, by omega⟩ (ix3 g ⟨r.val % 64, by omega⟩ i) := by
  obtain ⟨q, hq⟩ : ∃ q : Fin 4, r.val / 64 = q.val := ⟨⟨r.val / 64, by omega⟩, rfl⟩
  rw [show (⟨r.val / 64, by omega⟩ : Fin 4) = q from Fin.ext hq]
  generalize hR : (![a0, a1, a2, a3] : Fin 4 → Vec Ideal S32x64x768 .f32) q (ix3 g ⟨r.val % 64, by omega⟩ i) = R
  pointwise
  match q, hq, hR with
  | ⟨0, _⟩, hq, hR =>
    replace hq : r.val / 64 = 0 := hq
    rw [dif_pos (by omega), ← hR]
    exact congrArg (fun z => a0 (ix3 g z i)) (Fin.ext (show r.val = r.val % 64 by omega))
  | ⟨1, _⟩, hq, hR =>
    replace hq : r.val / 64 = 1 := hq
    rw [dif_neg (by omega), dif_pos (by omega), ← hR]
    exact congrArg (fun z => a1 (ix3 g z i)) (Fin.ext (show r.val - 64 = r.val % 64 by omega))
  | ⟨2, _⟩, hq, hR =>
    replace hq : r.val / 64 = 2 := hq
    rw [dif_neg (by omega), dif_neg (by omega), dif_pos (by omega), ← hR]
    exact congrArg (fun z => a2 (ix3 g z i)) (Fin.ext (show r.val - 64 - 64 = r.val % 64 by omega))
  | ⟨3, _⟩, hq, hR =>
    replace hq : r.val / 64 = 3 := hq
    rw [dif_neg (by omega), dif_neg (by omega), dif_neg (by omega), ← hR]
    exact congrArg (fun z => a3 (ix3 g z i)) (Fin.ext (show r.val - 64 - 64 - 64 = r.val % 64 by omega))

/-- A table on a new leading axis. -/
theorem lead_apply (a : Vec Ideal S32x256x768 .f32) (g : Fin 32) (r : Fin 256) (i : Fin 768) :
    broadcastInDim S1x32x256x768 ![1, 2, 3] bcast_S32x256x768_S1x32x256x768_1_2_3 a (ix4 0 g r i) = a (ix3 g r i) := by
  pointwise

/-- Three tables stacked along the leading axis. -/
theorem tables3_apply (a0 a1 a2 : Vec Ideal S1x32x256x768 .f32) (v : Fin 3) (g : Fin 32) (r : Fin 256) (i : Fin 768) :
    concatenate S3x32x256x768 0 [⟨S1x32x256x768, a0⟩, ⟨S1x32x256x768, a1⟩, ⟨S1x32x256x768, a2⟩]
      concatenates_S1x32x256x768_S1x32x256x768_S1x32x256x768_S3x32x256x768_d0 (ix4 v g r i)
    = (![a0, a1, a2] : Fin 3 → Vec Ideal S1x32x256x768 .f32) v (ix4 0 g r i) := by
  generalize hR : (![a0, a1, a2] : Fin 3 → Vec Ideal S1x32x256x768 .f32) v (ix4 0 g r i) = R
  pointwise
  match v, hR with
  | ⟨0, _⟩, hR =>
    rw [dif_pos (by simp), ← hR]
    rfl
  | ⟨1, _⟩, hR =>
    rw [dif_neg (by simp), dif_pos (by simp), ← hR]
    rfl
  | ⟨2, _⟩, hR =>
    rw [dif_neg (by simp), dif_neg (by simp), ← hR]
    rfl

/-- One tile of the per-offset array: row offset `n`, read at head, query column, key column. -/
theorem tile_apply (X : Vec Ideal S32x15x64x64 .f32) (n : ℕ) (hn : n < 15) (ev) (g : Fin 32) (c k : Fin 64) :
    shapeCast S32x64x64 (extractStridedSlice S32x1x64x64 ![0, n, 0, 0] X ev) shapeCasts_S32x1x64x64_S32x64x64 (ix3 g c k)
    = X (ix4 g ⟨n, hn⟩ c k) := by
  pointwise

end Cert.KernelIdeal.Att

end
-- ==== Proof.Att.Bias.lean ====
/- The bias table the kernel is given, read at an index from the per-offset tiles it is put together from. -/
module

public import proofs.«01_k».proof.Proof.Att.Stack
public import Idealize.ShloMosaic.Lib.StableHlo.RunRead

@[expose] public section

set_option maxRecDepth 16384

noncomputable section

namespace Cert.KernelIdeal.Att

open Cert.KernelIdeal Cert.KernelIdeal.Gen Idealize.ShloMosaic Idealize.ShloMosaic.TcCoe Idealize.SL.Sem

/-- The first of the eight staged grid rows that query row `rl` of a block attends to, in table `v`. -/
def firstReal (v rl : ℕ) : ℕ := if v = 0 then 0 else if v = 1 then rl else 4

/-- Entry of a table at query row `rl`, staged row `q`, from the tiles `X`: the tile of the row offset, or `-∞`. -/
def tabEntry (X : Vec Ideal S32x15x64x64 .f32) (v : ℕ) (g : Fin 32) (rl q : ℕ) (c k : Fin 64) : EReal :=
  if h : firstReal v rl ≤ q ∧ q < firstReal v rl + 8 ∧ q + 7 - rl - 4 * v < 15 then
    X (ix4 g ⟨q + 7 - rl - 4 * v, h.2.2⟩ c k)
  else Ideal.ofBits .f32 0xFF800000#32

/-- A tile's entry is the table's where the staged row is attended to. -/
theorem real_entry (X : Vec Ideal S32x15x64x64 .f32) (n : ℕ) (hn : n < 15) (ev) (v rl q : ℕ) (g : Fin 32) (c k : Fin 64)
    (h : firstReal v rl ≤ q ∧ q < firstReal v rl + 8 ∧ q + 7 - rl - 4 * v < 15) (e : q + 7 - rl - 4 * v = n) :
    shapeCast S32x64x64 (extractStridedSlice S32x1x64x64 ![0, n, 0, 0] X ev) shapeCasts_S32x1x64x64_S32x64x64 (ix3 g c k)
    = tabEntry X v g rl q c k := by
  subst e
  rw [tabEntry, dif_pos h]
  exact tile_apply X _ hn ev g c k

/-- The masked tile's entry is the table's where the staged row is not attended to. -/
theorem masked_entry (X : Vec Ideal S32x15x64x64 .f32) (v rl q : ℕ) (g : Fin 32) (c k : Fin 64)
    (h : ¬(firstReal v rl ≤ q ∧ q < firstReal v rl + 8 ∧ q + 7 - rl - 4 * v < 15)) :
    broadcastInDim S32x64x64 ![] bcast_S_S32x64x64 (constant (F := Ideal) S_ .f32 0xFF800000#32) (ix3 g c k)
      = tabEntry X v g rl q c k := by
  refine Eq.trans ?_ (dif_neg h).symm
  pointwise

/-- Table 0. -/
theorem table0_apply (w : Valuation τ sig (Elt Ideal)) (g : Fin 32) (r : Fin 256) (i : Fin 768) :
    StableHlo.after hostOps0_2 w (Proc.devRef .tc main_v73) (ix3 g r i)
      = tabEntry (w (Proc.devRef .tc main_v3)) 0 g (r.val / 64) (i.val / 64) ⟨r.val % 64, by omega⟩ ⟨i.val % 64, by omega⟩ := by
  after_reads_simp
  refine (bands4_apply _ _ _ _ g r i).trans ?_
  obtain ⟨rl, hrl⟩ : ∃ rl : Fin 4, rl = ⟨r.val / 64, by omega⟩ := ⟨_, rfl⟩
  rw [← hrl, show r.val / 64 = rl.val by rw [hrl]]
  generalize (⟨r.val % 64, by omega⟩ : Fin 64) = c
  clear hrl
  obtain rfl | rfl | rfl | rfl : rl = 0 ∨ rl = 1 ∨ rl = 2 ∨ rl = 3 := by omega
  · dsimp only [Matrix.cons_val]
    after_reads_simp
    refine (tiles12_apply _ _ _ _ _ _ _ _ _ _ _ _ g c i).trans ?_
    obtain ⟨q, hq⟩ : ∃ q : Fin 12, q = ⟨i.val / 64, by omega⟩ := ⟨_, rfl⟩
    rw [← hq, show i.val / 64 = q.val by rw [hq]]
    generalize (⟨i.val % 64, by omega⟩ : Fin 64) = k
    clear hq
    obtain rfl | rfl | rfl | rfl | rfl | rfl | rfl | rfl | rfl | rfl | rfl | rfl : q = 0 ∨ q = 1 ∨ q = 2 ∨ q = 3 ∨ q = 4 ∨ q = 5 ∨ q = 6 ∨ q = 7 ∨ q = 8 ∨ q = 9 ∨ q = 10 ∨ q = 11 := by omega
    · dsimp only [Matrix.cons_val]
      after_reads_simp
      exact real_entry _ 7 (by decide) _ 0 0 0 g c k (by decide) rfl
    · dsimp only [Matrix.cons_val]
      after_reads_simp
      exact real_entry _ 8 (by decide) _ 0 0 1 g c k (by decide) rfl
    · dsimp only [Matrix.cons_val]
      after_reads_simp
      exact real_entry _ 9 (by decide) _ 0 0 2 g c k (by decide) rfl
    · dsimp only [Matrix.cons_val]
      after_reads_simp
      exact real_entry _ 10 (by decide) _ 0 0 3 g c k (by decide) rfl
    · dsimp only [Matrix.cons_val]
      after_reads_simp
      exact real_entry _ 11 (by decide) _ 0 0 4 g c k (by decide) rfl
    · dsimp only [Matrix.cons_val]
      after_reads_simp
      exact real_entry _ 12 (by decide) _ 0 0 5 g c k (by decide) rfl
    · dsimp only [Matrix.cons_val]
      after_reads_simp
      exact real_entry _ 13 (by decide) _ 0 0 6 g c k (by decide) rfl
    · dsimp only [Matrix.cons_val]
      after_reads_simp
      exact real_entry _ 14 (by decide) _ 0 0 7 g c k (by decide) rfl
    · dsimp only [Matrix.cons_val]
      after_reads_simp
      exact masked_entry _ 0 0 8 g c k (by decide)
    · dsimp only [Matrix.cons_val]
      after_reads_simp
      exact masked_entry _ 0 0 9 g c k (by decide)
    · dsimp only [Matrix.cons_val]
      after_reads_simp
      exact masked_entry _ 0 0 10 g c k (by decide)
    · dsimp only [Matrix.cons_val]
      after_reads_simp
      exact masked_entry _ 0 0 11 g c k (by decide)
  · dsimp only [Matrix.cons_val]
    after_reads_simp
    refine (tiles12_apply _ _ _ _ _ _ _ _ _ _ _ _ g c i).trans ?_
    obtain ⟨q, hq⟩ : ∃ q : Fin 12, q = ⟨i.val / 64, by omega⟩ := ⟨_, rfl⟩
    rw [← hq, show i.val / 64 = q.val by rw [hq]]
    generalize (⟨i.val % 64, by omega⟩ : Fin 64) = k
    clear hq
    obtain rfl | rfl | rfl | rfl | rfl | rfl | rfl | rfl | rfl | rfl | rfl | rfl : q = 0 ∨ q = 1 ∨ q = 2 ∨ q = 3 ∨ q = 4 ∨ q = 5 ∨ q = 6 ∨ q = 7 ∨ q = 8 ∨ q = 9 ∨ q = 10 ∨ q = 11 := by omega
    · dsimp only [Matrix.cons_val]
      after_reads_simp
      exact real_entry _ 6 (by decide) _ 0 1 0 g c k (by decide) rfl
    · dsimp only [Matrix.cons_val]
      after_reads_simp
      exact real_entry _ 7 (by decide) _ 0 1 1 g c k (by decide) rfl
    · dsimp only [Matrix.cons_val]
      after_reads_simp
      exact real_entry _ 8 (by decide) _ 0 1 2 g c k (by decide) rfl
    · dsimp only [Matrix.cons_val]
      after_reads_simp
      exact real_entry _ 9 (by decide) _ 0 1 3 g c k (by decide) rfl
    · dsimp only [Matrix.cons_val]
      after_reads_simp
      exact real_entry _ 10 (by decide) _ 0 1 4 g c k (by decide) rfl
    · dsimp only [Matrix.cons_val]
      after_reads_simp
      exact real_entry _ 11 (by decide) _ 0 1 5 g c k (by decide) rfl
    · dsimp only [Matrix.cons_val]
      after_reads_simp
      exact real_entry _ 12 (by decide) _ 0 1 6 g c k (by decide) rfl
    · dsimp only [Matrix.cons_val]
      after_reads_simp
      exact real_entry _ 13 (by decide) _ 0 1 7 g c k (by decide) rfl
    · dsimp only [Matrix.cons_val]
      after_reads_simp
      exact masked_entry _ 0 1 8 g c k (by decide)
    · dsimp only [Matrix.cons_val]
      after_reads_simp
      exact masked_entry _ 0 1 9 g c k (by decide)
    · dsimp only [Matrix.cons_val]
      after_reads_simp
      exact masked_entry _ 0 1 10 g c k (by decide)
    · dsimp only [Matrix.cons_val]
      after_reads_simp
      exact masked_entry _ 0 1 11 g c k (by decide)
  · dsimp only [Matrix.cons_val]
    after_reads_simp
    refine (tiles12_apply _ _ _ _ _ _ _ _ _ _ _ _ g c i).trans ?_
    obtain ⟨q, hq⟩ : ∃ q : Fin 12, q = ⟨i.val / 64, by omega⟩ := ⟨_, rfl⟩
    rw [← hq, show i.val / 64 = q.val by rw [hq]]
    generalize (⟨i.val % 64, by omega⟩ : Fin 64) = k
    clear hq
    obtain rfl | rfl | rfl | rfl | rfl | rfl | rfl | rfl | rfl | rfl | rfl | rfl : q = 0 ∨ q = 1 ∨ q = 2 ∨ q = 3 ∨ q = 4 ∨ q = 5 ∨ q = 6 ∨ q = 7 ∨ q = 8 ∨ q = 9 ∨ q = 10 ∨ q = 11 := by omega
    · dsimp only [Matrix.cons_val]
      after_reads_simp
      exact real_entry _ 5 (by decide) _ 0 2 0 g c k (by decide) rfl
    · dsimp only [Matrix.cons_val]
      after_reads_simp
      exact real_entry _ 6 (by decide) _ 0 2 1 g c k (by decide) rfl
    · dsimp only [Matrix.cons_val]
      after_reads_simp
      exact real_entry _ 7 (by decide) _ 0 2 2 g c k (by decide) rfl
    · dsimp only [Matrix.cons_val]
      after_reads_simp
      exact real_entry _ 8 (by decide) _ 0 2 3 g c k (by decide) rfl
    · dsimp only [Matrix.cons_val]
      after_reads_simp
      exact real_entry _ 9 (by decide) _ 0 2 4 g c k (by decide) rfl
    · dsimp only [Matrix.cons_val]
      after_reads_simp
      exact real_entry _ 10 (by decide) _ 0 2 5 g c k (by decide) rfl
    · dsimp only [Matrix.cons_val]
      after_reads_simp
      exact real_entry _ 11 (by decide) _ 0 2 6 g c k (by decide) rfl
    · dsimp only [Matrix.cons_val]
      after_reads_simp
      exact real_entry _ 12 (by decide) _ 0 2 7 g c k (by decide) rfl
    · dsimp only [Matrix.cons_val]
      after_reads_simp
      exact masked_entry _ 0 2 8 g c k (by decide)
    · dsimp only [Matrix.cons_val]
      after_reads_simp
      exact masked_entry _ 0 2 9 g c k (by decide)
    · dsimp only [Matrix.cons_val]
      after_reads_simp
      exact masked_entry _ 0 2 10 g c k (by decide)
    · dsimp only [Matrix.cons_val]
      after_reads_simp
      exact masked_entry _ 0 2 11 g c k (by decide)
  · dsimp only [Matrix.cons_val]
    after_reads_simp
    refine (tiles12_apply _ _ _ _ _ _ _ _ _ _ _ _ g c i).trans ?_
    obtain ⟨q, hq⟩ : ∃ q : Fin 12, q = ⟨i.val / 64, by omega⟩ := ⟨_, rfl⟩
    rw [← hq, show i.val / 64 = q.val by rw [hq]]
    generalize (⟨i.val % 64, by omega⟩ : Fin 64) = k
    clear hq
    obtain rfl | rfl | rfl | rfl | rfl | rfl | rfl | rfl | rfl | rfl | rfl | rfl : q = 0 ∨ q = 1 ∨ q = 2 ∨ q = 3 ∨ q = 4 ∨ q = 5 ∨ q = 6 ∨ q = 7 ∨ q = 8 ∨ q = 9 ∨ q = 10 ∨ q = 11 := by omega
    · dsimp only [Matrix.cons_val]
      after_reads_simp
      exact real_entry _ 4 (by decide) _ 0 3 0 g c k (by decide) rfl
    · dsimp only [Matrix.cons_val]
      after_reads_simp
      exact real_entry _ 5 (by decide) _ 0 3 1 g c k (by decide) rfl
    · dsimp only [Matrix.cons_val]
      after_reads_simp
      exact real_entry _ 6 (by decide) _ 0 3 2 g c k (by decide) rfl
    · dsimp only [Matrix.cons_val]
      after_reads_simp
      exact real_entry _ 7 (by decide) _ 0 3 3 g c k (by decide) rfl
    · dsimp only [Matrix.cons_val]
      after_reads_simp
      exact real_entry _ 8 (by decide) _ 0 3 4 g c k (by decide) rfl
    · dsimp only [Matrix.cons_val]
      after_reads_simp
      exact real_entry _ 9 (by decide) _ 0 3 5 g c k (by decide) rfl
    · dsimp only [Matrix.cons_val]
      after_reads_simp
      exact real_entry _ 10 (by decide) _ 0 3 6 g c k (by decide) rfl
    · dsimp only [Matrix.cons_val]
      after_reads_simp
      exact real_entry _ 11 (by decide) _ 0 3 7 g c k (by decide) rfl
    · dsimp only [Matrix.cons_val]
      after_reads_simp
      exact masked_entry _ 0 3 8 g c k (by decide)
    · dsimp only [Matrix.cons_val]
      after_reads_simp
      exact masked_entry _ 0 3 9 g c k (by decide)
    · dsimp only [Matrix.cons_val]
      after_reads_simp
      exact masked_entry _ 0 3 10 g c k (by decide)
    · dsimp only [Matrix.cons_val]
      after_reads_simp
      exact masked_entry _ 0 3 11 g c k (by decide)

/-- Table 1. -/
theorem table1_apply (w : Valuation τ sig (Elt Ideal)) (g : Fin 32) (r : Fin 256) (i : Fin 768) :
    StableHlo.after hostOps0_2 w (Proc.devRef .tc main_v142) (ix3 g r i)
      = tabEntry (w (Proc.devRef .tc main_v3)) 1 g (r.val / 64) (i.val / 64) ⟨r.val % 64, by omega⟩ ⟨i.val % 64, by omega⟩ := by
  after_reads_simp
  refine (bands4_apply _ _ _ _ g r i).trans ?_
  obtain ⟨rl, hrl⟩ : ∃ rl : Fin 4, rl = ⟨r.val / 64, by omega⟩ := ⟨_, rfl⟩
  rw [← hrl, show r.val / 64 = rl.val by rw [hrl]]
  generalize (⟨r.val % 64, by omega⟩ : Fin 64) = c
  clear hrl
  obtain rfl | rfl | rfl | rfl : rl = 0 ∨ rl = 1 ∨ rl = 2 ∨ rl = 3 := by omega
  · dsimp only [Matrix.cons_val]
    after_reads_simp
    refine (tiles12_apply _ _ _ _ _ _ _ _ _ _ _ _ g c i).trans ?_
    obtain ⟨q, hq⟩ : ∃ q : Fin 12, q = ⟨i.val / 64, by omega⟩ := ⟨_, rfl⟩
    rw [← hq, show i.val / 64 = q.val by rw [hq]]
    generalize (⟨i.val % 64, by omega⟩ : Fin 64) = k
    clear hq
    obtain rfl | rfl | rfl | rfl | rfl | rfl | rfl | rfl | rfl | rfl | rfl | rfl : q = 0 ∨ q = 1 ∨ q = 2 ∨ q = 3 ∨ q = 4 ∨ q = 5 ∨ q = 6 ∨ q = 7 ∨ q = 8 ∨ q = 9 ∨ q = 10 ∨ q = 11 := by omega
    · dsimp only [Matrix.cons_val]
      after_reads_simp
      exact real_entry _ 3 (by decide) _ 1 0 0 g c k (by decide) rfl
    · dsimp only [Matrix.cons_val]
      after_reads_simp
      exact real_entry _ 4 (by decide) _ 1 0 1 g c k (by decide) rfl
    · dsimp only [Matrix.cons_val]
      after_reads_simp
      exact real_entry _ 5 (by decide) _ 1 0 2 g c k (by decide) rfl
    · dsimp only [Matrix.cons_val]
      after_reads_simp
      exact real_entry _ 6 (by decide) _ 1 0 3 g c k (by decide) rfl
    · dsimp only [Matrix.cons_val]
      after_reads_simp
      exact real_entry _ 7 (by decide) _ 1 0 4 g c k (by decide) rfl
    · dsimp only [Matrix.cons_val]
      after_reads_simp
      exact real_entry _ 8 (by decide) _ 1 0 5 g c k (by decide) rfl
    · dsimp only [Matrix.cons_val]
      after_reads_simp
      exact real_entry _ 9 (by decide) _ 1 0 6 g c k (by decide) rfl
    · dsimp only [Matrix.cons_val]
      after_reads_simp
      exact real_entry _ 10 (by decide) _ 1 0 7 g c k (by decide) rfl
    · dsimp only [Matrix.cons_val]
      after_reads_simp
      exact masked_entry _ 1 0 8 g c k (by decide)
    · dsimp only [Matrix.cons_val]
      after_reads_simp
      exact masked_entry _ 1 0 9 g c k (by decide)
    · dsimp only [Matrix.cons_val]
      after_reads_simp
      exact masked_entry _ 1 0 10 g c k (by decide)
    · dsimp only [Matrix.cons_val]
      after_reads_simp
      exact masked_entry _ 1 0 11 g c k (by decide)
  · dsimp only [Matrix.cons_val]
    after_reads_simp
    refine (tiles12_apply _ _ _ _ _ _ _ _ _ _ _ _ g c i).trans ?_
    obtain ⟨q, hq⟩ : ∃ q : Fin 12, q = ⟨i.val / 64, by omega⟩ := ⟨_, rfl⟩
    rw [← hq, show i.val / 64 = q.val by rw [hq]]
    generalize (⟨i.val % 64, by omega⟩ : Fin 64) = k
    clear hq
    obtain rfl | rfl | rfl | rfl | rfl | rfl | rfl | rfl | rfl | rfl | rfl | rfl : q = 0 ∨ q = 1 ∨ q = 2 ∨ q = 3 ∨ q = 4 ∨ q = 5 ∨ q = 6 ∨ q = 7 ∨ q = 8 ∨ q = 9 ∨ q = 10 ∨ q = 11 := by omega
    · dsimp only [Matrix.cons_val]
      after_reads_simp
      exact masked_entry _ 1 1 0 g c k (by decide)
    · dsimp only [Matrix.cons_val]
      after_reads_simp
      exact real_entry _ 3 (by decide) _ 1 1 1 g c k (by decide) rfl
    · dsimp only [Matrix.cons_val]
      after_reads_simp
      exact real_entry _ 4 (by decide) _ 1 1 2 g c k (by decide) rfl
    · dsimp only [Matrix.cons_val]
      after_reads_simp
      exact real_entry _ 5 (by decide) _ 1 1 3 g c k (by decide) rfl
    · dsimp only [Matrix.cons_val]
      after_reads_simp
      exact real_entry _ 6 (by decide) _ 1 1 4 g c k (by decide) rfl
    · dsimp only [Matrix.cons_val]
      after_reads_simp
      exact real_entry _ 7 (by decide) _ 1 1 5 g c k (by decide) rfl
    · dsimp only [Matrix.cons_val]
      after_reads_simp
      exact real_entry _ 8 (by decide) _ 1 1 6 g c k (by decide) rfl
    · dsimp only [Matrix.cons_val]
      after_reads_simp
      exact real_entry _ 9 (by decide) _ 1 1 7 g c k (by decide) rfl
    · dsimp only [Matrix.cons_val]
      after_reads_simp
      exact real_entry _ 10 (by decide) _ 1 1 8 g c k (by decide) rfl
    · dsimp only [Matrix.cons_val]
      after_reads_simp
      exact masked_entry _ 1 1 9 g c k (by decide)
    · dsimp only [Matrix.cons_val]
      after_reads_simp
      exact masked_entry _ 1 1 10 g c k (by decide)
    · dsimp only [Matrix.cons_val]
      after_reads_simp
      exact masked_entry _ 1 1 11 g c k (by decide)
  · dsimp only [Matrix.cons_val]
    after_reads_simp
    refine (tiles12_apply _ _ _ _ _ _ _ _ _ _ _ _ g c i).trans ?_
    obtain ⟨q, hq⟩ : ∃ q : Fin 12, q = ⟨i.val / 64, by omega⟩ := ⟨_, rfl⟩
    rw [← hq, show i.val / 64 = q.val by rw [hq]]
    generalize (⟨i.val % 64, by omega⟩ : Fin 64) = k
    clear hq
    obtain rfl | rfl | rfl | rfl | rfl | rfl | rfl | rfl | rfl | rfl | rfl | rfl : q = 0 ∨ q = 1 ∨ q = 2 ∨ q = 3 ∨ q = 4 ∨ q = 5 ∨ q = 6 ∨ q = 7 ∨ q = 8 ∨ q = 9 ∨ q = 10 ∨ q = 11 := by omega
    · dsimp only [Matrix.cons_val]
      after_reads_simp
      exact masked_entry _ 1 2 0 g c k (by decide)
    · dsimp only [Matrix.cons_val]
      after_reads_simp
      exact masked_entry _ 1 2 1 g c k (by decide)
    · dsimp only [Matrix.cons_val]
      after_reads_simp
      exact real_entry _ 3 (by decide) _ 1 2 2 g c k (by decide) rfl
    · dsimp only [Matrix.cons_val]
      after_reads_simp
      exact real_entry _ 4 (by decide) _ 1 2 3 g c k (by decide) rfl
    · dsimp only [Matrix.cons_val]
      after_reads_simp
      exact real_entry _ 5 (by decide) _ 1 2 4 g c k (by decide) rfl
    · dsimp only [Matrix.cons_val]
      after_reads_simp
      exact real_entry _ 6 (by decide) _ 1 2 5 g c k (by decide) rfl
    · dsimp only [Matrix.cons_val]
      after_reads_simp
      exact real_entry _ 7 (by decide) _ 1 2 6 g c k (by decide) rfl
    · dsimp only [Matrix.cons_val]
      after_reads_simp
      exact real_entry _ 8 (by decide) _ 1 2 7 g c k (by decide) rfl
    · dsimp only [Matrix.cons_val]
      after_reads_simp
      exact real_entry _ 9 (by decide) _ 1 2 8 g c k (by decide) rfl
    · dsimp only [Matrix.cons_val]
      after_reads_simp
      exact real_entry _ 10 (by decide) _ 1 2 9 g c k (by decide) rfl
    · dsimp only [Matrix.cons_val]
      after_reads_simp
      exact masked_entry _ 1 2 10 g c k (by decide)
    · dsimp only [Matrix.cons_val]
      after_reads_simp
      exact masked_entry _ 1 2 11 g c k (by decide)
  · dsimp only [Matrix.cons_val]
    after_reads_simp
    refine (tiles12_apply _ _ _ _ _ _ _ _ _ _ _ _ g c i).trans ?_
    obtain ⟨q, hq⟩ : ∃ q : Fin 12, q = ⟨i.val / 64, by omega⟩ := ⟨_, rfl⟩
    rw [← hq, show i.val / 64 = q.val by rw [hq]]
    generalize (⟨i.val % 64, by omega⟩ : Fin 64) = k
    clear hq
    obtain rfl | rfl | rfl | rfl | rfl | rfl | rfl | rfl | rfl | rfl | rfl | rfl : q = 0 ∨ q = 1 ∨ q = 2 ∨ q = 3 ∨ q = 4 ∨ q = 5 ∨ q = 6 ∨ q = 7 ∨ q = 8 ∨ q = 9 ∨ q = 10 ∨ q = 11 := by omega
    · dsimp only [Matrix.cons_val]
      after_reads_simp
      exact masked_entry _ 1 3 0 g c k (by decide)
    · dsimp only [Matrix.cons_val]
      after_reads_simp
      exact masked_entry _ 1 3 1 g c k (by decide)
    · dsimp only [Matrix.cons_val]
      after_reads_simp
      exact masked_entry _ 1 3 2 g c k (by decide)
    · dsimp only [Matrix.cons_val]
      after_reads_simp
      exact real_entry _ 3 (by decide) _ 1 3 3 g c k (by decide) rfl
    · dsimp only [Matrix.cons_val]
      after_reads_simp
      exact real_entry _ 4 (by decide) _ 1 3 4 g c k (by decide) rfl
    · dsimp only [Matrix.cons_val]
      after_reads_simp
      exact real_entry _ 5 (by decide) _ 1 3 5 g c k (by decide) rfl
    · dsimp only [Matrix.cons_val]
      after_reads_simp
      exact real_entry _ 6 (by decide) _ 1 3 6 g c k (by decide) rfl
    · dsimp only [Matrix.cons_val]
      after_reads_simp
      exact real_entry _ 7 (by decide) _ 1 3 7 g c k (by decide) rfl
    · dsimp only [Matrix.cons_val]
      after_reads_simp
      exact real_entry _ 8 (by decide) _ 1 3 8 g c k (by decide) rfl
    · dsimp only [Matrix.cons_val]
      after_reads_simp
      exact real_entry _ 9 (by decide) _ 1 3 9 g c k (by decide) rfl
    · dsimp only [Matrix.cons_val]
      after_reads_simp
      exact real_entry _ 10 (by decide) _ 1 3 10 g c k (by decide) rfl
    · dsimp only [Matrix.cons_val]
      after_reads_simp
      exact masked_entry _ 1 3 11 g c k (by decide)

/-- Table 2. -/
theorem table2_apply (w : Valuation τ sig (Elt Ideal)) (g : Fin 32) (r : Fin 256) (i : Fin 768) :
    StableHlo.after hostOps0_2 w (Proc.devRef .tc main_v211) (ix3 g r i)
      = tabEntry (w (Proc.devRef .tc main_v3)) 2 g (r.val / 64) (i.val / 64) ⟨r.val % 64, by omega⟩ ⟨i.val % 64, by omega⟩ := by
  after_reads_simp
  refine (bands4_apply _ _ _ _ g r i).trans ?_
  obtain ⟨rl, hrl⟩ : ∃ rl : Fin 4, rl = ⟨r.val / 64, by omega⟩ := ⟨_, rfl⟩
  rw [← hrl, show r.val / 64 = rl.val by rw [hrl]]
  generalize (⟨r.val % 64, by omega⟩ : Fin 64) = c
  clear hrl
  obtain rfl | rfl | rfl | rfl : rl = 0 ∨ rl = 1 ∨ rl = 2 ∨ rl = 3 := by omega
  · dsimp only [Matrix.cons_val]
    after_reads_simp
    refine (tiles12_apply _ _ _ _ _ _ _ _ _ _ _ _ g c i).trans ?_
    obtain ⟨q, hq⟩ : ∃ q : Fin 12, q = ⟨i.val / 64, by omega⟩ := ⟨_, rfl⟩
    rw [← hq, show i.val / 64 = q.val by rw [hq]]
    generalize (⟨i.val % 64, by omega⟩ : Fin 64) = k
    clear hq
    obtain rfl | rfl | rfl | rfl | rfl | rfl | rfl | rfl | rfl | rfl | rfl | rfl : q = 0 ∨ q = 1 ∨ q = 2 ∨ q = 3 ∨ q = 4 ∨ q = 5 ∨ q = 6 ∨ q = 7 ∨ q = 8 ∨ q = 9 ∨ q = 10 ∨ q = 11 := by omega
    · dsimp only [Matrix.cons_val]
      after_reads_simp
      exact masked_entry _ 2 0 0 g c k (by decide)
    · dsimp only [Matrix.cons_val]
      after_reads_simp
      exact masked_entry _ 2 0 1 g c k (by decide)
    · dsimp only [Matrix.cons_val]
      after_reads_simp
      exact masked_entry _ 2 0 2 g c k (by decide)
    · dsimp only [Matrix.cons_val]
      after_reads_simp
      exact masked_entry _ 2 0 3 g c k (by decide)
    · dsimp only [Matrix.cons_val]
      after_reads_simp
      exact real_entry _ 3 (by decide) _ 2 0 4 g c k (by decide) rfl
    · dsimp only [Matrix.cons_val]
      after_reads_simp
      exact real_entry _ 4 (by decide) _ 2 0 5 g c k (by decide) rfl
    · dsimp only [Matrix.cons_val]
      after_reads_simp
      exact real_entry _ 5 (by decide) _ 2 0 6 g c k (by decide) rfl
    · dsimp only [Matrix.cons_val]
      after_reads_simp
      exact real_entry _ 6 (by decide) _ 2 0 7 g c k (by decide) rfl
    · dsimp only [Matrix.cons_val]
      after_reads_simp
      exact real_entry _ 7 (by decide) _ 2 0 8 g c k (by decide) rfl
    · dsimp only [Matrix.cons_val]
      after_reads_simp
      exact real_entry _ 8 (by decide) _ 2 0 9 g c k (by decide) rfl
    · dsimp only [Matrix.cons_val]
      after_reads_simp
      exact real_entry _ 9 (by decide) _ 2 0 10 g c k (by decide) rfl
    · dsimp only [Matrix.cons_val]
      after_reads_simp
      exact real_entry _ 10 (by decide) _ 2 0 11 g c k (by decide) rfl
  · dsimp only [Matrix.cons_val]
    after_reads_simp
    refine (tiles12_apply _ _ _ _ _ _ _ _ _ _ _ _ g c i).trans ?_
    obtain ⟨q, hq⟩ : ∃ q : Fin 12, q = ⟨i.val / 64, by omega⟩ := ⟨_, rfl⟩
    rw [← hq, show i.val / 64 = q.val by rw [hq]]
    generalize (⟨i.val % 64, by omega⟩ : Fin 64) = k
    clear hq
    obtain rfl | rfl | rfl | rfl | rfl | rfl | rfl | rfl | rfl | rfl | rfl | rfl : q = 0 ∨ q = 1 ∨ q = 2 ∨ q = 3 ∨ q = 4 ∨ q = 5 ∨ q = 6 ∨ q = 7 ∨ q = 8 ∨ q = 9 ∨ q = 10 ∨ q = 11 := by omega
    · dsimp only [Matrix.cons_val]
      after_reads_simp
      exact masked_entry _ 2 1 0 g c k (by decide)
    · dsimp only [Matrix.cons_val]
      after_reads_simp
      exact masked_entry _ 2 1 1 g c k (by decide)
    · dsimp only [Matrix.cons_val]
      after_reads_simp
      exact masked_entry _ 2 1 2 g c k (by decide)
    · dsimp only [Matrix.cons_val]
      after_reads_simp
      exact masked_entry _ 2 1 3 g c k (by decide)
    · dsimp only [Matrix.cons_val]
      after_reads_simp
      exact real_entry _ 2 (by decide) _ 2 1 4 g c k (by decide) rfl
    · dsimp only [Matrix.cons_val]
      after_reads_simp
      exact real_entry _ 3 (by decide) _ 2 1 5 g c k (by decide) rfl
    · dsimp only [Matrix.cons_val]
      after_reads_simp
      exact real_entry _ 4 (by decide) _ 2 1 6 g c k (by decide) rfl
    · dsimp only [Matrix.cons_val]
      after_reads_simp
      exact real_entry _ 5 (by decide) _ 2 1 7 g c k (by decide) rfl
    · dsimp only [Matrix.cons_val]
      after_reads_simp
      exact real_entry _ 6 (by decide) _ 2 1 8 g c k (by decide) rfl
    · dsimp only [Matrix.cons_val]
      after_reads_simp
      exact real_entry _ 7 (by decide) _ 2 1 9 g c k (by decide) rfl
    · dsimp only [Matrix.cons_val]
      after_reads_simp
      exact real_entry _ 8 (by decide) _ 2 1 10 g c k (by decide) rfl
    · dsimp only [Matrix.cons_val]
      after_reads_simp
      exact real_entry _ 9 (by decide) _ 2 1 11 g c k (by decide) rfl
  · dsimp only [Matrix.cons_val]
    after_reads_simp
    refine (tiles12_apply _ _ _ _ _ _ _ _ _ _ _ _ g c i).trans ?_
    obtain ⟨q, hq⟩ : ∃ q : Fin 12, q = ⟨i.val / 64, by omega⟩ := ⟨_, rfl⟩
    rw [← hq, show i.val / 64 = q.val by rw [hq]]
    generalize (⟨i.val % 64, by omega⟩ : Fin 64) = k
    clear hq
    obtain rfl | rfl | rfl | rfl | rfl | rfl | rfl | rfl | rfl | rfl | rfl | rfl : q = 0 ∨ q = 1 ∨ q = 2 ∨ q = 3 ∨ q = 4 ∨ q = 5 ∨ q = 6 ∨ q = 7 ∨ q = 8 ∨ q = 9 ∨ q = 10 ∨ q = 11 := by omega
    · dsimp only [Matrix.cons_val]
      after_reads_simp
      exact masked_entry _ 2 2 0 g c k (by decide)
    · dsimp only [Matrix.cons_val]
      after_reads_simp
      exact masked_entry _ 2 2 1 g c k (by decide)
    · dsimp only [Matrix.cons_val]
      after_reads_simp
      exact masked_entry _ 2 2 2 g c k (by decide)
    · dsimp only [Matrix.cons_val]
      after_reads_simp
      exact masked_entry _ 2 2 3 g c k (by decide)
    · dsimp only [Matrix.cons_val]
      after_reads_simp
      exact real_entry _ 1 (by decide) _ 2 2 4 g c k (by decide) rfl
    · dsimp only [Matrix.cons_val]
      after_reads_simp
      exact real_entry _ 2 (by decide) _ 2 2 5 g c k (by decide) rfl
    · dsimp only [Matrix.cons_val]
      after_reads_simp
      exact real_entry _ 3 (by decide) _ 2 2 6 g c k (by decide) rfl
    · dsimp only [Matrix.cons_val]
      after_reads_simp
      exact real_entry _ 4 (by decide) _ 2 2 7 g c k (by decide) rfl
    · dsimp only [Matrix.cons_val]
      after_reads_simp
      exact real_entry _ 5 (by decide) _ 2 2 8 g c k (by decide) rfl
    · dsimp only [Matrix.cons_val]
      after_reads_simp
      exact real_entry _ 6 (by decide) _ 2 2 9 g c k (by decide) rfl
    · dsimp only [Matrix.cons_val]
      after_reads_simp
      exact real_entry _ 7 (by decide) _ 2 2 10 g c k (by decide) rfl
    · dsimp only [Matrix.cons_val]
      after_reads_simp
      exact real_entry _ 8 (by decide) _ 2 2 11 g c k (by decide) rfl
  · dsimp only [Matrix.cons_val]
    after_reads_simp
    refine (tiles12_apply _ _ _ _ _ _ _ _ _ _ _ _ g c i).trans ?_
    obtain ⟨q, hq⟩ : ∃ q : Fin 12, q = ⟨i.val / 64, by omega⟩ := ⟨_, rfl⟩
    rw [← hq, show i.val / 64 = q.val by rw [hq]]
    generalize (⟨i.val % 64, by omega⟩ : Fin 64) = k
    clear hq
    obtain rfl | rfl | rfl | rfl | rfl | rfl | rfl | rfl | rfl | rfl | rfl | rfl : q = 0 ∨ q = 1 ∨ q = 2 ∨ q = 3 ∨ q = 4 ∨ q = 5 ∨ q = 6 ∨ q = 7 ∨ q = 8 ∨ q = 9 ∨ q = 10 ∨ q = 11 := by omega
    · dsimp only [Matrix.cons_val]
      after_reads_simp
      exact masked_entry _ 2 3 0 g c k (by decide)
    · dsimp only [Matrix.cons_val]
      after_reads_simp
      exact masked_entry _ 2 3 1 g c k (by decide)
    · dsimp only [Matrix.cons_val]
      after_reads_simp
      exact masked_entry _ 2 3 2 g c k (by decide)
    · dsimp only [Matrix.cons_val]
      after_reads_simp
      exact masked_entry _ 2 3 3 g c k (by decide)
    · dsimp only [Matrix.cons_val]
      after_reads_simp
      exact real_entry _ 0 (by decide) _ 2 3 4 g c k (by decide) rfl
    · dsimp only [Matrix.cons_val]
      after_reads_simp
      exact real_entry _ 1 (by decide) _ 2 3 5 g c k (by decide) rfl
    · dsimp only [Matrix.cons_val]
      after_reads_simp
      exact real_entry _ 2 (by decide) _ 2 3 6 g c k (by decide) rfl
    · dsimp only [Matrix.cons_val]
      after_reads_simp
      exact real_entry _ 3 (by decide) _ 2 3 7 g c k (by decide) rfl
    · dsimp only [Matrix.cons_val]
      after_reads_simp
      exact real_entry _ 4 (by decide) _ 2 3 8 g c k (by decide) rfl
    · dsimp only [Matrix.cons_val]
      after_reads_simp
      exact real_entry _ 5 (by decide) _ 2 3 9 g c k (by decide) rfl
    · dsimp only [Matrix.cons_val]
      after_reads_simp
      exact real_entry _ 6 (by decide) _ 2 3 10 g c k (by decide) rfl
    · dsimp only [Matrix.cons_val]
      after_reads_simp
      exact real_entry _ 7 (by decide) _ 2 3 11 g c k (by decide) rfl

/-- The contents before the three tables are stacked. -/
def beforeStack (w : Valuation τ sig (Elt Ideal)) : Valuation τ sig (Elt Ideal) := StableHlo.upto hostOps0_2 w 209

theorem before_v73 (w : Valuation τ sig (Elt Ideal)) :
    beforeStack w (Proc.devRef .tc main_v73) = StableHlo.after hostOps0_2 w (Proc.devRef .tc main_v73) := by
  unfold beforeStack
  after_reads_simp

theorem before_v142 (w : Valuation τ sig (Elt Ideal)) :
    beforeStack w (Proc.devRef .tc main_v142) = StableHlo.after hostOps0_2 w (Proc.devRef .tc main_v142) := by
  unfold beforeStack
  after_reads_simp

theorem before_v211 (w : Valuation τ sig (Elt Ideal)) :
    beforeStack w (Proc.devRef .tc main_v211) = StableHlo.after hostOps0_2 w (Proc.devRef .tc main_v211) := by
  unfold beforeStack
  after_reads_simp

/-- The bias array: table `v`, head `g`, query `r` of the block, staged key `i`. -/
theorem bias_apply (w : Valuation τ sig (Elt Ideal)) (v : Fin 3) (g : Fin 32) (r : Fin 256) (i : Fin 768) :
    StableHlo.after hostOps0_2 w (Proc.devRef .tc main_v215) (ix4 v g r i)
      = tabEntry (w (Proc.devRef .tc main_v3)) v.val g (r.val / 64) (i.val / 64) ⟨r.val % 64, by omega⟩ ⟨i.val % 64, by omega⟩ := by
  have hs : StableHlo.after hostOps0_2 w = StableHlo.after (List.drop 209 hostOps0_2) (beforeStack w) := by
    rw [beforeStack, StableHlo.upto, ← StableHlo.after_append, List.take_append_drop]
  have e0 := (congrFun (before_v73 w) (ix3 g r i)).trans (table0_apply w g r i)
  have e1 := (congrFun (before_v142 w) (ix3 g r i)).trans (table1_apply w g r i)
  have e2 := (congrFun (before_v211 w) (ix3 g r i)).trans (table2_apply w g r i)
  rw [hs]
  generalize beforeStack w = w' at e0 e1 e2 ⊢
  simp only [hostOps0_2, List.drop_succ_cons, List.drop_zero]
  after_reads_simp
  refine (tables3_apply _ _ _ v g r i).trans ?_
  obtain rfl | rfl | rfl : v = 0 ∨ v = 1 ∨ v = 2 := by omega
  · dsimp only [Matrix.cons_val]
    after_reads_simp
    exact (lead_apply _ g r i).trans e0
  · dsimp only [Matrix.cons_val]
    after_reads_simp
    exact (lead_apply _ g r i).trans e1
  · dsimp only [Matrix.cons_val]
    after_reads_simp
    exact (lead_apply _ g r i).trans e2

end Cert.KernelIdeal.Att

end
-- ==== Proof.Tab.Cols.lean ====
/- Which columns a query column attends to, and the mask table the kernel's host code holds. -/
module

public import proofs.«01_k».proof.KernelIdeal

@[expose] public section

set_option maxRecDepth 100000

namespace Cert.KernelIdeal.Tab

open Cert.KernelIdeal

/-- The first of the sixteen columns query column `c` attends to. -/
def firstCol (c : ℕ) : ℕ := min (c - 8) 48

/-- Whether query column `c` attends to column `k`. -/
def colOk (c k : ℕ) : Bool := firstCol c ≤ k && k < firstCol c + 16

/-- The mask table is `colOk`. -/
theorem lit1_eq : ∀ c k : Fin 64, lit1t (c.val * 64 + k.val) = if colOk c.val k.val then 1#1 else 0#1 := by
  decide +kernel

end Cert.KernelIdeal.Tab
-- ==== Proof.Tab.T0.lean ====
/- The one-hot table of column offsets, for query columns 0 to 15. -/
module

public import proofs.«01_k».proof.Proof.Tab.Cols

@[expose] public section

set_option maxRecDepth 100000

namespace Cert.KernelIdeal.Tab

open Cert.KernelIdeal

/-- Inside the window the table is one where the offset is the column's, zero elsewhere (query columns 0 to 15). -/
theorem lit0_eq0 : ∀ (d : Fin 31) (c b : Fin 16),
    lit0t (d.val * 4096 + (c.val + 0) * 64 + (firstCol (c.val + 0) + b.val))
      = if firstCol (c.val + 0) + b.val + 15 = c.val + 0 + d.val then 0x3F800000#32 else 0#32 := by
  decide +kernel

end Cert.KernelIdeal.Tab
-- ==== Proof.Tab.T1.lean ====
/- The one-hot table of column offsets, for query columns 16 to 31. -/
module

public import proofs.«01_k».proof.Proof.Tab.Cols

@[expose] public section

set_option maxRecDepth 100000

namespace Cert.KernelIdeal.Tab

open Cert.KernelIdeal

/-- Inside the window the table is one where the offset is the column's, zero elsewhere (query columns 16 to 31). -/
theorem lit0_eq1 : ∀ (d : Fin 31) (c b : Fin 16),
    lit0t (d.val * 4096 + (c.val + 16) * 64 + (firstCol (c.val + 16) + b.val))
      = if firstCol (c.val + 16) + b.val + 15 = c.val + 16 + d.val then 0x3F800000#32 else 0#32 := by
  decide +kernel

end Cert.KernelIdeal.Tab
-- ==== Proof.Tab.T2.lean ====
/- The one-hot table of column offsets, for query columns 32 to 47. -/
module

public import proofs.«01_k».proof.Proof.Tab.Cols

@[expose] public section

set_option maxRecDepth 100000

namespace Cert.KernelIdeal.Tab

open Cert.KernelIdeal

/-- Inside the window the table is one where the offset is the column's, zero elsewhere (query columns 32 to 47). -/
theorem lit0_eq2 : ∀ (d : Fin 31) (c b : Fin 16),
    lit0t (d.val * 4096 + (c.val + 32) * 64 + (firstCol (c.val + 32) + b.val))
      = if firstCol (c.val + 32) + b.val + 15 = c.val + 32 + d.val then 0x3F800000#32 else 0#32 := by
  decide +kernel

end Cert.KernelIdeal.Tab
-- ==== Proof.Tab.T3.lean ====
/- The one-hot table of column offsets, for query columns 48 to 63. -/
module

public import proofs.«01_k».proof.Proof.Tab.Cols

@[expose] public section

set_option maxRecDepth 100000

namespace Cert.KernelIdeal.Tab

open Cert.KernelIdeal

/-- Inside the window the table is one where the offset is the column's, zero elsewhere (query columns 48 to 63). -/
theorem lit0_eq3 : ∀ (d : Fin 31) (c b : Fin 16),
    lit0t (d.val * 4096 + (c.val + 48) * 64 + (firstCol (c.val + 48) + b.val))
      = if firstCol (c.val + 48) + b.val + 15 = c.val + 48 + d.val then 0x3F800000#32 else 0#32 := by
  decide +kernel

end Cert.KernelIdeal.Tab
-- ==== Proof.Tab.All.lean ====
/- The one-hot table of column offsets, inside the window of every query column. -/
module

public import proofs.«01_k».proof.Proof.Tab.T0
public import proofs.«01_k».proof.Proof.Tab.T1
public import proofs.«01_k».proof.Proof.Tab.T2
public import proofs.«01_k».proof.Proof.Tab.T3

@[expose] public section

set_option maxRecDepth 16384

namespace Cert.KernelIdeal.Tab

open Cert.KernelIdeal

theorem firstCol_le {c : ℕ} : firstCol c ≤ 48 := min_le_right _ _

/-- A table that is one-hot inside the window for each sixteen query columns is so for every query column. -/
theorem glue (f : ℕ → BitVec 32)
    (H0 : ∀ (d : Fin 31) (c b : Fin 16),
      f (d.val * 4096 + (c.val + 0) * 64 + (firstCol (c.val + 0) + b.val))
        = if firstCol (c.val + 0) + b.val + 15 = c.val + 0 + d.val then 0x3F800000#32 else 0#32)
    (H1 : ∀ (d : Fin 31) (c b : Fin 16),
      f (d.val * 4096 + (c.val + 16) * 64 + (firstCol (c.val + 16) + b.val))
        = if firstCol (c.val + 16) + b.val + 15 = c.val + 16 + d.val then 0x3F800000#32 else 0#32)
    (H2 : ∀ (d : Fin 31) (c b : Fin 16),
      f (d.val * 4096 + (c.val + 32) * 64 + (firstCol (c.val + 32) + b.val))
        = if firstCol (c.val + 32) + b.val + 15 = c.val + 32 + d.val then 0x3F800000#32 else 0#32)
    (H3 : ∀ (d : Fin 31) (c b : Fin 16),
      f (d.val * 4096 + (c.val + 48) * 64 + (firstCol (c.val + 48) + b.val))
        = if firstCol (c.val + 48) + b.val + 15 = c.val + 48 + d.val then 0x3F800000#32 else 0#32)
    (d : Fin 31) (c k : Fin 64) (h : colOk c.val k.val = true) :
    f (d.val * 4096 + c.val * 64 + k.val) = if k.val + 15 = c.val + d.val then 0x3F800000#32 else 0#32 := by
  obtain ⟨h1, h2⟩ : firstCol c.val ≤ k.val ∧ k.val < firstCol c.val + 16 := by
    simpa [colOk] using h
  have hc := c.isLt
  have e2 : firstCol c.val + (k.val - firstCol c.val) = k.val := by omega
  rcases lt_or_ge c.val 16 with g | g
  · have e := H0 d ⟨c.val, g⟩ ⟨k.val - firstCol c.val, by omega⟩
    simpa only [Nat.add_zero, e2] using e
  rcases lt_or_ge c.val 32 with g' | g'
  · have e := H1 d ⟨c.val - 16, by omega⟩ ⟨k.val - firstCol c.val, by omega⟩
    simpa only [Nat.sub_add_cancel g, e2] using e
  rcases lt_or_ge c.val 48 with g'' | g''
  · have e := H2 d ⟨c.val - 32, by omega⟩ ⟨k.val - firstCol c.val, by omega⟩
    simpa only [Nat.sub_add_cancel g', e2] using e
  · have e := H3 d ⟨c.val - 48, by omega⟩ ⟨k.val - firstCol c.val, by omega⟩
    simpa only [Nat.sub_add_cancel g'', e2] using e

/-- Inside the window the table is one where the offset is the column's, zero elsewhere. -/
theorem lit0_eq (d : Fin 31) (c k : Fin 64) (h : colOk c.val k.val = true) :
    lit0t (d.val * 4096 + c.val * 64 + k.val) = if k.val + 15 = c.val + d.val then 0x3F800000#32 else 0#32 :=
  glue (fun i => lit0t i) lit0_eq0 lit0_eq1 lit0_eq2 lit0_eq3 d c k h

end Cert.KernelIdeal.Tab
-- ==== Proof.Att.Tile.lean ====
/- The per-offset bias tiles: the entry of the relative-position table inside the window, minus infinity outside it. -/
module

public import proofs.«01_k».proof.Proof.Att.Bias
public import proofs.«01_k».proof.Proof.Tab.All

@[expose] public section

set_option maxRecDepth 16384

noncomputable section

namespace Cert.KernelIdeal.Att

open Cert.KernelIdeal Cert.KernelIdeal.Gen Idealize.ShloMosaic Idealize.ShloMosaic.TcCoe Idealize.SL.Sem
open Cert.KernelIdeal.Tab (colOk firstCol lit0_eq lit1_eq)

/-- The tiles over any mask table and any expansion table. -/
def tiles (L0 : Fin 126976 → BitVec 32) (L1 : Fin 4096 → BitVec 1) (A : Vec Ideal S2x16x15x31 .f32) : Vec Ideal S32x15x64x64 .f32 :=
  select (broadcastInDim S32x15x64x64 ![2, 3] bcast_S64x64_S32x15x64x64_2_3 (fun i => L1 (S64x64.rowMajor i)))
    (shapeCast S32x15x64x64 (Host.dotGeneral (F := Ideal) (φ₁ := .f32) (φ₂ := .f32) dot_S32x15x31_S31x4096_S32x15x4096_2_0_01_1_n_n (some ContractPrecision.fp32)
      (shapeCast S32x15x31 A shapeCasts_S2x16x15x31_S32x15x31) (fun i => FloatOps.ofBits FTy.f32 (L0 (S31x4096.rowMajor i))))
      shapeCasts_S32x15x4096_S32x15x64x64)
    (broadcastInDim S32x15x64x64 ![] bcast_S_S32x15x64x64 (constant (F := Ideal) S_ FTy.f32 0xFF800000#32))

/-- The tiles read at an index. -/
theorem tiles_apply (L0 : Fin 126976 → BitVec 32) (L1 : Fin 4096 → BitVec 1) (A : Vec Ideal S2x16x15x31 .f32)
    (g : Fin 32) (n : Fin 15) (c k : Fin 64) : tiles L0 L1 A (ix4 g n c k)
    = Scalar.select (L1 ⟨c.val * 64 + k.val, by omega⟩)
        (∑ d : Fin 31, (A (ix4 ⟨g.val / 16, by omega⟩ ⟨g.val % 16, by omega⟩ n d) : EReal)
          * Ideal.ofBits .f32 (L0 ⟨d.val * 4096 + c.val * 64 + k.val, by omega⟩))
        (Ideal.ofBits .f32 0xFF800000#32) := by
  pointwise [tiles]
  have e1 : S64x64.rowMajor (ix2 c k) = (⟨c.val * 64 + k.val, by omega⟩ : Fin 4096) := Fin.ext (Shape.rowMajor_val_two _)
  have e0 : ∀ d : Fin 31, S31x4096.rowMajor (ix2 d ⟨c.val * 64 + k.val, by omega⟩) = (⟨d.val * 4096 + c.val * 64 + k.val, by omega⟩ : Fin 126976) :=
    fun d => Fin.ext ((Shape.rowMajor_val_two _).trans (by
      show d.val * 4096 + (c.val * 64 + k.val) = d.val * 4096 + c.val * 64 + k.val; omega))
  rw [e1]
  simp only [e0]

theorem ofBits_one : Ideal.ofBits .f32 0x3F800000#32 = (1 : EReal) := by
  simp [Ideal.ofBits, Ideal.ieee]; rw [← EReal.coe_mul]; norm_num
theorem ofBits_zero : Ideal.ofBits .f32 0#32 = (0 : EReal) := by
  simp [Ideal.ofBits, Ideal.ieee]

variable (m : (ℓ : Loc nD τ sig) → Buf (Elt Ideal) ℓ)

/-- The tiles the kernel's host code computes. -/
theorem v3_read (c : Dev nD) : StableHlo.after (hostOps0 ++ hostOps0_1) (fun b => m (c, b)) (Proc.devRef .tc main_v3)
    = tiles lit0 lit1 (m ((c : Thread nD τ).loc main_arg2)) := by
  after_reads_simp
  generalize lit0 = L0
  generalize lit1 = L1
  rfl

/-- A table entry times a one-hot row is the entry at the hot place. -/
theorem hot_sum (a : Fin 31 → EReal) (t : Fin 31 → BitVec 32) (c k : ℕ) (d0 : Fin 31)
    (ht : ∀ d : Fin 31, t d = if k + 15 = c + d.val then 0x3F800000#32 else 0#32) (hd : k + 15 = c + d0.val) :
    ∑ d : Fin 31, a d * Ideal.ofBits .f32 (t d) = a d0 := by
  rw [Finset.sum_eq_single d0]
  · rw [ht, if_pos hd, ofBits_one, mul_one]
  · intro d _ hne
    rw [ht, if_neg (fun h => hne (Fin.ext (by omega))), ofBits_zero, mul_zero]
  · exact fun h => absurd (Finset.mem_univ _) h

theorem colOk_iff (c k : ℕ) : colOk c k = true ↔ firstCol c ≤ k ∧ k < firstCol c + 16 := by
  simp [colOk]

/-- Inside the window a tile's entry is the relative-position table's. -/
theorem tile_in (A : Vec Ideal S2x16x15x31 .f32) (g : Fin 16) (n : Fin 15) (c k : Fin 64) (h : colOk c.val k.val = true)
    (hd : k.val + 15 - c.val < 31) :
    tiles lit0 lit1 A (ix4 ⟨g.val, by omega⟩ n c k) = A (ix4 0 g n ⟨k.val + 15 - c.val, hd⟩) := by
  have hk := (colOk_iff _ _).mp h
  rw [tiles_apply]
  have e1 : lit1 ⟨c.val * 64 + k.val, by omega⟩ = 1#1 := (lit1_eq c k).trans (if_pos h)
  have e0 : ∀ d : Fin 31, lit0 ⟨d.val * 4096 + c.val * 64 + k.val, by omega⟩
      = if k.val + 15 = c.val + d.val then 0x3F800000#32 else 0#32 := fun d => lit0_eq d c k h
  rw [e1]
  generalize lit0 = L0 at e0 ⊢
  refine (hot_sum (fun d => A (ix4 _ _ n d)) (fun d => L0 _) c.val k.val ⟨k.val + 15 - c.val, hd⟩ e0
    (by have : firstCol c.val = min (c.val - 8) 48 := rfl; show _ = c.val + (k.val + 15 - c.val); omega)).trans ?_
  refine congrArg A ?_
  rw [show (⟨g.val / 16, by omega⟩ : Fin 2) = 0 from Fin.ext (by show g.val / 16 = 0; omega),
    show (⟨g.val % 16, by omega⟩ : Fin 16) = g from Fin.ext (by show g.val % 16 = g.val; omega)]

theorem ofBits_bot : Ideal.ofBits .f32 0xFF800000#32 = (⊥ : EReal) := by
  simp [Ideal.ofBits, Ideal.ieee]

/-- Outside the window a tile's entry is minus infinity. -/
theorem tile_out (A : Vec Ideal S2x16x15x31 .f32) (g : Fin 32) (n : Fin 15) (c k : Fin 64) (h : colOk c.val k.val = false) :
    tiles lit0 lit1 A (ix4 g n c k) = (⊥ : EReal) := by
  rw [tiles_apply]
  have e1 : lit1 ⟨c.val * 64 + k.val, by omega⟩ = 0#1 := (lit1_eq c k).trans (if_neg (by rw [h]; decide))
  rw [e1]
  exact ofBits_bot

/-- THE BIAS ARRAY when the kernel starts: the table's entry. -/
theorem bias_read (c : Dev nD) (v : Fin 3) (g : Fin 32) (r : Fin 256) (i : Fin 768) :
    V m c main_v215 (ix4 v g r i) = tabEntry (tiles lit0 lit1 (m ((c : Thread nD τ).loc main_arg2))) v.val g
      (r.val / 64) (i.val / 64) ⟨r.val % 64, by omega⟩ ⟨i.val % 64, by omega⟩ := by
  have hs : V m c main_v215 = StableHlo.after hostOps0_2 (StableHlo.after (hostOps0 ++ hostOps0_1) (fun b => m (c, b)))
      (Proc.devRef .tc main_v215) := by
    rw [← StableHlo.after_append]
    unfold V
    simp only [List.flatten_cons, List.flatten_nil, List.append_nil, List.append_assoc]
  rw [hs, bias_apply, v3_read]

end Cert.KernelIdeal.Att

end
-- ==== Proof.Att.RefIdx.lean ====
/- The reference's index arrays: the grid row and column of a query, and the window it attends to. -/
module

public import proofs.«01_k».proof.Proof.Gen.ReferenceIdeal.Read
public import Idealize.ShloMosaic.Lib.Pointwise

@[expose] public section

set_option maxRecDepth 65536

noncomputable section

namespace Cert.ReferenceIdeal.Att

open Cert.ReferenceIdeal Cert.ReferenceIdeal.Gen Cert.ReferenceIdeal.Read Idealize.ShloMosaic

/-- The first grid row of a query row's window. -/
def winRow (r : ℕ) : ℕ := min (r - 4) 120

/-- The first column of a query column's window. -/
def winCol (c : ℕ) : ℕ := min (c - 8) 48

/-- Query `s` is in grid row `s / 64`. -/
theorem v20_eq (s : Fin 8192) : val_main_v20 (F := Ideal) (ix1 s) = BitVec.ofNat 32 (s.val / 64) := by
  pointwise [val_main_v19, val_main_c, val_main_call0_v0, val_main_call0_v1, val_main_call0_v2, val_main_call0_v3, val_main_call0_v4, val_main_call0_v5, val_main_call0_v6, val_main_call0_v7, val_main_call0_v8, val_main_call0_c, val_main_call0_v9, val_main_call0_v10, val_main_call0_v11, val_main_call0_c_0, val_main_call0_v12, val_main_call0_v13, val_main_v20]
  revert s
  decide +kernel

/-- Query `s` is in column `s % 64`. -/
theorem v22_eq (s : Fin 8192) : val_main_v22 (F := Ideal) (ix1 s) = BitVec.ofNat 32 (s.val % 64) := by
  pointwise [val_main_v21, val_main_c_0, val_main_call1_v0, val_main_call1_c, val_main_call1_v1, val_main_call1_c_0, val_main_call1_v2, val_main_call1_v3, val_main_call1_v4, val_main_call1_c_1, val_main_call1_v5, val_main_call1_v6, val_main_call1_c_2, val_main_call1_v7, val_main_call1_v8, val_main_call1_c_3, val_main_call1_v9, val_main_call1_v10, val_main_call1_v11, val_main_call1_v12, val_main_call1_v13, val_main_call1_v14, val_main_v22]
  revert s
  decide +kernel

/-- The first row of query `s`'s window. -/
theorem v25_eq (s : Fin 8192) : val_main_v25 (F := Ideal) (ix1 s) = BitVec.ofNat 32 (winRow (s.val / 64)) := by
  pointwise [val_main_c_1, val_main_v23, val_main_v24, val_main_c_2, val_main_c_3, val_main_call2_v0, val_main_call2_v1, val_main_call2_v2, val_main_call2_v3, val_main_call2_v4, val_main_v25]
  simp only [v20_eq]
  revert s
  decide +kernel

/-- The first column of query `s`'s window. -/
theorem v28_eq (s : Fin 8192) : val_main_v28 (F := Ideal) (ix1 s) = BitVec.ofNat 32 (winCol (s.val % 64)) := by
  pointwise [val_main_c_4, val_main_v26, val_main_v27, val_main_c_5, val_main_c_6, val_main_call3_v0, val_main_call3_v1, val_main_call3_v2, val_main_call3_v3, val_main_call3_v4, val_main_v28]
  simp only [v22_eq]
  revert s
  decide +kernel

/-- Key `s` of a window is in its row `s / 16`. -/
theorem v30_eq (s : Fin 128) : val_main_v30 (F := Ideal) (ix1 s) = BitVec.ofNat 32 (s.val / 16) := by
  pointwise [val_main_v29, val_main_c_7, val_main_call4_v0, val_main_call4_v1, val_main_call4_v2, val_main_call4_v3, val_main_call4_v4, val_main_call4_v5, val_main_call4_v6, val_main_call4_v7, val_main_call4_v8, val_main_call4_c, val_main_call4_v9, val_main_call4_v10, val_main_call4_v11, val_main_call4_c_0, val_main_call4_v12, val_main_call4_v13, val_main_v30]
  revert s
  decide +kernel

/-- Key `s` of a window is in its column `s % 16`. -/
theorem v32_eq (s : Fin 128) : val_main_v32 (F := Ideal) (ix1 s) = BitVec.ofNat 32 (s.val % 16) := by
  pointwise [val_main_v31, val_main_c_8, val_main_call5_v0, val_main_call5_c, val_main_call5_v1, val_main_call5_c_0, val_main_call5_v2, val_main_call5_v3, val_main_call5_v4, val_main_call5_c_1, val_main_call5_v5, val_main_call5_v6, val_main_call5_c_2, val_main_call5_v7, val_main_call5_v8, val_main_call5_c_3, val_main_call5_v9, val_main_call5_v10, val_main_call5_v11, val_main_call5_v12, val_main_call5_v13, val_main_call5_v14, val_main_v32]
  revert s
  decide +kernel

/-- A non-negative index is kept by the wrap of negative indices. -/
theorem keep (n : ℕ) (h : n < 2147483648) (y : BitVec 32) :
    Scalar.select (IntOp.cmpi .slt (BitVec.ofNat 32 n) 0#32) y (BitVec.ofNat 32 n) = BitVec.ofNat 32 n := by
  have e : (BitVec.ofNat 32 n).slt 0#32 = false := by
    rw [BitVec.slt_eq_decide, BitVec.toInt_ofNat', decide_eq_false_iff_not]
    simp only [BitVec.toInt_zero, Int.bmod]
    have : ((n : ℤ) % 4294967296) = n := by omega
    simp [this]
    omega
  have e' : IntOp.cmpi .slt (BitVec.ofNat 32 n) 0#32 = 0#1 := by
    simp [IntOp.cmpi, e]
  rw [e']
  rfl

/-- The array row key `a` of query `s`'s window is gathered from. -/
theorem v74_eq (s : Fin 8192) (a : Fin 128) : val_main_v74 (F := Ideal) (ix2 s a)
    = BitVec.ofNat 32 ((winRow (s.val / 64) + a.val / 16) * 64 + (winCol (s.val % 64) + a.val % 16)) := by
  pointwise [val_main_v33, val_main_v34, val_main_v35, val_main_v36, val_main_v37, val_main_v38, val_main_v39, val_main_v40, val_main_v41, val_main_v42, val_main_c_9, val_main_v43, val_main_v44, val_main_v45, val_main_c_16, val_main_v70, val_main_v71, val_main_c_17, val_main_v72, val_main_v73, val_main_v74]
  simp only [v25_eq, v28_eq, v30_eq, v32_eq]
  have e : IntOp.addi (IntOp.muli (IntOp.addi (BitVec.ofNat 32 (winRow (s.val / 64))) (BitVec.ofNat 32 (a.val / 16))) 64#32)
        (IntOp.addi (BitVec.ofNat 32 (winCol (s.val % 64))) (BitVec.ofNat 32 (a.val % 16)))
      = BitVec.ofNat 32 ((winRow (s.val / 64) + a.val / 16) * 64 + (winCol (s.val % 64) + a.val % 16)) := by
    simp only [IntOp.addi, IntOp.muli, ← BitVec.ofNat_add, ← BitVec.ofNat_mul]
  rw [e]
  exact keep _ (by unfold winRow winCol; omega) _

/-- The same index, for the gather of the values. -/
theorem v81_eq (s : Fin 8192) (a : Fin 128) : val_main_v81 (F := Ideal) (ix2 s a)
    = BitVec.ofNat 32 ((winRow (s.val / 64) + a.val / 16) * 64 + (winCol (s.val % 64) + a.val % 16)) :=
  (show val_main_v81 (F := Ideal) (ix2 s a) = val_main_v74 (F := Ideal) (ix2 s a) from rfl).trans (v74_eq s a)

/-- The row of the bias table for key `a` of query `s`'s window. -/
theorem v60_eq (s : Fin 8192) (a : Fin 128) : val_main_v60 (F := Ideal) (ix2 s a)
    = BitVec.ofNat 32 (winRow (s.val / 64) + a.val / 16 + 7 - s.val / 64) := by
  pointwise [val_main_v33, val_main_v34, val_main_v35, val_main_v36, val_main_v37, val_main_v46, val_main_v47, val_main_v48, val_main_c_10, val_main_v49, val_main_v50, val_main_c_12, val_main_v56, val_main_v57, val_main_c_13, val_main_v58, val_main_v59, val_main_v60]
  simp only [v25_eq, v28_eq, v30_eq, v32_eq, v20_eq, v22_eq]
  obtain ⟨r, hr⟩ : ∃ r : Fin 128, r.val = s.val / 64 := ⟨⟨s.val / 64, by omega⟩, rfl⟩
  obtain ⟨b, hb⟩ : ∃ b : Fin 8, b.val = a.val / 16 := ⟨⟨a.val / 16, by omega⟩, rfl⟩
  rw [← hr, ← hb]
  clear hr hb s a
  revert r b
  decide +kernel

/-- The column of the bias table for key `a` of query `s`'s window. -/
theorem v65_eq (s : Fin 8192) (a : Fin 128) : val_main_v65 (F := Ideal) (ix2 s a)
    = BitVec.ofNat 32 (winCol (s.val % 64) + a.val % 16 + 15 - s.val % 64) := by
  pointwise [val_main_v38, val_main_v39, val_main_v40, val_main_v41, val_main_v42, val_main_v51, val_main_v52, val_main_v53, val_main_c_11, val_main_v54, val_main_v55, val_main_c_14, val_main_v61, val_main_v62, val_main_c_15, val_main_v63, val_main_v64, val_main_v65]
  simp only [v25_eq, v28_eq, v30_eq, v32_eq, v20_eq, v22_eq]
  obtain ⟨r, hr⟩ : ∃ r : Fin 64, r.val = s.val % 64 := ⟨⟨s.val % 64, by omega⟩, rfl⟩
  obtain ⟨b, hb⟩ : ∃ b : Fin 16, b.val = a.val % 16 := ⟨⟨a.val % 16, by omega⟩, rfl⟩
  rw [← hr, ← hb]
  clear hr hb s a
  revert r b
  decide +kernel

end Cert.ReferenceIdeal.Att

end
-- ==== Proof.Att.Gather.lean ====
/- The reference's two gathers read at an index. -/
module

public import proofs.«01_k».proof.Proof.Gen.ReferenceIdeal.Read
public import Idealize.ShloMosaic.Lib.Pointwise

@[expose] public section

set_option maxRecDepth 16384

noncomputable section

namespace Cert.ReferenceIdeal.Att

open Cert.ReferenceIdeal Cert.ReferenceIdeal.Gen Idealize.ShloMosaic

/-- Gathering rows: result `(s, a, g, d)` is the operand's row named by the start index `(s, a)`, at `(g, d)`. -/
theorem gather_rows {α : Type} (x : S8192x16x128.Idx → α) (idx : IVec S8192x128x1 32)
    (s : Fin 8192) (a : Fin 128) (g : Fin 16) (d : Fin 128) :
    Host.gather gather_S8192x16x128_S8192x128x1_S8192x128x16x128_23_0_n_n_0_2_116128 x idx (ix4 s a g d)
      = x (ix3 ⟨min (idx (ix3 s a 0)).toInt.toNat 8191, by omega⟩ g d) := by
  unfold Host.gather
  congr 1
  funext b
  refine Fin.ext ?_
  generalize hG : gather_S8192x16x128_S8192x128x1_S8192x128x16x128_23_0_n_n_0_2_116128 = G
  show G.start (ix4 s a g d) idx b + G.batchCoord (ix4 s a g d) b + G.offCoord (ix4 s a g d) b = _
  subst hG
  rw [GatherDims.batchCoord_eq_zero _ _ _ List.not_mem_nil]
  match b with
  | ⟨0, _⟩ =>
    rw [GatherDims.offCoord_eq_zero _ _ _ (fun h => ((GatherDims.mem_sKept _ _).mp h).1 (List.mem_singleton.mpr rfl))]
    unfold GatherDims.start
    rw [dif_pos (by simp [gather_S8192x16x128_S8192x128x1_S8192x128x16x128_23_0_n_n_0_2_116128])]
    simp only [Nat.add_zero]
    have hsi : ∀ p, gather_S8192x16x128_S8192x128x1_S8192x128x16x128_23_0_n_n_0_2_116128.siIdx (ix4 s a g d) p = ix3 s a 0 := by
      intro p; funext b; refine Fin.ext ?_
      match b with
      | ⟨0, _⟩ => rfl
      | ⟨1, _⟩ => rfl
      | ⟨2, h⟩ => exact congrArg Fin.val (Subsingleton.elim (α := Fin 1) _ _)
    rw [hsi]
    rfl
  | ⟨1, _⟩ =>
    unfold GatherDims.start
    rw [dif_neg (by simp [gather_S8192x16x128_S8192x128x1_S8192x128x16x128_23_0_n_n_0_2_116128])]
    simp only [Nat.zero_add]
    rfl
  | ⟨2, _⟩ =>
    unfold GatherDims.start
    rw [dif_neg (by simp [gather_S8192x16x128_S8192x128x1_S8192x128x16x128_23_0_n_n_0_2_116128])]
    simp only [Nat.zero_add]
    rfl

/-- Gathering the bias: result `(g, s, a)` is head `g`'s table at the two start indices of `(s, a)`. -/
theorem gather_bias {α : Type} (x : S16x15x31.Idx → α) (idx : IVec S8192x128x2 32)
    (g : Fin 16) (s : Fin 8192) (a : Fin 128) :
    Host.gather gather_S16x15x31_S8192x128x2_S16x8192x128_0_12_n_n_12_2_1611 x idx (ix3 g s a)
      = x (ix3 g ⟨min (idx (ix3 s a 0)).toInt.toNat 14, by omega⟩ ⟨min (idx (ix3 s a 1)).toInt.toNat 30, by omega⟩) := by
  unfold Host.gather
  congr 1
  funext b
  refine Fin.ext ?_
  generalize hG : gather_S16x15x31_S8192x128x2_S16x8192x128_0_12_n_n_12_2_1611 = G
  show G.start (ix3 g s a) idx b + G.batchCoord (ix3 g s a) b + G.offCoord (ix3 g s a) b = _
  subst hG
  rw [GatherDims.batchCoord_eq_zero _ _ _ List.not_mem_nil]
  match b with
  | ⟨0, _⟩ =>
    unfold GatherDims.start
    rw [dif_neg (by simp [gather_S16x15x31_S8192x128x2_S16x8192x128_0_12_n_n_12_2_1611])]
    simp only [Nat.zero_add]
    rfl
  | ⟨1, _⟩ =>
    rw [GatherDims.offCoord_eq_zero _ _ _ (fun h => ((GatherDims.mem_sKept _ _).mp h).1
      (by simp [gather_S16x15x31_S8192x128x2_S16x8192x128_0_12_n_n_12_2_1611]))]
    unfold GatherDims.start
    rw [dif_pos (by simp [gather_S16x15x31_S8192x128x2_S16x8192x128_0_12_n_n_12_2_1611])]
    simp only [Nat.add_zero]
    have hsi : gather_S16x15x31_S8192x128x2_S16x8192x128_0_12_n_n_12_2_1611.siIdx (ix3 g s a) ⟨0, by decide⟩ = ix3 s a 0 := by
      funext b; refine Fin.ext ?_
      match b with
      | ⟨0, _⟩ => rfl
      | ⟨1, _⟩ => rfl
      | ⟨2, h⟩ => rfl
    exact congrArg (fun z => min (idx z).toInt.toNat 14) hsi
  | ⟨2, _⟩ =>
    rw [GatherDims.offCoord_eq_zero _ _ _ (fun h => ((GatherDims.mem_sKept _ _).mp h).1
      (by simp [gather_S16x15x31_S8192x128x2_S16x8192x128_0_12_n_n_12_2_1611]))]
    unfold GatherDims.start
    rw [dif_pos (by simp [gather_S16x15x31_S8192x128x2_S16x8192x128_0_12_n_n_12_2_1611])]
    simp only [Nat.add_zero]
    have hsi : gather_S16x15x31_S8192x128x2_S16x8192x128_0_12_n_n_12_2_1611.siIdx (ix3 g s a) ⟨1, by decide⟩ = ix3 s a 1 := by
      funext b; refine Fin.ext ?_
      match b with
      | ⟨0, _⟩ => rfl
      | ⟨1, _⟩ => rfl
      | ⟨2, h⟩ => rfl
    exact congrArg (fun z => min (idx z).toInt.toNat 30) hsi

end Cert.ReferenceIdeal.Att

end
-- ==== Proof.Att.Ref.lean ====
/- The reference's scores and values, key by key: 128 keys of the window and 256 of the context. -/
module

public import proofs.«01_k».proof.Proof.Att.RefIdx
public import proofs.«01_k».proof.Proof.Att.Gather
public import proofs.«01_k».proof.Proof.Att.Softmax

@[expose] public section

set_option maxRecDepth 65536

noncomputable section

namespace Cert.ReferenceIdeal.Att

open Cert.ReferenceIdeal Cert.ReferenceIdeal.Gen Cert.ReferenceIdeal.Read Idealize.ShloMosaic

/-- The token of key `a` of query `s`'s window. -/
def winKey (s a : ℕ) : ℕ := (winRow (s / 64) + a / 16) * 64 + (winCol (s % 64) + a % 16)

theorem winKey_lt (s a : ℕ) (h : a < 128) : winKey s a < 8192 := by
  unfold winKey winRow winCol; omega

/-- The row of the bias table for key `a` of query `s`'s window. -/
def offRow (s a : ℕ) : ℕ := winRow (s / 64) + a / 16 + 7 - s / 64

theorem offRow_lt (s a : ℕ) (hs : s < 8192) (h : a < 128) : offRow s a < 15 := by
  unfold offRow winRow; omega

/-- The column of the bias table for key `a` of query `s`'s window. -/
def offCol (s a : ℕ) : ℕ := winCol (s % 64) + a % 16 + 15 - s % 64

theorem offCol_lt (s a : ℕ) : offCol s a < 31 := by
  unfold offCol winCol; omega

/-- A small word read as an integer and clamped is itself. -/
theorem word_clamp (n b : ℕ) (h : n ≤ b) (hb : b < 2 ^ 31) : min (BitVec.ofNat 32 n).toInt.toNat b = n := by
  have e : (BitVec.ofNat 32 n).toInt = (n : Int) := by
    rw [BitVec.toInt_eq_toNat_of_lt (by rw [BitVec.toNat_ofNat, Nat.mod_eq_of_lt (by omega)]; omega), BitVec.toNat_ofNat,
      Nat.mod_eq_of_lt (by omega)]
  rw [e, Int.toNat_natCast]
  omega

variable (x0 : FVec Ideal S8192x8192 .bf16) (x1 : FVec Ideal S256x8192 .bf16) (x2 : FVec Ideal S2x16x15x31 .f32)

/-- The queries by head. -/
theorem v14_at (s : Fin 8192) (g : Fin 16) (d : Fin 128) :
    val_main_v14 (F := Ideal) x0 (ix3 s g d) = x0 (ix2 s ⟨1024 + g.val * 128 + d.val, by omega⟩) := by
  pointwise [val_main_v14, val_main_v5, val_main_v2]
  simp only [Nat.add_assoc]

/-- The keys by head. -/
theorem v15_at (s : Fin 8192) (g : Fin 16) (d : Fin 128) :
    val_main_v15 (F := Ideal) x0 (ix3 s g d) = x0 (ix2 s ⟨3072 + g.val * 128 + d.val, by omega⟩) := by
  pointwise [val_main_v15, val_main_v6, val_main_v2]
  simp only [Nat.add_assoc]

/-- The values by head. -/
theorem v16_at (s : Fin 8192) (g : Fin 16) (d : Fin 128) :
    val_main_v16 (F := Ideal) x0 (ix3 s g d) = x0 (ix2 s ⟨5120 + g.val * 128 + d.val, by omega⟩) := by
  pointwise [val_main_v16, val_main_v7, val_main_v2]
  simp only [Nat.add_assoc]

/-- The context's keys by head. -/
theorem v17_at (s : Fin 256) (g : Fin 16) (d : Fin 128) :
    val_main_v17 (F := Ideal) x1 (ix3 s g d) = x1 (ix2 s ⟨3072 + g.val * 128 + d.val, by omega⟩) := by
  pointwise [val_main_v17, val_main_v11, val_main_v3]
  simp only [Nat.add_assoc]

/-- The context's values by head. -/
theorem v18_at (s : Fin 256) (g : Fin 16) (d : Fin 128) :
    val_main_v18 (F := Ideal) x1 (ix3 s g d) = x1 (ix2 s ⟨5120 + g.val * 128 + d.val, by omega⟩) := by
  pointwise [val_main_v18, val_main_v12, val_main_v3]
  simp only [Nat.add_assoc]

/-- The gathered keys of the window. -/
theorem v76_at (s : Fin 8192) (a : Fin 128) (g : Fin 16) (d : Fin 128) : val_main_v76 (F := Ideal) x0 (ix4 s a g d)
    = x0 (ix2 ⟨winKey s.val a.val, winKey_lt _ _ a.isLt⟩ ⟨3072 + g.val * 128 + d.val, by omega⟩) := by
  have e : val_main_v75 (F := Ideal) (ix3 s a 0) = BitVec.ofNat 32 (winKey s.val a.val) := by
    rw [val_main_v75_apply]; exact v74_eq s a
  show Host.gather _ (val_main_v15 (F := Ideal) x0) (val_main_v75 (F := Ideal)) (ix4 s a g d) = _
  rw [gather_rows, v15_at]
  refine congrArg (fun r => x0 (ix2 r _)) (Fin.ext ?_)
  show min (val_main_v75 (F := Ideal) (ix3 s a 0)).toInt.toNat 8191 = winKey s.val a.val
  rw [e]
  exact word_clamp _ _ (by have := winKey_lt s.val a.val a.isLt; omega) (by omega)

/-- The gathered values of the window. -/
theorem v83_at (s : Fin 8192) (a : Fin 128) (g : Fin 16) (d : Fin 128) : val_main_v83 (F := Ideal) x0 (ix4 s a g d)
    = x0 (ix2 ⟨winKey s.val a.val, winKey_lt _ _ a.isLt⟩ ⟨5120 + g.val * 128 + d.val, by omega⟩) := by
  have e : val_main_v82 (F := Ideal) (ix3 s a 0) = BitVec.ofNat 32 (winKey s.val a.val) := by
    rw [val_main_v82_apply]; exact v81_eq s a
  show Host.gather _ (val_main_v16 (F := Ideal) x0) (val_main_v82 (F := Ideal)) (ix4 s a g d) = _
  rw [gather_rows, v16_at]
  refine congrArg (fun r => x0 (ix2 r _)) (Fin.ext ?_)
  show min (val_main_v82 (F := Ideal) (ix3 s a 0)).toInt.toNat 8191 = winKey s.val a.val
  rw [e]
  exact word_clamp _ _ (by have := winKey_lt s.val a.val a.isLt; omega) (by omega)

/-- Layer 0's bias table. -/
theorem v1_at (g : Fin 16) (r : Fin 15) (d : Fin 31) : val_main_v1 (F := Ideal) x2 (ix3 g r d) = x2 (ix4 0 g r d) := by
  pointwise [val_main_v1, val_main_v0]

/-- The gathered bias of the window. -/
theorem v69_at (g : Fin 16) (s : Fin 8192) (a : Fin 128) : val_main_v69 (F := Ideal) x2 (ix3 g s a)
    = x2 (ix4 0 g ⟨offRow s.val a.val, offRow_lt _ _ s.isLt a.isLt⟩ ⟨offCol s.val a.val, offCol_lt _ _⟩) := by
  have e0 : val_main_v68 (F := Ideal) (ix3 s a 0) = BitVec.ofNat 32 (offRow s.val a.val) := by
    refine Eq.trans ?_ (v60_eq s a)
    generalize hR : val_main_v60 (F := Ideal) (ix2 s a) = R
    pointwise [val_main_v68, val_main_v66, val_main_v67]
    exact hR
  have e1 : val_main_v68 (F := Ideal) (ix3 s a 1) = BitVec.ofNat 32 (offCol s.val a.val) := by
    refine Eq.trans ?_ (v65_eq s a)
    generalize hR : val_main_v65 (F := Ideal) (ix2 s a) = R
    pointwise [val_main_v68, val_main_v66, val_main_v67]
    exact hR
  show Host.gather _ (val_main_v1 (F := Ideal) x2) (val_main_v68 (F := Ideal)) (ix3 g s a) = _
  rw [gather_bias, v1_at]
  have i0 : (⟨min (val_main_v68 (F := Ideal) (ix3 s a 0)).toInt.toNat 14, by omega⟩ : Fin 15)
      = ⟨offRow s.val a.val, offRow_lt _ _ s.isLt a.isLt⟩ := Fin.ext (by
    show min (val_main_v68 (F := Ideal) (ix3 s a 0)).toInt.toNat 14 = offRow s.val a.val
    rw [e0]
    exact word_clamp _ _ (by have := offRow_lt s.val a.val s.isLt a.isLt; omega) (by omega))
  have i1 : (⟨min (val_main_v68 (F := Ideal) (ix3 s a 1)).toInt.toNat 30, by omega⟩ : Fin 31)
      = ⟨offCol s.val a.val, offCol_lt _ _⟩ := Fin.ext (by
    show min (val_main_v68 (F := Ideal) (ix3 s a 1)).toInt.toNat 30 = offCol s.val a.val
    rw [e1]
    exact word_clamp _ _ (by have := offCol_lt s.val a.val; omega) (by omega))
  rw [i0, i1]

/-- The score of query `s`, head `g`, at key `j`. -/
def score384 (s : Fin 8192) (g : Fin 16) (j : Fin 384) : EReal :=
  if h : j.val < 128 then
    (∑ d : Fin 128, (x0 (ix2 s ⟨1024 + g.val * 128 + d.val, by omega⟩) : EReal)
        * x0 (ix2 ⟨winKey s.val j.val, winKey_lt _ _ h⟩ ⟨3072 + g.val * 128 + d.val, by omega⟩)) * Ideal.ofBits .f32 0x3DB504F3#32
      + x2 (ix4 0 g ⟨offRow s.val j.val, offRow_lt _ _ s.isLt h⟩ ⟨offCol s.val j.val, offCol_lt _ _⟩)
  else
    (∑ d : Fin 128, (x0 (ix2 s ⟨1024 + g.val * 128 + d.val, by omega⟩) : EReal)
        * x1 (ix2 ⟨j.val - 128, by omega⟩ ⟨3072 + g.val * 128 + d.val, by omega⟩)) * Ideal.ofBits .f32 0x3DB504F3#32

/-- The value at key `j` in column `e`. -/
def value384 (s : Fin 8192) (e : Fin 2048) (j : Fin 384) : EReal :=
  if h : j.val < 128 then x0 (ix2 ⟨winKey s.val j.val, winKey_lt _ _ h⟩ ⟨5120 + e.val, by omega⟩)
  else x1 (ix2 ⟨j.val - 128, by omega⟩ ⟨5120 + e.val, by omega⟩)

/-- The reference's scores. -/
theorem v91_at (g : Fin 16) (s : Fin 8192) (j : Fin 384) :
    val_main_v91 (F := Ideal) x0 x1 x2 (ix3 g s j) = score384 x0 x1 x2 s g j := by
  have e1 : ∀ a : Fin 128, val_main_v87 (F := Ideal) x0 x2 (ix3 g s a) = (∑ d : Fin 128, (x0 (ix2 s ⟨1024 + g.val * 128 + d.val, by omega⟩) : EReal)
        * x0 (ix2 ⟨winKey s.val a.val, winKey_lt _ _ a.isLt⟩ ⟨3072 + g.val * 128 + d.val, by omega⟩)) * Ideal.ofBits .f32 0x3DB504F3#32
      + x2 (ix4 0 g ⟨offRow s.val a.val, offRow_lt _ _ s.isLt a.isLt⟩ ⟨offCol s.val a.val, offCol_lt _ _⟩) := by
    intro a
    rw [← v69_at x2 g s a]
    pointwise [val_main_v87, val_main_v86, val_main_v85, val_main_cst, val_main_v84]
    simp only [v14_at, v76_at]
  have e2 : ∀ a : Fin 256, val_main_v90 (F := Ideal) x0 x1 (ix3 g s a) = (∑ d : Fin 128, (x0 (ix2 s ⟨1024 + g.val * 128 + d.val, by omega⟩) : EReal)
        * x1 (ix2 a ⟨3072 + g.val * 128 + d.val, by omega⟩)) * Ideal.ofBits .f32 0x3DB504F3#32 := by
    intro a
    pointwise [val_main_v90, val_main_v89, val_main_cst_20, val_main_v88]
    simp only [v14_at, v17_at]
  unfold score384
  pointwise [val_main_v91]
  simp only [e1, e2]

end Cert.ReferenceIdeal.Att

end
-- ==== Proof.Att.RefOut.lean ====
/- The reference's result: softmax weights of the 384 scores times the 384 values. -/
module

public import proofs.«01_k».proof.Proof.Att.Ref

@[expose] public section

set_option maxRecDepth 65536

noncomputable section

namespace Cert.ReferenceIdeal.Att

open Cert.ReferenceIdeal Cert.ReferenceIdeal.Gen Cert.ReferenceIdeal.Read Idealize.ShloMosaic
open Cert.Proof.Softmax (top early)

variable (x0 : FVec Ideal S8192x8192 .bf16) (x1 : FVec Ideal S256x8192 .bf16) (x2 : FVec Ideal S2x16x15x31 .f32)

theorem neg_inf : Ideal.ofBits .f32 0xFF800000#32 = (⊥ : EReal) := by
  simp [Ideal.ofBits, Ideal.ieee]

/-- A row's maximum over any array. -/
theorem row_max (X : FVec Ideal S16x8192x384 .f32) (g : Fin 16) (s : Fin 8192) :
    Host.reduce FloatOps.maximumf X (val_main_cst_21 (F := Ideal)) reducesTo_S16x8192x384_S16x8192_d2 h_S_ (ix2 g s)
      = Finset.univ.fold max ⊥ (fun j : Fin 384 => X (ix3 g s j)) := by
  pointwise [val_main_cst_21]
  rw [neg_inf]

/-- The row's maximum. -/
theorem v94_at (g : Fin 16) (s : Fin 8192) :
    val_main_v94 (F := Ideal) x0 x1 x2 (ix2 g s) = top (score384 x0 x1 x2 s g) := by
  have e : val_main_v92 (F := Ideal) x0 x1 x2 (ix2 g s) = top (score384 x0 x1 x2 s g) := by
    unfold val_main_v92
    have h : (fun j : Fin 384 => val_main_v91 (F := Ideal) x0 x1 x2 (ix3 g s j)) = score384 x0 x1 x2 s g :=
      funext fun j => v91_at x0 x1 x2 g s j
    generalize val_main_v91 (F := Ideal) x0 x1 x2 = X at h ⊢
    rw [row_max, h]
  rw [val_main_v94_apply, e, val_main_v93_apply, val_main_cst_22_apply]
  generalize top (score384 x0 x1 x2 s g) = T
  exact (congrArg (fun z : EReal => max z T) neg_inf).trans (max_eq_right bot_le)

/-- The row's exponentials. -/
theorem v98_at (g : Fin 16) (s : Fin 8192) (j : Fin 384) : val_main_v98 (F := Ideal) x0 x1 x2 (ix3 g s j)
    = Ideal.exp (score384 x0 x1 x2 s g j - top (score384 x0 x1 x2 s g)) := by
  pointwise [val_main_v98, val_main_v97, val_main_v96, val_main_v95]
  simp only [v91_at, v94_at]

/-- The softmax weights. -/
theorem v102_at (g : Fin 16) (s : Fin 8192) (j : Fin 384) : val_main_v102 (F := Ideal) x0 x1 x2 (ix3 g s j)
    = Ideal.div (Ideal.exp (score384 x0 x1 x2 s g j - top (score384 x0 x1 x2 s g)))
        (∑ k, Ideal.exp (score384 x0 x1 x2 s g k - top (score384 x0 x1 x2 s g))) := by
  pointwise [val_main_v102, val_main_v101, val_main_v100, val_main_v99, val_main_cst_23]
  simp only [v98_at]

/-- The reference's result. -/
theorem result_at (s : Fin 8192) (e : Fin 2048) : val_main_v110 (F := Ideal) x0 x1 x2 (ix2 s e)
    = early (score384 x0 x1 x2 s ⟨e.val / 128, by omega⟩) (value384 x0 x1 s e) := by
  pointwise [val_main_v110, val_main_v109, val_main_v108, val_main_v107, val_main_v106, val_main_v105, val_main_v104, val_main_v103]
  simp only [v102_at, v83_at, v18_at]
  unfold early
  have hW : ∀ h, (⟨5120 + e.val / 128 * 128 + e.val % 128, h⟩ : Fin 8192) = ⟨5120 + e.val, by omega⟩ :=
    fun h => Fin.ext (by show 5120 + e.val / 128 * 128 + e.val % 128 = 5120 + e.val; omega)
  simp only [hW]
  refine Eq.symm ((Fin.sum_univ_add (a := 128) (b := 256) _).trans ?_)
  refine congrArg₂ (· + ·) (Finset.sum_congr rfl fun x _ => ?_) (Finset.sum_congr rfl fun x _ => ?_)
  · refine congrArg₂ (· * ·) rfl ?_
    unfold value384
    rw [dif_pos (show (Fin.castAdd 256 x).val < 128 from x.isLt)]
    rfl
  · rw [mul_comm]
    refine congrArg₂ (· * ·) ?_ rfl
    unfold value384
    rw [dif_neg (show ¬ (Fin.natAdd 128 x).val < 128 by show ¬ 128 + x.val < 128; omega)]
    exact congrArg (fun r => x1 (ix2 r _)) (Fin.ext (by show 128 + x.val - 128 = x.val; omega))

end Cert.ReferenceIdeal.Att

end
-- ==== Proof.Att.Join.lean ====
/- The kernel's 1024 staged keys with its bias table against the reference's 384 keys: equal results. -/
module

public import proofs.«01_k».proof.Proof.Att.Out
public import proofs.«01_k».proof.Proof.Att.Tile
public import proofs.«01_k».proof.Proof.Att.RefOut

@[expose] public section

set_option maxRecDepth 16384
set_option backward.proofsInPublic true

noncomputable section

namespace Cert.Proof.Join

open Cert.KernelIdeal Cert.KernelIdeal.Gen Cert.KernelIdeal.Att Cert.KernelIdeal.Tab Idealize.ShloMosaic
open Cert.ReferenceIdeal.Att (winRow winCol winKey winKey_lt offRow offRow_lt offCol offCol_lt score384 value384)
open Cert.Proof.Softmax (late early late_eq_early)

/-- A real number among the extended ones. -/
def IsReal (x : EReal) : Prop := x ≠ ⊥ ∧ x ≠ ⊤

theorem isReal_coe (r : ℝ) : IsReal (r : EReal) := ⟨EReal.coe_ne_bot r, EReal.coe_ne_top r⟩

theorem IsReal.exists {x : EReal} (h : IsReal x) : ∃ r : ℝ, x = r := ⟨x.toReal, (EReal.coe_toReal h.2 h.1).symm⟩

theorem IsReal.mul {x y : EReal} (hx : IsReal x) (hy : IsReal y) : IsReal (x * y) := by
  obtain ⟨a, rfl⟩ := hx.exists
  obtain ⟨b, rfl⟩ := hy.exists
  rw [← EReal.coe_mul]
  exact isReal_coe _

theorem IsReal.add {x y : EReal} (hx : IsReal x) (hy : IsReal y) : IsReal (x + y) := by
  obtain ⟨a, rfl⟩ := hx.exists
  obtain ⟨b, rfl⟩ := hy.exists
  rw [← EReal.coe_add]
  exact isReal_coe _

theorem IsReal.sum {ι : Type} (s : Finset ι) (f : ι → EReal) (h : ∀ i, IsReal (f i)) : IsReal (∑ i ∈ s, f i) := by
  classical
  induction s using Finset.induction_on with
  | empty => rw [Finset.sum_empty]; exact isReal_coe 0
  | insert a s ha ih => rw [Finset.sum_insert ha]; exact (h a).add ih

/-- The score's scale is a real number. -/
theorem scale_real : IsReal (Ideal.ofBits .f32 0x3DB504F3#32) := by
  constructor <;> simp [Ideal.ofBits, Ideal.ieee, ← EReal.coe_mul]

/-- The first staged row that is in query `s`'s window. -/
theorem firstReal_eq (s : ℕ) (hs : s < 8192) :
    firstReal (variant (s / 256)) (s % 256 / 64) + firstRow (s / 256) = winRow (s / 64) := by
  have h : (s / 256 = 0 ∧ variant (s / 256) = 0) ∨ (s / 256 = 31 ∧ variant (s / 256) = 2)
      ∨ (s / 256 ≠ 0 ∧ s / 256 ≠ 31 ∧ variant (s / 256) = 1) := by
    unfold variant
    split_ifs <;> omega
  unfold firstRow winRow
  obtain ⟨h1, h2⟩ | ⟨h1, h2⟩ | ⟨h1, h2, h3⟩ := h
  · rw [show firstReal (variant (s / 256)) (s % 256 / 64) = 0 by rw [h2]; rfl]; omega
  · rw [show firstReal (variant (s / 256)) (s % 256 / 64) = 4 by rw [h2]; rfl]; omega
  · rw [show firstReal (variant (s / 256)) (s % 256 / 64) = s % 256 / 64 by rw [h3]; rfl]; omega

/-- Where block `b`'s first staged row lies, four rows a variant below the block's first. -/
theorem firstRow_variant (b : ℕ) (hb : b < 32) : firstRow b + 4 * variant b = 4 * b := by
  unfold variant firstRow
  split_ifs <;> omega

theorem firstCol_eq (c : ℕ) : firstCol c = winCol c := rfl

/-- The staged place of the reference's key `j`. -/
def place (s : Fin 8192) (j : Fin 384) : Fin 1024 :=
  if h : j.val < 128 then
    ⟨(firstReal (variant (s.val / 256)) (s.val % 256 / 64) + j.val / 16) * 64 + (winCol (s.val % 64) + j.val % 16), by
      have : firstReal (variant (s.val / 256)) (s.val % 256 / 64) ≤ 4 := by unfold firstReal; split_ifs <;> omega
      have : winCol (s.val % 64) ≤ 48 := min_le_right _ _
      omega⟩
  else ⟨768 + (j.val - 128), by omega⟩

theorem place_win (s : Fin 8192) (j : Fin 384) (h : j.val < 128) : (place s j).val
    = (firstReal (variant (s.val / 256)) (s.val % 256 / 64) + j.val / 16) * 64 + (winCol (s.val % 64) + j.val % 16) := by
  unfold place; rw [dif_pos h]

theorem place_ctx (s : Fin 8192) (j : Fin 384) (h : ¬ j.val < 128) : (place s j).val = 768 + (j.val - 128) := by
  unfold place; rw [dif_neg h]

theorem firstReal_le (v rl : ℕ) (h : rl < 4) : firstReal v rl ≤ 4 := by
  unfold firstReal; split_ifs <;> omega

theorem place_injective (s : Fin 8192) : Function.Injective (place s) := by
  intro j k e
  have e := congrArg Fin.val e
  have hw : winCol (s.val % 64) ≤ 48 := min_le_right _ _
  have hf := firstReal_le (variant (s.val / 256)) (s.val % 256 / 64) (by omega)
  by_cases hj : j.val < 128 <;> by_cases hk : k.val < 128
  · rw [place_win s j hj, place_win s k hk] at e
    exact Fin.ext (by omega)
  · rw [place_win s j hj, place_ctx s k hk] at e
    omega
  · rw [place_ctx s j hj, place_win s k hk] at e
    omega
  · rw [place_ctx s j hj, place_ctx s k hk] at e
    exact Fin.ext (by omega)

variable (P : FVec Ideal S8192x8192 .bf16) (C : FVec Ideal S256x8192 .bf16) (X : FVec Ideal S2x16x15x31 .f32)
  (B : FVec Ideal S3x32x256x768 .f32)
  (hB : ∀ (v : Fin 3) (g : Fin 32) (r : Fin 256) (i : Fin 768), B (ix4 v g r i) = tabEntry (tiles lit0 lit1 X) v.val g
      (r.val / 64) (i.val / 64) ⟨r.val % 64, by omega⟩ ⟨i.val % 64, by omega⟩)

include hB in
/-- A staged key in query `s`'s window has the reference's bias. -/
theorem bias_in (s : Fin 8192) (g : Fin 16) (j : Fin 384) (h : j.val < 128) (hi : (place s j).val < 768) :
    B (ix4 ⟨variant (s.val / 256), variant_lt _⟩ ⟨g.val, by omega⟩ ⟨s.val % 256, by omega⟩ ⟨(place s j).val, hi⟩)
      = X (ix4 0 g ⟨offRow s.val j.val, offRow_lt _ _ s.isLt h⟩ ⟨offCol s.val j.val, offCol_lt _ _⟩) := by
  have hp := place_win s j h
  have hw : winCol (s.val % 64) ≤ 48 := min_le_right _ _
  have hf := firstReal_eq s.val s.isLt
  have hv := firstRow_variant (s.val / 256) (by omega)
  have hwr : winRow (s.val / 64) ≤ s.val / 64 ∧ s.val / 64 < winRow (s.val / 64) + 8 := by unfold winRow; omega
  have hwc : winCol (s.val % 64) ≤ s.val % 64 ∧ s.val % 64 < winCol (s.val % 64) + 16 := by unfold winCol; omega
  have hcol : colOk (s.val % 256 % 64) ((place s j).val % 64) = true := by
    rw [colOk_iff, show s.val % 256 % 64 = s.val % 64 by omega, firstCol_eq]
    omega
  rw [hB]
  unfold tabEntry
  rw [dif_pos (by
    show firstReal (variant (s.val / 256)) (s.val % 256 / 64) ≤ (place s j).val / 64
      ∧ (place s j).val / 64 < firstReal (variant (s.val / 256)) (s.val % 256 / 64) + 8
      ∧ (place s j).val / 64 + 7 - s.val % 256 / 64 - 4 * variant (s.val / 256) < 15
    omega)]
  refine (tile_in X g _ ⟨s.val % 256 % 64, by omega⟩ ⟨(place s j).val % 64, by omega⟩ hcol (by
    show (place s j).val % 64 + 15 - s.val % 256 % 64 < 31; omega)).trans ?_
  refine congrArg₂ (fun a b => X (ix4 0 g a b)) (Fin.ext ?_) (Fin.ext ?_)
  · show (place s j).val / 64 + 7 - s.val % 256 / 64 - 4 * variant (s.val / 256) = offRow s.val j.val
    unfold offRow
    omega
  · show (place s j).val % 64 + 15 - s.val % 256 % 64 = offCol s.val j.val
    unfold offCol
    omega

include hB in
/-- A staged key outside query `s`'s window has bias minus infinity. -/
theorem bias_out (s : Fin 8192) (g : Fin 16) (i : Fin 768) (h : ∀ j, (place s j).val ≠ i.val) :
    B (ix4 ⟨variant (s.val / 256), variant_lt _⟩ ⟨g.val, by omega⟩ ⟨s.val % 256, by omega⟩ i) = (⊥ : EReal) := by
  have hw : winCol (s.val % 64) ≤ 48 := min_le_right _ _
  rw [hB]
  unfold tabEntry
  split_ifs with hr
  · refine tile_out X _ _ _ _ ?_
    by_contra hc
    rw [Bool.not_eq_false, colOk_iff] at hc
    have hc' : winCol (s.val % 256 % 64) ≤ i.val % 64 ∧ i.val % 64 < winCol (s.val % 256 % 64) + 16 := hc
    rw [show s.val % 256 % 64 = s.val % 64 by omega] at hc'
    have hr' : firstReal (variant (s.val / 256)) (s.val % 256 / 64) ≤ i.val / 64
      ∧ i.val / 64 < firstReal (variant (s.val / 256)) (s.val % 256 / 64) + 8 := ⟨hr.1, hr.2.1⟩
    have hk : (i.val / 64 - firstReal (variant (s.val / 256)) (s.val % 256 / 64)) * 16 + (i.val % 64 - winCol (s.val % 64)) < 128 := by omega
    refine h ⟨_, lt_trans hk (by decide)⟩ ?_
    rw [place_win s _ hk]
    show (firstReal (variant (s.val / 256)) (s.val % 256 / 64)
      + ((i.val / 64 - firstReal (variant (s.val / 256)) (s.val % 256 / 64)) * 16 + (i.val % 64 - winCol (s.val % 64))) / 16) * 64
      + (winCol (s.val % 64) + ((i.val / 64 - firstReal (variant (s.val / 256)) (s.val % 256 / 64)) * 16 + (i.val % 64 - winCol (s.val % 64))) % 16) = i.val
    omega
  · exact ofBits_bot

include hB in
/-- THE TWO ATTENTIONS AGREE where the scores are real numbers. -/
theorem out_eq (hP : ∀ (s : Fin 8192) (e : Fin 4096), IsReal (P (ix2 s ⟨1024 + e.val, by omega⟩)))
    (hC : ∀ (s : Fin 256) (e : Fin 2048), IsReal (C (ix2 s ⟨3072 + e.val, by omega⟩)))
    (hX : ∀ (g : Fin 16) (r : Fin 15) (d : Fin 31), IsReal (X (ix4 0 g r d))) (s : Fin 8192) (e : Fin 2048) :
    out P C B (ix2 s e) = early (score384 P C X s ⟨e.val / 128, by omega⟩) (value384 P C s e) := by
  show late (score1024 P C B s ⟨e.val / 128, _⟩) (value1024 P C s e) = _
  generalize (⟨e.val / 128, by omega⟩ : Fin 16) = g
  have hrow : ∀ (j : Fin 384) (h : j.val < 128), firstRow (s.val / 256) * 64 + (place s j).val = winKey s.val j.val := by
    intro j h
    rw [place_win s j h]
    have := firstReal_eq s.val s.isLt
    unfold winKey
    omega
  have hlt : ∀ (j : Fin 384) (_ : j.val < 128), (place s j).val < 768 := by
    intro j h
    rw [place_win s j h]
    have hf := firstReal_le (variant (s.val / 256)) (s.val % 256 / 64) (by omega)
    have hw : winCol (s.val % 64) ≤ 48 := min_le_right _ _
    omega
  have hge : ∀ (j : Fin 384) (_ : ¬ j.val < 128), ¬ (place s j).val < 768 := by
    intro j h
    rw [place_ctx s j h]
    omega
  have hq : ∀ d : Fin 128, IsReal (P (ix2 s ⟨1024 + g.val * 128 + d.val, by omega⟩)) := fun d => by
    have := hP s ⟨g.val * 128 + d.val, by omega⟩
    rwa [show (⟨1024 + (⟨g.val * 128 + d.val, by omega⟩ : Fin 4096).val, by show 1024 + (g.val * 128 + d.val) < 8192; omega⟩ : Fin 8192)
      = ⟨1024 + g.val * 128 + d.val, by omega⟩ from Fin.ext (by show 1024 + (g.val * 128 + d.val) = 1024 + g.val * 128 + d.val; omega)] at this
  have hk : ∀ (t : Fin 8192) (d : Fin 128), IsReal (P (ix2 t ⟨3072 + g.val * 128 + d.val, by omega⟩)) := fun t d => by
    have := hP t ⟨2048 + g.val * 128 + d.val, by omega⟩
    rwa [show (⟨1024 + (⟨2048 + g.val * 128 + d.val, by omega⟩ : Fin 4096).val, by show 1024 + (2048 + g.val * 128 + d.val) < 8192; omega⟩ : Fin 8192)
      = ⟨3072 + g.val * 128 + d.val, by omega⟩ from Fin.ext (by show 1024 + (2048 + g.val * 128 + d.val) = 3072 + g.val * 128 + d.val; omega)] at this
  have hkc : ∀ (t : Fin 256) (d : Fin 128), IsReal (C (ix2 t ⟨3072 + g.val * 128 + d.val, by omega⟩)) := fun t d => by
    have := hC t ⟨g.val * 128 + d.val, by omega⟩
    rwa [show (⟨3072 + (⟨g.val * 128 + d.val, by omega⟩ : Fin 2048).val, by show 3072 + (g.val * 128 + d.val) < 8192; omega⟩ : Fin 8192)
      = ⟨3072 + g.val * 128 + d.val, by omega⟩ from Fin.ext (by show 3072 + (g.val * 128 + d.val) = 3072 + g.val * 128 + d.val; omega)] at this
  haveI : Nonempty (Fin 384) := ⟨0⟩
  refine late_eq_early (place s) (place_injective s) _ _ _ _ (fun j => ?_) (fun j => ?_) (fun j => ?_) (fun i hi => ?_)
  · show IsReal _
    unfold score384
    split_ifs with h
    · exact ((IsReal.sum _ _ fun d => (hq d).mul (hk _ d)).mul scale_real).add (hX _ _ _)
    · exact (IsReal.sum _ _ fun d => (hq d).mul (hkc _ d)).mul scale_real
  · unfold score1024 score384
    by_cases h : j.val < 128
    · rw [dif_pos (hlt j h), dif_pos h, bias_in X B hB s g j h]
      simp only [hrow j h]
    · rw [dif_neg (hge j h), dif_neg h]
      simp only [place_ctx s j h, Nat.add_sub_cancel_left]
  · unfold value1024 value384
    by_cases h : j.val < 128
    · rw [dif_pos (hlt j h), dif_pos h]
      simp only [hrow j h]
    · rw [dif_neg (hge j h), dif_neg h]
      simp only [place_ctx s j h, Nat.add_sub_cancel_left]
  · unfold score1024
    by_cases h : i.val < 768
    · rw [dif_pos h, bias_out X B hB s g ⟨i.val, h⟩ (fun j e => hi j (Fin.ext e))]
      exact EReal.add_bot _
    · exact absurd (Fin.ext (by rw [place_ctx s ⟨i.val - 768 + 128, by omega⟩ (by show ¬ i.val - 768 + 128 < 128; omega)]; show 768 + (i.val - 768 + 128 - 128) = i.val; omega)) (hi ⟨i.val - 768 + 128, by omega⟩)

end Cert.Proof.Join

end
-- ==== Proof.Att.Pre.lean ====
/- The precondition read back: the queries, the keys and layer 0's bias table hold real numbers. -/
module

public import proofs.«01_k».proof.Pre_scores_finite
public import Idealize.ShloMosaic.Lib.Pointwise
public import Idealize.ShloMosaic.Lib.ReduceAll

@[expose] public section

set_option maxRecDepth 16384

noncomputable section

namespace Cert.Pre_scores_finite.Att

open Cert.Pre_scores_finite Idealize.ShloMosaic

/-- The side conditions of the precondition's operations hold. -/
theorem facts : Cert.Pre_scores_finite.Facts where
  slices_S8192x8192_S8192x4096_0_1024 := by decide
  bitsLt_bf16_f32 := by decide
  bcast_S_S8192x4096 := by decide
  reducesTo_S8192x4096_S_d0_1 := by decide
  h_S_ := by decide
  slices_S256x8192_S256x2048_0_3072 := by decide
  bcast_S_S256x2048 := by decide
  reducesTo_S256x2048_S_d0_1 := by decide
  slices_S2x16x15x31_S1x16x15x31_0_0_0_0 := by decide
  shapeCasts_S1x16x15x31_S16x15x31 := by decide
  bcast_S_S16x15x31 := by decide
  reducesTo_S16x15x31_S_d0_1_2 := by decide
  bcast_S_S1 := by decide
  concatenates_S1_S1_S1_S3_d0 := by decide

instance : Subsingleton S_.Idx := ⟨fun a b => funext fun d => d.elim0⟩

theorem ofBits_inf : Ideal.ofBits .f32 0x7F800000#32 = (⊤ : EReal) := by
  simp [Ideal.ofBits, Ideal.ieee]

/-- A number of absolute value below infinity is a real. -/
theorem real_of_cmp (x : EReal) (h : Ideal.cmp .olt (max x (-x)) (⊤ : EReal) = 1#1) : x ≠ ⊥ ∧ x ≠ ⊤ := by
  have hl : max x (-x) < ⊤ := by
    by_contra hn
    simp [Ideal.cmp, hn] at h
  constructor
  · rintro rfl; simp at hl
  · rintro rfl; simp at hl

variable (hF : Facts) (P : FVec Ideal S8192x8192 .bf16) (C : FVec Ideal S256x8192 .bf16) (X : FVec Ideal S2x16x15x31 .f32)
  (h : Cert.Pre_scores_finite.fn (F := Ideal) P C X = fun _ => 1#1)

omit P C X h in
/-- The stack of three flags is all ones: each flag is one. -/
theorem flags (a b c : IVec S_ 1) (h : fn_part1 (F := Ideal) a b c = fun _ => 1#1) (j : S_.Idx) :
    a j = 1#1 ∧ b j = 1#1 ∧ c j = 1#1 := by
  have h0 := congrFun h (ix1 0)
  have h1 := congrFun h (ix1 1)
  have h2 := congrFun h (ix1 2)
  unfold fn_part1 at h0 h1 h2
  pointwise at h0 h1 h2
  obtain rfl : j = ix0 := Subsingleton.elim _ _
  exact ⟨h0, h1, h2⟩

include h in
/-- The precondition's three parts. -/
theorem parts : (∀ (s : Fin 8192) (e : Fin 4096), P (ix2 s ⟨1024 + e.val, by omega⟩) ≠ (⊥ : EReal) ∧ P (ix2 s ⟨1024 + e.val, by omega⟩) ≠ (⊤ : EReal))
    ∧ (∀ (s : Fin 256) (e : Fin 2048), C (ix2 s ⟨3072 + e.val, by omega⟩) ≠ (⊥ : EReal) ∧ C (ix2 s ⟨3072 + e.val, by omega⟩) ≠ (⊤ : EReal))
    ∧ (∀ (g : Fin 16) (r : Fin 15) (d : Fin 31), X (ix4 0 g r d) ≠ (⊥ : EReal) ∧ X (ix4 0 g r d) ≠ (⊤ : EReal)) := by
  obtain ⟨h0, h1, h2⟩ := flags hF _ _ _ h ix0
  refine ⟨fun s e => ?_, fun s e => ?_, fun g r d => ?_⟩
  · have k := Host.reduce_andi_all _ _ _ _ _ h0 (ix2 s e)
    clear h h0 h1 h2
    pointwise at k
    refine real_of_cmp _ ?_
    rw [← ofBits_inf]
    exact k
  · have k := Host.reduce_andi_all _ _ _ _ _ h1 (ix2 s e)
    clear h h0 h1 h2
    pointwise at k
    refine real_of_cmp _ ?_
    rw [← ofBits_inf]
    exact k
  · have k := Host.reduce_andi_all _ _ _ _ _ h2 (ix3 g r d)
    clear h h0 h1 h2
    pointwise at k
    refine real_of_cmp _ ?_
    rw [← ofBits_inf]
    exact k

end Cert.Pre_scores_finite.Att

end
-- ==== Proof.Att.Alg.lean ====
/- The value claim of the attention: kernel and reference end with equal results. -/
module

public import proofs.«01_k».proof.Defs
public import proofs.«01_k».proof.Proof.Gen.KernelIdeal.Value
public import proofs.«01_k».proof.Proof.Gen.ReferenceIdeal.Run
public import proofs.«01_k».proof.Proof.Att.Join
public import proofs.«01_k».proof.Proof.Att.Pre
public import Idealize.ShloMosaic.Lib.Claim

@[expose] public section

set_option maxRecDepth 16384

noncomputable section

namespace Cert.Proof.Attention

open Idealize.ShloMosaic Idealize.SL.Sem

/-- The kernel's result array is the reference's result, where the precondition holds. -/
theorem result_eq (m : (ℓ : Loc Cert.KernelIdeal.nD Cert.KernelIdeal.τ Cert.KernelIdeal.sig) → Buf (Elt Ideal) ℓ) (c : Dev Cert.KernelIdeal.nD)
    (h : @Cert.Pre_scores_finite.fn Cert.Pre_scores_finite.Att.facts Ideal _
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) = fun _ => 1#1) :
    Cert.ReferenceIdeal.Read.val_main_v110 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      = (Cert.KernelIdeal.Gen.dats m 0 c).arrAt 6 Cert.KernelIdeal.cfg0.N := by
  obtain ⟨hP, hC, hX⟩ := Cert.Pre_scores_finite.Att.parts Cert.Pre_scores_finite.Att.facts _ _ _ h
  refine Eq.trans ?_ (Cert.KernelIdeal.Att.final m c).symm
  funext j
  obtain ⟨s, e, rfl⟩ : ∃ (s : Fin 8192) (e : Fin 2048), j = ix2 s e := ⟨j 0, j 1, (ix2_eta j).symm⟩
  exact (Cert.ReferenceIdeal.Att.result_at _ _ _ s e).trans
    (Cert.Proof.Join.out_eq _ _ _ _ (Cert.KernelIdeal.Att.bias_read m c) hP hC hX s e).symm

/-- The value claim. -/
theorem algebraic : Cert.algebraic_KernelIdeal_ReferenceIdeal_pre_scores_finite (hKernelIdeal := Cert.KernelIdeal.Gen.facts)
    (hReferenceIdeal := Cert.ReferenceIdeal.Gen.facts) (hPre_scores_finite := Cert.Pre_scores_finite.Att.facts) := by
  pair_intro
  · run_from Cert.KernelIdeal.Value.run_blocks m g
  · run_from Cert.ReferenceIdeal.Value.run m' g'
    refine (Cert.ReferenceIdeal.Read.val_main_v110_eq (StableHlo.launchContents m' c)).trans ?_
    refine Eq.trans ?_ (result_eq m c (hpre c))
    exact congr (congr (congrArg Cert.ReferenceIdeal.Read.val_main_v110 (hagree c).1) (hagree c).2.1) (hagree c).2.2

end Cert.Proof.Attention

end
-- ==== Proof.Inp.Conds.lean ====
/- The input projection's grid points: which branches are taken where, and the memory the body is handed. -/
module

public import proofs.«01_k».proof.Proof.Gen.Kernel6Ideal.Frame
public import proofs.«01_k».proof.Proof.Gen.Kernel6Ideal.Skeleton
public import Idealize.ShloMosaic.Lib.Pipeline.FrameBody
public import Idealize.ShloMosaic.Lib.Tactic
public import Idealize.ShloMosaic.Lib.WordCmp
public import Idealize.ShloMosaic.Lib.VecWindow
public import Idealize.ShloMosaic.Lib.Pipeline.ValueKit

@[expose] public section

set_option backward.proofsInPublic true
set_option maxRecDepth 16384

noncomputable section

namespace Cert.Kernel6Ideal.Body

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource the body's assertions are over. -/
abbrev Res (F : FTy → Type) [FloatOps F] := MT nD τ sig Unit (Elt F) ℕ (UR sig nD τ) ℕ

/-! The branches: what decides each, at a grid point. -/

/-- The condition that holds at the first column. -/
abbrev cond0_0 (i : grid0.Coords) : Prop := (Scalar.cmpi .ne (Scalar.extui (Scalar.cmpi .eq (BitVec.ofNat 32 (i 1).val) 0#32)) 0#32) = 1#1
/-- The condition that holds at the odd columns. -/
abbrev cond0_1 (i : grid0.Coords) : Prop := k0_cond2 i = 1#1
/-- The condition that holds at the even columns from 2 on. -/
abbrev cond0_2 (i : grid0.Coords) : Prop := k0_cond3 i = 1#1
/-- The condition that holds at an even last column whose tile is in the first scratch array: none. -/
abbrev cond0_3 (i : grid0.Coords) : Prop := k0_cond4 i = 1#1
/-- The condition that holds at the last column. -/
abbrev cond0_4 (i : grid0.Coords) : Prop := k0_cond5 i = 1#1

/-- Points of kind A. -/
abbrev isA (t : Fin cfg0.N) : Prop := t.val % 17 = 0
/-- The branches taken at them. -/
theorem conds_A : ∀ t : Fin cfg0.N, isA t → cond0_0 (grid0.coords t) ∧ ¬cond0_1 (grid0.coords t) ∧ ¬cond0_2 (grid0.coords t) ∧ ¬cond0_3 (grid0.coords t) ∧ ¬cond0_4 (grid0.coords t) :=
  (by decide +kernel : ∀ t : Fin grid0.N, t.val % 17 = 0 → cond0_0 (grid0.coords t) ∧ ¬cond0_1 (grid0.coords t) ∧ ¬cond0_2 (grid0.coords t) ∧ ¬cond0_3 (grid0.coords t) ∧ ¬cond0_4 (grid0.coords t))

/-- Points of kind B. -/
abbrev isB (t : Fin cfg0.N) : Prop := t.val % 17 % 2 = 1
/-- The branches taken at them. -/
theorem conds_B : ∀ t : Fin cfg0.N, isB t → ¬cond0_0 (grid0.coords t) ∧ cond0_1 (grid0.coords t) ∧ ¬cond0_2 (grid0.coords t) ∧ ¬cond0_3 (grid0.coords t) ∧ ¬cond0_4 (grid0.coords t) :=
  (by decide +kernel : ∀ t : Fin grid0.N, t.val % 17 % 2 = 1 → ¬cond0_0 (grid0.coords t) ∧ cond0_1 (grid0.coords t) ∧ ¬cond0_2 (grid0.coords t) ∧ ¬cond0_3 (grid0.coords t) ∧ ¬cond0_4 (grid0.coords t))

/-- Points of kind C. -/
abbrev isC (t : Fin cfg0.N) : Prop := t.val % 17 % 2 = 0 ∧ t.val % 17 ≠ 0 ∧ t.val % 17 ≠ 16
/-- The branches taken at them. -/
theorem conds_C : ∀ t : Fin cfg0.N, isC t → ¬cond0_0 (grid0.coords t) ∧ ¬cond0_1 (grid0.coords t) ∧ cond0_2 (grid0.coords t) ∧ ¬cond0_3 (grid0.coords t) ∧ ¬cond0_4 (grid0.coords t) :=
  (by decide +kernel : ∀ t : Fin grid0.N, t.val % 17 % 2 = 0 ∧ t.val % 17 ≠ 0 ∧ t.val % 17 ≠ 16 → ¬cond0_0 (grid0.coords t) ∧ ¬cond0_1 (grid0.coords t) ∧ cond0_2 (grid0.coords t) ∧ ¬cond0_3 (grid0.coords t) ∧ ¬cond0_4 (grid0.coords t))

/-- Points of kind D. -/
abbrev isD (t : Fin cfg0.N) : Prop := t.val % 17 = 16
/-- The branches taken at them. -/
theorem conds_D : ∀ t : Fin cfg0.N, isD t → ¬cond0_0 (grid0.coords t) ∧ ¬cond0_1 (grid0.coords t) ∧ ¬cond0_2 (grid0.coords t) ∧ ¬cond0_3 (grid0.coords t) ∧ cond0_4 (grid0.coords t) :=
  (by decide +kernel : ∀ t : Fin grid0.N, t.val % 17 = 16 → ¬cond0_0 (grid0.coords t) ∧ ¬cond0_1 (grid0.coords t) ∧ ¬cond0_2 (grid0.coords t) ∧ ¬cond0_3 (grid0.coords t) ∧ cond0_4 (grid0.coords t))

/-- Every point is of one of the kinds. -/
theorem kinds (t : Fin cfg0.N) : isA t ∨ isB t ∨ isC t ∨ isD t := by unfold isA isB isC isD; omega

/-- Every window but the first result's is live at every point. -/
theorem live : ∀ w : Fin 14, w ≠ 8 → ∀ t : Fin cfg0.N, cfg0.idle w (grid0.coords t) = false := by
  intro w hw t
  fin_cases w <;> first | rfl | exact absurd rfl hw
/-- The first result's window is idle in the first column, where its block is not written back. -/
theorem idle8 : ∀ t : Fin cfg0.N, isA t → cfg0.idle 8 (grid0.coords t) = true ∧ (cfg0.win 8).flush t = false :=
  (by decide +kernel : ∀ t : Fin grid0.N, t.val % 17 = 0 → cfg0.idle 8 (grid0.coords t) = true ∧ (cfg0.win 8).flush t = false)
/-- It is live elsewhere. -/
theorem live8 : ∀ t : Fin cfg0.N, ¬isA t → cfg0.idle 8 (grid0.coords t) = false :=
  (by decide +kernel : ∀ t : Fin grid0.N, ¬t.val % 17 = 0 → cfg0.idle 8 (grid0.coords t) = false)

/-! The memory the body is handed. -/

/-- Window 0's staging buffer at a point. -/
abbrev st0 (t : Fin cfg0.N) : Memref sig .tc .vmem S1024x4096 .bf16 := win0_0.stage (cfg0.slots t 0)
/-- It is a whole buffer. -/
abbrev wh0 (t : Fin cfg0.N) : (st0 t).IsWhole := hstage0_0 ((cfg0.slots t 0).cast nbuf0_0)
/-- Window 1's staging buffer at a point. -/
abbrev st1 (t : Fin cfg0.N) : Memref sig .tc .vmem S1x4096x512 .f32 := win0_1.stage (cfg0.slots t 1)
/-- It is a whole buffer. -/
abbrev wh1 (t : Fin cfg0.N) : (st1 t).IsWhole := hstage0_1 ((cfg0.slots t 1).cast nbuf0_1)
/-- Window 2's staging buffer at a point. -/
abbrev st2 (t : Fin cfg0.N) : Memref sig .tc .vmem S1x1x512 .f32 := win0_2.stage (cfg0.slots t 2)
/-- It is a whole buffer. -/
abbrev wh2 (t : Fin cfg0.N) : (st2 t).IsWhole := hstage0_2 ((cfg0.slots t 2).cast nbuf0_2)
/-- Window 3's staging buffer at a point. -/
abbrev st3 (t : Fin cfg0.N) : Memref sig .tc .vmem S1x32x12288 .f32 := win0_3.stage (cfg0.slots t 3)
/-- It is a whole buffer. -/
abbrev wh3 (t : Fin cfg0.N) : (st3 t).IsWhole := hstage0_3 ((cfg0.slots t 3).cast nbuf0_3)
/-- Window 4's staging buffer at a point. -/
abbrev st4 (t : Fin cfg0.N) : Memref sig .tc .vmem S1x16x4096 .f32 := win0_4.stage (cfg0.slots t 4)
/-- It is a whole buffer. -/
abbrev wh4 (t : Fin cfg0.N) : (st4 t).IsWhole := hstage0_4 ((cfg0.slots t 4).cast nbuf0_4)
/-- Window 5's staging buffer at a point. -/
abbrev st5 (t : Fin cfg0.N) : Memref sig .tc .vmem S1x16x4096 .f32 := win0_5.stage (cfg0.slots t 5)
/-- It is a whole buffer. -/
abbrev wh5 (t : Fin cfg0.N) : (st5 t).IsWhole := hstage0_5 ((cfg0.slots t 5).cast nbuf0_5)
/-- Window 6's staging buffer at a point. -/
abbrev st6 (t : Fin cfg0.N) : Memref sig .tc .vmem S1x16x4096 .f32 := win0_6.stage (cfg0.slots t 6)
/-- It is a whole buffer. -/
abbrev wh6 (t : Fin cfg0.N) : (st6 t).IsWhole := hstage0_6 ((cfg0.slots t 6).cast nbuf0_6)
/-- Window 7's staging buffer at a point. -/
abbrev st7 (t : Fin cfg0.N) : Memref sig .tc .vmem S1x32x4096 .f32 := win0_7.stage (cfg0.slots t 7)
/-- It is a whole buffer. -/
abbrev wh7 (t : Fin cfg0.N) : (st7 t).IsWhole := hstage0_7 ((cfg0.slots t 7).cast nbuf0_7)
/-- Window 8's staging buffer at a point. -/
abbrev st8 (t : Fin cfg0.N) : Memref sig .tc .vmem S1024x512 .bf16 := win0_8.stage (cfg0.slots t 8)
/-- It is a whole buffer. -/
abbrev wh8 (t : Fin cfg0.N) : (st8 t).IsWhole := hstage0_8 ((cfg0.slots t 8).cast nbuf0_8)
/-- Window 9's staging buffer at a point. -/
abbrev st9 (t : Fin cfg0.N) : Memref sig .tc .vmem S32x12288 .bf16 := win0_9.stage (cfg0.slots t 9)
/-- It is a whole buffer. -/
abbrev wh9 (t : Fin cfg0.N) : (st9 t).IsWhole := hstage0_9 ((cfg0.slots t 9).cast nbuf0_9)
/-- Window 10's staging buffer at a point. -/
abbrev st10 (t : Fin cfg0.N) : Memref sig .tc .vmem S16x4096 .bf16 := win0_10.stage (cfg0.slots t 10)
/-- It is a whole buffer. -/
abbrev wh10 (t : Fin cfg0.N) : (st10 t).IsWhole := hstage0_10 ((cfg0.slots t 10).cast nbuf0_10)
/-- Window 11's staging buffer at a point. -/
abbrev st11 (t : Fin cfg0.N) : Memref sig .tc .vmem S16x4096 .bf16 := win0_11.stage (cfg0.slots t 11)
/-- It is a whole buffer. -/
abbrev wh11 (t : Fin cfg0.N) : (st11 t).IsWhole := hstage0_11 ((cfg0.slots t 11).cast nbuf0_11)
/-- Window 12's staging buffer at a point. -/
abbrev st12 (t : Fin cfg0.N) : Memref sig .tc .vmem S16x4096 .bf16 := win0_12.stage (cfg0.slots t 12)
/-- It is a whole buffer. -/
abbrev wh12 (t : Fin cfg0.N) : (st12 t).IsWhole := hstage0_12 ((cfg0.slots t 12).cast nbuf0_12)
/-- Window 13's staging buffer at a point. -/
abbrev st13 (t : Fin cfg0.N) : Memref sig .tc .vmem S32x4096 .bf16 := win0_13.stage (cfg0.slots t 13)
/-- It is a whole buffer. -/
abbrev wh13 (t : Fin cfg0.N) : (st13 t).IsWhole := hstage0_13 ((cfg0.slots t 13).cast nbuf0_13)
/-- The first scratch array. -/
abbrev sc0 : Memref sig .tc .vmem S1024x512 .f32 := Memref.whole cc0_scratch0
/-- The second. -/
abbrev sc1 : Memref sig .tc .vmem S1024x512 .f32 := Memref.whole cc0_scratch1

/-- Outside the windows the body owns the two scratch arrays, at anything, and the generator's register. -/
theorem rest_eq (c : Dev nD) :
    (Pipeline.ΦA spec0 c : sProp (Res F))
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

end Cert.Kernel6Ideal.Body

end
-- ==== Proof.Inp.RunA.lean ====
/- The input projection's body at one kind of grid point. -/
module

public import proofs.«01_k».proof.Proof.Inp.Conds

@[expose] public section

set_option backward.proofsInPublic true
set_option maxRecDepth 16384

noncomputable section

namespace Cert.Kernel6Ideal.Body

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 1000000 in
/-- A POINT OF COLUMN 0: the products of the first column tile go into the first scratch array, and no result tile is stored. -/
theorem runA (c : Dev nD) (i : grid0.Coords) (arg2 : Memref sig .tc .vmem S1024x4096 .bf16) (harg2 : arg2.IsWhole) (arg3 : Memref sig .tc .vmem S1x4096x512 .f32) (harg3 : arg3.IsWhole) (arg4 : Memref sig .tc .vmem S1x1x512 .f32) (harg4 : arg4.IsWhole) (arg5 : Memref sig .tc .vmem S1x32x12288 .f32) (harg5 : arg5.IsWhole) (arg6 : Memref sig .tc .vmem S1x16x4096 .f32) (harg6 : arg6.IsWhole) (arg7 : Memref sig .tc .vmem S1x16x4096 .f32) (harg7 : arg7.IsWhole) (arg8 : Memref sig .tc .vmem S1x16x4096 .f32) (harg8 : arg8.IsWhole) (arg9 : Memref sig .tc .vmem S1x32x4096 .f32) (harg9 : arg9.IsWhole) (arg10 : Memref sig .tc .vmem S1024x512 .bf16) (harg10 : arg10.IsWhole) (arg11 : Memref sig .tc .vmem S32x12288 .bf16) (harg11 : arg11.IsWhole) (arg12 : Memref sig .tc .vmem S16x4096 .bf16) (harg12 : arg12.IsWhole) (arg13 : Memref sig .tc .vmem S16x4096 .bf16) (harg13 : arg13.IsWhole) (arg14 : Memref sig .tc .vmem S16x4096 .bf16) (harg14 : arg14.IsWhole) (arg15 : Memref sig .tc .vmem S32x4096 .bf16) (harg15 : arg15.IsWhole) (arg16 : Memref sig .tc .vmem S1024x512 .f32) (harg16 : arg16.IsWhole) (arg17 : Memref sig .tc .vmem S1024x512 .f32) (harg17 : arg17.IsWhole) (hc0 : cond0_0 i) (hc1 : ¬cond0_1 i) (hc2 : ¬cond0_2 i) (hc3 : ¬cond0_3 i) (hc4 : ¬cond0_4 i)
    (x0 : Vec F S1024x4096 .bf16) (x1 : Vec F S1x4096x512 .f32) (x2 : Vec F S1x1x512 .f32) (x3 : Vec F S1x32x12288 .f32) (x4 : Vec F S1x16x4096 .f32) (x5 : Vec F S1x16x4096 .f32) (x6 : Vec F S1x16x4096 .f32) (x7 : Vec F S1x32x4096 .f32)
    (d8 : Vec F S1024x512 .bf16) (E : Set ℕ) (K : PUnit → sProp (Res F)) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare d8
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare d8
            ∗ owns (c : Thread nD τ) arg11 fullShare (k0_pay96 x3)
            ∗ owns (c : Thread nD τ) arg12 fullShare (k0_pay97 x4)
            ∗ owns (c : Thread nD τ) arg13 fullShare (k0_pay98 x5)
            ∗ owns (c : Thread nD τ) arg14 fullShare (k0_pay99 x6)
            ∗ owns (c : Thread nD τ) arg15 fullShare (k0_pay100 x7)
            ∗ owns (c : Thread nD τ) arg16 fullShare (k0_pay1 x0 x1)
            ∗ (∃ d, owns (c : Thread nD τ) arg17 fullShare d)) -∗ K ⟨⟩))
    ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_in_proj_eq_skeleton]; unfold cc0_in_proj_skel
  simp only [k0_part31_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d16, %f16, -, H16⟩, ⟨%d17, %f17, -, H17⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro
    refine (View.read_writes_full _ _ _ _ _).trans ?_
    sl_unfold_words
    exact congrArg _ ((View.readAt_full _ _ _).trans (harg5.read_unread _))
  isplitl [H10]
  · iexists _; isplitr; swap; · iexact H10
    ipureintro
    refine (View.read_writes_full _ _ _ _ _).trans ?_
    sl_unfold_words
    exact congrArg _ ((View.readAt_full _ _ _).trans (harg6.read_unread _))
  isplitl [H11]
  · iexists _; isplitr; swap; · iexact H11
    ipureintro
    refine (View.read_writes_full _ _ _ _ _).trans ?_
    sl_unfold_words
    exact congrArg _ ((View.readAt_full _ _ _).trans (harg7.read_unread _))
  isplitl [H12]
  · iexists _; isplitr; swap; · iexact H12
    ipureintro
    refine (View.read_writes_full _ _ _ _ _).trans ?_
    sl_unfold_words
    exact congrArg _ ((View.readAt_full _ _ _).trans (harg8.read_unread _))
  isplitl [H13]
  · iexists _; isplitr; swap; · iexact H13
    ipureintro
    refine (View.read_writes_full _ _ _ _ _).trans ?_
    sl_unfold_words
    exact congrArg _ ((View.readAt_full _ _ _).trans (harg9.read_unread _))
  isplitl [H16]
  · iexists _; isplitr; swap; · iexact H16
    ipureintro
    refine (View.read_writes_full _ _ _ _ _).trans ?_
    sl_unfold_words
    exact congrArg₂ _ ((View.readAt_full _ _ _).trans (harg2.read_unread _)) ((View.readAt_full _ _ _).trans (harg3.read_unread _))
  iexists _; iexists _; isplitr; swap; · iexact H17
  ipureintro; rfl

end Cert.Kernel6Ideal.Body

end
-- ==== Proof.Inp.RunB.lean ====
/- The input projection's body at one kind of grid point. -/
module

public import proofs.«01_k».proof.Proof.Inp.RunA

@[expose] public section

set_option backward.proofsInPublic true
set_option maxRecDepth 16384

noncomputable section

namespace Cert.Kernel6Ideal.Body

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 1000000 in
/-- A POINT OF AN ODD COLUMN: the tile kept in the first scratch array is normalised and stored, and the next column tile's products go into the second. The stored pieces are found by the run. -/
def runB (c : Dev nD) (i : grid0.Coords) (arg2 : Memref sig .tc .vmem S1024x4096 .bf16) (harg2 : arg2.IsWhole) (arg3 : Memref sig .tc .vmem S1x4096x512 .f32) (harg3 : arg3.IsWhole) (arg4 : Memref sig .tc .vmem S1x1x512 .f32) (harg4 : arg4.IsWhole) (arg5 : Memref sig .tc .vmem S1x32x12288 .f32) (harg5 : arg5.IsWhole) (arg6 : Memref sig .tc .vmem S1x16x4096 .f32) (harg6 : arg6.IsWhole) (arg7 : Memref sig .tc .vmem S1x16x4096 .f32) (harg7 : arg7.IsWhole) (arg8 : Memref sig .tc .vmem S1x16x4096 .f32) (harg8 : arg8.IsWhole) (arg9 : Memref sig .tc .vmem S1x32x4096 .f32) (harg9 : arg9.IsWhole) (arg10 : Memref sig .tc .vmem S1024x512 .bf16) (harg10 : arg10.IsWhole) (arg11 : Memref sig .tc .vmem S32x12288 .bf16) (harg11 : arg11.IsWhole) (arg12 : Memref sig .tc .vmem S16x4096 .bf16) (harg12 : arg12.IsWhole) (arg13 : Memref sig .tc .vmem S16x4096 .bf16) (harg13 : arg13.IsWhole) (arg14 : Memref sig .tc .vmem S16x4096 .bf16) (harg14 : arg14.IsWhole) (arg15 : Memref sig .tc .vmem S32x4096 .bf16) (harg15 : arg15.IsWhole) (arg16 : Memref sig .tc .vmem S1024x512 .f32) (harg16 : arg16.IsWhole) (arg17 : Memref sig .tc .vmem S1024x512 .f32) (harg17 : arg17.IsWhole) (hc0 : ¬cond0_0 i) (hc1 : cond0_1 i) (hc2 : ¬cond0_2 i) (hc3 : ¬cond0_3 i) (hc4 : ¬cond0_4 i)
    (x0 : Vec F S1024x4096 .bf16) (x1 : Vec F S1x4096x512 .f32) (x2 : Vec F S1x1x512 .f32) (x3 : Vec F S1x32x12288 .f32) (x4 : Vec F S1x16x4096 .f32) (x5 : Vec F S1x16x4096 .f32) (x6 : Vec F S1x16x4096 .f32) (x7 : Vec F S1x32x4096 .f32) (xs : Vec F S1024x512 .f32) :
    { L8 : List (View.Piece (Elt F) S1024x512 .bf16) // ∀ (E : Set ℕ) (K : PUnit → sProp (Res F)),
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ owns (c : Thread nD τ) arg16 fullShare xs
        ∗ (∃ d, owns (c : Thread nD τ) arg17 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ (∃ f, arg10.view.loc (c : Thread nD τ) ↦[arg10.view.set]{fullShare} arg10.view.writes (Elt F) f L8)
            ∗ owns (c : Thread nD τ) arg11 fullShare (k0_pay96 x3)
            ∗ owns (c : Thread nD τ) arg12 fullShare (k0_pay97 x4)
            ∗ owns (c : Thread nD τ) arg13 fullShare (k0_pay98 x5)
            ∗ owns (c : Thread nD τ) arg14 fullShare (k0_pay99 x6)
            ∗ owns (c : Thread nD τ) arg15 fullShare (k0_pay100 x7)
            ∗ (∃ d, owns (c : Thread nD τ) arg16 fullShare d)
            ∗ owns (c : Thread nD τ) arg17 fullShare (k0_pay29 x0 x1)) -∗ K ⟨⟩))
    ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0_in_proj_eq_skeleton]; unfold cc0_in_proj_skel
    simp only [k0_part31_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%f16, %hf16, H16⟩, ⟨%d17, %f17, -, H17⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg16.eq_unread hf16
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; swap; · iexact H9
      ipureintro
      refine (View.read_writes_full _ _ _ _ _).trans ?_
      sl_unfold_words
      exact congrArg _ ((View.readAt_full _ _ _).trans (harg5.read_unread _))
    isplitl [H10]
    · iexists _; isplitr; swap; · iexact H10
      ipureintro
      refine (View.read_writes_full _ _ _ _ _).trans ?_
      sl_unfold_words
      exact congrArg _ ((View.readAt_full _ _ _).trans (harg6.read_unread _))
    isplitl [H11]
    · iexists _; isplitr; swap; · iexact H11
      ipureintro
      refine (View.read_writes_full _ _ _ _ _).trans ?_
      sl_unfold_words
      exact congrArg _ ((View.readAt_full _ _ _).trans (harg7.read_unread _))
    isplitl [H12]
    · iexists _; isplitr; swap; · iexact H12
      ipureintro
      refine (View.read_writes_full _ _ _ _ _).trans ?_
      sl_unfold_words
      exact congrArg _ ((View.readAt_full _ _ _).trans (harg8.read_unread _))
    isplitl [H13]
    · iexists _; isplitr; swap; · iexact H13
      ipureintro
      refine (View.read_writes_full _ _ _ _ _).trans ?_
      sl_unfold_words
      exact congrArg _ ((View.readAt_full _ _ _).trans (harg9.read_unread _))
    isplitl [H16]
    · iexists _; iexists _; isplitr; swap; · iexact H16
      ipureintro; rfl
    iexists _; isplitr; swap; · iexact H17
    ipureintro
    refine (View.read_writes_full _ _ _ _ _).trans ?_
    sl_unfold_words
    exact congrArg₂ _ ((View.readAt_full _ _ _).trans (harg2.read_unread _)) ((View.readAt_full _ _ _).trans (harg3.read_unread _))

end Cert.Kernel6Ideal.Body

end
-- ==== Proof.Inp.RunC.lean ====
/- The input projection's body at one kind of grid point. -/
module

public import proofs.«01_k».proof.Proof.Inp.RunB

@[expose] public section

set_option backward.proofsInPublic true
set_option maxRecDepth 16384

noncomputable section

namespace Cert.Kernel6Ideal.Body

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 1000000 in
/-- A POINT OF AN EVEN COLUMN from 2 on: the tile kept in the second scratch array is normalised and stored, and the next column tile's products go into the first. The stored pieces are found by the run. -/
def runC (c : Dev nD) (i : grid0.Coords) (arg2 : Memref sig .tc .vmem S1024x4096 .bf16) (harg2 : arg2.IsWhole) (arg3 : Memref sig .tc .vmem S1x4096x512 .f32) (harg3 : arg3.IsWhole) (arg4 : Memref sig .tc .vmem S1x1x512 .f32) (harg4 : arg4.IsWhole) (arg5 : Memref sig .tc .vmem S1x32x12288 .f32) (harg5 : arg5.IsWhole) (arg6 : Memref sig .tc .vmem S1x16x4096 .f32) (harg6 : arg6.IsWhole) (arg7 : Memref sig .tc .vmem S1x16x4096 .f32) (harg7 : arg7.IsWhole) (arg8 : Memref sig .tc .vmem S1x16x4096 .f32) (harg8 : arg8.IsWhole) (arg9 : Memref sig .tc .vmem S1x32x4096 .f32) (harg9 : arg9.IsWhole) (arg10 : Memref sig .tc .vmem S1024x512 .bf16) (harg10 : arg10.IsWhole) (arg11 : Memref sig .tc .vmem S32x12288 .bf16) (harg11 : arg11.IsWhole) (arg12 : Memref sig .tc .vmem S16x4096 .bf16) (harg12 : arg12.IsWhole) (arg13 : Memref sig .tc .vmem S16x4096 .bf16) (harg13 : arg13.IsWhole) (arg14 : Memref sig .tc .vmem S16x4096 .bf16) (harg14 : arg14.IsWhole) (arg15 : Memref sig .tc .vmem S32x4096 .bf16) (harg15 : arg15.IsWhole) (arg16 : Memref sig .tc .vmem S1024x512 .f32) (harg16 : arg16.IsWhole) (arg17 : Memref sig .tc .vmem S1024x512 .f32) (harg17 : arg17.IsWhole) (hc0 : ¬cond0_0 i) (hc1 : ¬cond0_1 i) (hc2 : cond0_2 i) (hc3 : ¬cond0_3 i) (hc4 : ¬cond0_4 i)
    (x0 : Vec F S1024x4096 .bf16) (x1 : Vec F S1x4096x512 .f32) (x2 : Vec F S1x1x512 .f32) (x3 : Vec F S1x32x12288 .f32) (x4 : Vec F S1x16x4096 .f32) (x5 : Vec F S1x16x4096 .f32) (x6 : Vec F S1x16x4096 .f32) (x7 : Vec F S1x32x4096 .f32) (xs : Vec F S1024x512 .f32) :
    { L8 : List (View.Piece (Elt F) S1024x512 .bf16) // ∀ (E : Set ℕ) (K : PUnit → sProp (Res F)),
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ owns (c : Thread nD τ) arg17 fullShare xs
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ (∃ f, arg10.view.loc (c : Thread nD τ) ↦[arg10.view.set]{fullShare} arg10.view.writes (Elt F) f L8)
            ∗ owns (c : Thread nD τ) arg11 fullShare (k0_pay96 x3)
            ∗ owns (c : Thread nD τ) arg12 fullShare (k0_pay97 x4)
            ∗ owns (c : Thread nD τ) arg13 fullShare (k0_pay98 x5)
            ∗ owns (c : Thread nD τ) arg14 fullShare (k0_pay99 x6)
            ∗ owns (c : Thread nD τ) arg15 fullShare (k0_pay100 x7)
            ∗ owns (c : Thread nD τ) arg16 fullShare (k0_pay53 x0 x1)
            ∗ (∃ d, owns (c : Thread nD τ) arg17 fullShare d)) -∗ K ⟨⟩))
    ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0_in_proj_eq_skeleton]; unfold cc0_in_proj_skel
    simp only [k0_part31_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d16, %f16, -, H16⟩, ⟨%f17, %hf17, H17⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg17.eq_unread hf17
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; swap; · iexact H9
      ipureintro
      refine (View.read_writes_full _ _ _ _ _).trans ?_
      sl_unfold_words
      exact congrArg _ ((View.readAt_full _ _ _).trans (harg5.read_unread _))
    isplitl [H10]
    · iexists _; isplitr; swap; · iexact H10
      ipureintro
      refine (View.read_writes_full _ _ _ _ _).trans ?_
      sl_unfold_words
      exact congrArg _ ((View.readAt_full _ _ _).trans (harg6.read_unread _))
    isplitl [H11]
    · iexists _; isplitr; swap; · iexact H11
      ipureintro
      refine (View.read_writes_full _ _ _ _ _).trans ?_
      sl_unfold_words
      exact congrArg _ ((View.readAt_full _ _ _).trans (harg7.read_unread _))
    isplitl [H12]
    · iexists _; isplitr; swap; · iexact H12
      ipureintro
      refine (View.read_writes_full _ _ _ _ _).trans ?_
      sl_unfold_words
      exact congrArg _ ((View.readAt_full _ _ _).trans (harg8.read_unread _))
    isplitl [H13]
    · iexists _; isplitr; swap; · iexact H13
      ipureintro
      refine (View.read_writes_full _ _ _ _ _).trans ?_
      sl_unfold_words
      exact congrArg _ ((View.readAt_full _ _ _).trans (harg9.read_unread _))
    isplitl [H16]
    · iexists _; isplitr; swap; · iexact H16
      ipureintro
      refine (View.read_writes_full _ _ _ _ _).trans ?_
      sl_unfold_words
      exact congrArg₂ _ ((View.readAt_full _ _ _).trans (harg2.read_unread _)) ((View.readAt_full _ _ _).trans (harg3.read_unread _))
    iexists _; iexists _; isplitr; swap; · iexact H17
    ipureintro; rfl

end Cert.Kernel6Ideal.Body

end
-- ==== Proof.Inp.RunD.lean ====
/- The input projection's body at one kind of grid point. -/
module

public import proofs.«01_k».proof.Proof.Inp.RunC

@[expose] public section

set_option backward.proofsInPublic true
set_option maxRecDepth 16384

noncomputable section

namespace Cert.Kernel6Ideal.Body

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 1000000 in
/-- A POINT OF THE LAST COLUMN: the tile kept in the second scratch array is normalised and stored. The stored pieces are found by the run. -/
def runD (c : Dev nD) (i : grid0.Coords) (arg2 : Memref sig .tc .vmem S1024x4096 .bf16) (harg2 : arg2.IsWhole) (arg3 : Memref sig .tc .vmem S1x4096x512 .f32) (harg3 : arg3.IsWhole) (arg4 : Memref sig .tc .vmem S1x1x512 .f32) (harg4 : arg4.IsWhole) (arg5 : Memref sig .tc .vmem S1x32x12288 .f32) (harg5 : arg5.IsWhole) (arg6 : Memref sig .tc .vmem S1x16x4096 .f32) (harg6 : arg6.IsWhole) (arg7 : Memref sig .tc .vmem S1x16x4096 .f32) (harg7 : arg7.IsWhole) (arg8 : Memref sig .tc .vmem S1x16x4096 .f32) (harg8 : arg8.IsWhole) (arg9 : Memref sig .tc .vmem S1x32x4096 .f32) (harg9 : arg9.IsWhole) (arg10 : Memref sig .tc .vmem S1024x512 .bf16) (harg10 : arg10.IsWhole) (arg11 : Memref sig .tc .vmem S32x12288 .bf16) (harg11 : arg11.IsWhole) (arg12 : Memref sig .tc .vmem S16x4096 .bf16) (harg12 : arg12.IsWhole) (arg13 : Memref sig .tc .vmem S16x4096 .bf16) (harg13 : arg13.IsWhole) (arg14 : Memref sig .tc .vmem S16x4096 .bf16) (harg14 : arg14.IsWhole) (arg15 : Memref sig .tc .vmem S32x4096 .bf16) (harg15 : arg15.IsWhole) (arg16 : Memref sig .tc .vmem S1024x512 .f32) (harg16 : arg16.IsWhole) (arg17 : Memref sig .tc .vmem S1024x512 .f32) (harg17 : arg17.IsWhole) (hc0 : ¬cond0_0 i) (hc1 : ¬cond0_1 i) (hc2 : ¬cond0_2 i) (hc3 : ¬cond0_3 i) (hc4 : cond0_4 i)
    (x0 : Vec F S1024x4096 .bf16) (x1 : Vec F S1x4096x512 .f32) (x2 : Vec F S1x1x512 .f32) (x3 : Vec F S1x32x12288 .f32) (x4 : Vec F S1x16x4096 .f32) (x5 : Vec F S1x16x4096 .f32) (x6 : Vec F S1x16x4096 .f32) (x7 : Vec F S1x32x4096 .f32) (xs : Vec F S1024x512 .f32) :
    { L8 : List (View.Piece (Elt F) S1024x512 .bf16) // ∀ (E : Set ℕ) (K : PUnit → sProp (Res F)),
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ owns (c : Thread nD τ) arg17 fullShare xs
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ (∃ f, arg10.view.loc (c : Thread nD τ) ↦[arg10.view.set]{fullShare} arg10.view.writes (Elt F) f L8)
            ∗ owns (c : Thread nD τ) arg11 fullShare (k0_pay96 x3)
            ∗ owns (c : Thread nD τ) arg12 fullShare (k0_pay97 x4)
            ∗ owns (c : Thread nD τ) arg13 fullShare (k0_pay98 x5)
            ∗ owns (c : Thread nD τ) arg14 fullShare (k0_pay99 x6)
            ∗ owns (c : Thread nD τ) arg15 fullShare (k0_pay100 x7)
            ∗ (∃ d, owns (c : Thread nD τ) arg16 fullShare d)
            ∗ (∃ d, owns (c : Thread nD τ) arg17 fullShare d)) -∗ K ⟨⟩))
    ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0_in_proj_eq_skeleton]; unfold cc0_in_proj_skel
    simp only [k0_part31_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d16, %f16, -, H16⟩, ⟨%f17, %hf17, H17⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg17.eq_unread hf17
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; swap; · iexact H9
      ipureintro
      refine (View.read_writes_full _ _ _ _ _).trans ?_
      sl_unfold_words
      exact congrArg _ ((View.readAt_full _ _ _).trans (harg5.read_unread _))
    isplitl [H10]
    · iexists _; isplitr; swap; · iexact H10
      ipureintro
      refine (View.read_writes_full _ _ _ _ _).trans ?_
      sl_unfold_words
      exact congrArg _ ((View.readAt_full _ _ _).trans (harg6.read_unread _))
    isplitl [H11]
    · iexists _; isplitr; swap; · iexact H11
      ipureintro
      refine (View.read_writes_full _ _ _ _ _).trans ?_
      sl_unfold_words
      exact congrArg _ ((View.readAt_full _ _ _).trans (harg7.read_unread _))
    isplitl [H12]
    · iexists _; isplitr; swap; · iexact H12
      ipureintro
      refine (View.read_writes_full _ _ _ _ _).trans ?_
      sl_unfold_words
      exact congrArg _ ((View.readAt_full _ _ _).trans (harg8.read_unread _))
    isplitl [H13]
    · iexists _; isplitr; swap; · iexact H13
      ipureintro
      refine (View.read_writes_full _ _ _ _ _).trans ?_
      sl_unfold_words
      exact congrArg _ ((View.readAt_full _ _ _).trans (harg9.read_unread _))
    isplitl [H16]
    · iexists _; iexists _; isplitr; swap; · iexact H16
      ipureintro; rfl
    iexists _; iexists _; isplitr; swap; · iexact H17
    ipureintro; rfl

end Cert.Kernel6Ideal.Body

end
-- ==== Proof.Inp.Frame.lean ====
/- The input projection's frame: the kernel runs to its end, leaving its arguments as they were and its results as its points say. -/
module

public import proofs.«01_k».proof.Proof.Inp.RunD
public import Idealize.ShloMosaic.Lib.Claim

@[expose] public section

set_option backward.proofsInPublic true
set_option maxRecDepth 16384

noncomputable section

namespace Cert.Kernel6Ideal.Body

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The products a point leaves in the scratch array it writes: its row block against its column tile. -/
def left (c : Dev nD) (n : ℕ) : Vec F S1024x512 .f32 :=
  if h : n < cfg0.N then k0_pay1 (iblk m c 0 ⟨n, h⟩) (iblk m c 1 ⟨n, h⟩) else View.canon []

theorem left_at (c : Dev nD) (t : Fin cfg0.N) : left m c t.val = k0_pay1 (iblk m c 0 t) (iblk m c 1 t) := by
  unfold left; rw [dif_pos t.isLt]

theorem pay29_eq (x : Vec F S1024x4096 .bf16) (w : Vec F S1x4096x512 .f32) : k0_pay29 x w = k0_pay1 x w := rfl
theorem pay53_eq (x : Vec F S1024x4096 .bf16) (w : Vec F S1x4096x512 .f32) : k0_pay53 x w = k0_pay1 x w := rfl

/-- The pieces of the result tile stored at a point of kind B. -/
def piecesB (c : Dev nD) (t : Fin cfg0.N) (h : isB t) : List (View.Piece (Elt F) S1024x512 .bf16) :=
  (runB c (grid0.coords t) (st0 t) (wh0 t) (st1 t) (wh1 t) (st2 t) (wh2 t) (st3 t) (wh3 t) (st4 t) (wh4 t) (st5 t) (wh5 t) (st6 t) (wh6 t) (st7 t) (wh7 t) (st8 t) (wh8 t) (st9 t) (wh9 t) (st10 t) (wh10 t) (st11 t) (wh11 t) (st12 t) (wh12 t) (st13 t) (wh13 t) sc0 (Memref.isWhole_whole _) sc1 (Memref.isWhole_whole _) (conds_B t h).1 (conds_B t h).2.1 (conds_B t h).2.2.1 (conds_B t h).2.2.2.1 (conds_B t h).2.2.2.2
    (iblk m c 0 t) (iblk m c 1 t) (iblk m c 2 t) (iblk m c 3 t) (iblk m c 4 t) (iblk m c 5 t) (iblk m c 6 t) (iblk m c 7 t) (left m c (t.val - 1))).1

/-- They cover the tile. -/
theorem coverB (c : Dev nD) (t : Fin cfg0.N) (h : isB t) (y : S1024x512.Idx) : ∃ p ∈ piecesB m c t h, y ∈ p.1.set :=
  View.cover_of_tiledL (piecesB m c t h) S256x128.size (by sl_kernel_rfl) y

/-- The pieces of the result tile stored at a point of kind C. -/
def piecesC (c : Dev nD) (t : Fin cfg0.N) (h : isC t) : List (View.Piece (Elt F) S1024x512 .bf16) :=
  (runC c (grid0.coords t) (st0 t) (wh0 t) (st1 t) (wh1 t) (st2 t) (wh2 t) (st3 t) (wh3 t) (st4 t) (wh4 t) (st5 t) (wh5 t) (st6 t) (wh6 t) (st7 t) (wh7 t) (st8 t) (wh8 t) (st9 t) (wh9 t) (st10 t) (wh10 t) (st11 t) (wh11 t) (st12 t) (wh12 t) (st13 t) (wh13 t) sc0 (Memref.isWhole_whole _) sc1 (Memref.isWhole_whole _) (conds_C t h).1 (conds_C t h).2.1 (conds_C t h).2.2.1 (conds_C t h).2.2.2.1 (conds_C t h).2.2.2.2
    (iblk m c 0 t) (iblk m c 1 t) (iblk m c 2 t) (iblk m c 3 t) (iblk m c 4 t) (iblk m c 5 t) (iblk m c 6 t) (iblk m c 7 t) (left m c (t.val - 1))).1

/-- They cover the tile. -/
theorem coverC (c : Dev nD) (t : Fin cfg0.N) (h : isC t) (y : S1024x512.Idx) : ∃ p ∈ piecesC m c t h, y ∈ p.1.set :=
  View.cover_of_tiledL (piecesC m c t h) S256x128.size (by sl_kernel_rfl) y

/-- The pieces of the result tile stored at a point of kind D. -/
def piecesD (c : Dev nD) (t : Fin cfg0.N) (h : isD t) : List (View.Piece (Elt F) S1024x512 .bf16) :=
  (runD c (grid0.coords t) (st0 t) (wh0 t) (st1 t) (wh1 t) (st2 t) (wh2 t) (st3 t) (wh3 t) (st4 t) (wh4 t) (st5 t) (wh5 t) (st6 t) (wh6 t) (st7 t) (wh7 t) (st8 t) (wh8 t) (st9 t) (wh9 t) (st10 t) (wh10 t) (st11 t) (wh11 t) (st12 t) (wh12 t) (st13 t) (wh13 t) sc0 (Memref.isWhole_whole _) sc1 (Memref.isWhole_whole _) (conds_D t h).1 (conds_D t h).2.1 (conds_D t h).2.2.1 (conds_D t h).2.2.2.1 (conds_D t h).2.2.2.2
    (iblk m c 0 t) (iblk m c 1 t) (iblk m c 2 t) (iblk m c 3 t) (iblk m c 4 t) (iblk m c 5 t) (iblk m c 6 t) (iblk m c 7 t) (left m c (t.val - 1))).1

/-- They cover the tile. -/
theorem coverD (c : Dev nD) (t : Fin cfg0.N) (h : isD t) (y : S1024x512.Idx) : ∃ p ∈ piecesD m c t h, y ∈ p.1.set :=
  View.cover_of_tiledL (piecesD m c t h) S256x128.size (by sl_kernel_rfl) y

/-- The result tile a point leaves in its buffer. -/
def tile (c : Dev nD) (t : Fin cfg0.N) : Vec F S1024x512 .bf16 :=
  if h : isB t then View.canon (piecesB m c t h)
  else if h : isC t then View.canon (piecesC m c t h)
  else if h : isD t then View.canon (piecesD m c t h) else View.canon []

theorem tile_B (c : Dev nD) (t : Fin cfg0.N) (h : isB t) : tile m c t = View.canon (piecesB m c t h) := dif_pos h
theorem tile_C (c : Dev nD) (t : Fin cfg0.N) (h : isC t) : tile m c t = View.canon (piecesC m c t h) :=
  (dif_neg (fun h' : isB t => by unfold isB isC at *; omega)).trans (dif_pos h)
theorem tile_D (c : Dev nD) (t : Fin cfg0.N) (h : isD t) : tile m c t = View.canon (piecesD m c t h) :=
  (dif_neg (fun h' : isB t => by unfold isB isD at *; omega)).trans
    ((dif_neg (fun h' : isC t => by unfold isC isD at *; omega)).trans (dif_pos h))

/-- WHAT HOLDS BEFORE A POINT beside the windows: nothing of the scratch arrays at a row block's start; then the array the point before wrote
    holds its products, the other anything. -/
def inv (c : Dev nD) (n : ℕ) : sProp (Res F) :=
  if n % 17 = 0 then Pipeline.ΦA spec0 c
  else if n % 17 % 2 = 1 then
    iprop(iprop(owns (c : Thread nD τ) sc0 fullShare (left m c (n - 1)) ∗ (∃ d, owns (c : Thread nD τ) sc1 fullShare d)) ∗ (∃ r, prngReg c r))
  else iprop(iprop((∃ d, owns (c : Thread nD τ) sc0 fullShare d) ∗ owns (c : Thread nD τ) sc1 fullShare (left m c (n - 1))) ∗ (∃ r, prngReg c r))

theorem inv_start (c : Dev nD) (n : ℕ) (h : n % 17 = 0) : inv m c n
    = iprop(iprop((∃ d, owns (c : Thread nD τ) sc0 fullShare d) ∗ (∃ d, owns (c : Thread nD τ) sc1 fullShare d)) ∗ (∃ r, prngReg c r)) := by
  rw [← rest_eq]; exact if_pos h
theorem inv_odd (c : Dev nD) (n : ℕ) (h : n % 17 % 2 = 1) : inv m c n
    = iprop(iprop(owns (c : Thread nD τ) sc0 fullShare (left m c (n - 1)) ∗ (∃ d, owns (c : Thread nD τ) sc1 fullShare d)) ∗ (∃ r, prngReg c r)) :=
  (if_neg (by omega)).trans (if_pos h)
theorem inv_even (c : Dev nD) (n : ℕ) (h : n % 17 % 2 = 0) (h0 : n % 17 ≠ 0) : inv m c n
    = iprop(iprop((∃ d, owns (c : Thread nD τ) sc0 fullShare d) ∗ owns (c : Thread nD τ) sc1 fullShare (left m c (n - 1))) ∗ (∃ r, prngReg c r)) :=
  (if_neg h0).trans (if_neg (by omega))

/-- THE PIPELINE'S PROOF DATA on a core: the arrays as the region finds them, what each buffer holds after a point, and what holds between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => tile m c t
    | ⟨9, _⟩ => k0_pay96 (iblk m c 3 t)
    | ⟨10, _⟩ => k0_pay97 (iblk m c 4 t)
    | ⟨11, _⟩ => k0_pay98 (iblk m c 5 t)
    | ⟨12, _⟩ => k0_pay99 (iblk m c 6 t)
    | ⟨13, _⟩ => k0_pay100 (iblk m c 7 t)
  Φ t := inv m c t.val
  q _ := fullShare
  owed _ := 0

/-- The arrays are as the region finds them. -/
theorem A_eq (c : Dev nD) (w : Fin cfg0.W) : (dats m 0 c).A w = V m c (Pipeline.arrRef spec0 w) := by
  dsimp only [dats]

/-! What each buffer holds after a point. -/

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = tile m c t := by dsimp only [dats]
theorem after9 (c : Dev nD) (t : Fin cfg0.N) : (dats m 0 c).after 9 t = k0_pay96 (iblk m c 3 t) := by dsimp only [dats]
theorem after10 (c : Dev nD) (t : Fin cfg0.N) : (dats m 0 c).after 10 t = k0_pay97 (iblk m c 4 t) := by dsimp only [dats]
theorem after11 (c : Dev nD) (t : Fin cfg0.N) : (dats m 0 c).after 11 t = k0_pay98 (iblk m c 5 t) := by dsimp only [dats]
theorem after12 (c : Dev nD) (t : Fin cfg0.N) : (dats m 0 c).after 12 t = k0_pay99 (iblk m c 6 t) := by dsimp only [dats]
theorem after13 (c : Dev nD) (t : Fin cfg0.N) : (dats m 0 c).after 13 t = k0_pay100 (iblk m c 7 t) := by dsimp only [dats]

/-! What an input's buffer holds at a point. -/

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-! What the body must leave in a live window's buffer. -/

theorem leaves0 (c : Dev nD) (t : Fin cfg0.N) :
    (dats m 0 c).leavesExact 0 t = owns (c : Thread nD τ) (st0 t) fullShare (iblk m c 0 t) := by
  unfold Dat.leavesExact; rw [live 0 (by decide) t, after0]
theorem leaves1 (c : Dev nD) (t : Fin cfg0.N) :
    (dats m 0 c).leavesExact 1 t = owns (c : Thread nD τ) (st1 t) fullShare (iblk m c 1 t) := by
  unfold Dat.leavesExact; rw [live 1 (by decide) t, after1]
theorem leaves2 (c : Dev nD) (t : Fin cfg0.N) :
    (dats m 0 c).leavesExact 2 t = owns (c : Thread nD τ) (st2 t) fullShare (iblk m c 2 t) := by
  unfold Dat.leavesExact; rw [live 2 (by decide) t, after2]
theorem leaves3 (c : Dev nD) (t : Fin cfg0.N) :
    (dats m 0 c).leavesExact 3 t = owns (c : Thread nD τ) (st3 t) fullShare (iblk m c 3 t) := by
  unfold Dat.leavesExact; rw [live 3 (by decide) t, after3]
theorem leaves4 (c : Dev nD) (t : Fin cfg0.N) :
    (dats m 0 c).leavesExact 4 t = owns (c : Thread nD τ) (st4 t) fullShare (iblk m c 4 t) := by
  unfold Dat.leavesExact; rw [live 4 (by decide) t, after4]
theorem leaves5 (c : Dev nD) (t : Fin cfg0.N) :
    (dats m 0 c).leavesExact 5 t = owns (c : Thread nD τ) (st5 t) fullShare (iblk m c 5 t) := by
  unfold Dat.leavesExact; rw [live 5 (by decide) t, after5]
theorem leaves6 (c : Dev nD) (t : Fin cfg0.N) :
    (dats m 0 c).leavesExact 6 t = owns (c : Thread nD τ) (st6 t) fullShare (iblk m c 6 t) := by
  unfold Dat.leavesExact; rw [live 6 (by decide) t, after6]
theorem leaves7 (c : Dev nD) (t : Fin cfg0.N) :
    (dats m 0 c).leavesExact 7 t = owns (c : Thread nD τ) (st7 t) fullShare (iblk m c 7 t) := by
  unfold Dat.leavesExact; rw [live 7 (by decide) t, after7]
theorem leaves8 (c : Dev nD) (t : Fin cfg0.N) (h : ¬isA t) :
    (dats m 0 c).leavesExact 8 t = owns (c : Thread nD τ) (st8 t) fullShare (tile m c t) := by
  unfold Dat.leavesExact; rw [live8 t h, after8]
theorem leaves9 (c : Dev nD) (t : Fin cfg0.N) :
    (dats m 0 c).leavesExact 9 t = owns (c : Thread nD τ) (st9 t) fullShare (k0_pay96 (iblk m c 3 t)) := by
  unfold Dat.leavesExact; rw [live 9 (by decide) t, after9]
theorem leaves10 (c : Dev nD) (t : Fin cfg0.N) :
    (dats m 0 c).leavesExact 10 t = owns (c : Thread nD τ) (st10 t) fullShare (k0_pay97 (iblk m c 4 t)) := by
  unfold Dat.leavesExact; rw [live 10 (by decide) t, after10]
theorem leaves11 (c : Dev nD) (t : Fin cfg0.N) :
    (dats m 0 c).leavesExact 11 t = owns (c : Thread nD τ) (st11 t) fullShare (k0_pay98 (iblk m c 5 t)) := by
  unfold Dat.leavesExact; rw [live 11 (by decide) t, after11]
theorem leaves12 (c : Dev nD) (t : Fin cfg0.N) :
    (dats m 0 c).leavesExact 12 t = owns (c : Thread nD τ) (st12 t) fullShare (k0_pay99 (iblk m c 6 t)) := by
  unfold Dat.leavesExact; rw [live 12 (by decide) t, after12]
theorem leaves13 (c : Dev nD) (t : Fin cfg0.N) :
    (dats m 0 c).leavesExact 13 t = owns (c : Thread nD τ) (st13 t) fullShare (k0_pay100 (iblk m c 7 t)) := by
  unfold Dat.leavesExact; rw [live 13 (by decide) t, after13]

/-- What the body is called with at a point, -/
def bodyPre (c : Dev nD) (t : Fin cfg0.N) : sProp (Res F) :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d))
    ∗ (∃ d, owns (c : Thread nD τ) (st12 t) fullShare ((dats m 0 c).before 12 t d))
    ∗ (∃ d, owns (c : Thread nD τ) (st13 t) fullShare ((dats m 0 c).before 13 t d)))

/-- and what it returns. -/
def bodyPost (c : Dev nD) (t : Fin cfg0.N) : sProp (Res F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 4000000 in
/-- The body at a point of column 0. -/
theorem sound_A (c : Dev nD) (t : Fin cfg0.N) (h : isA t) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = inv m c (t.val + 1) from rfl, show (dats m 0 c).Φ t.castSucc = inv m c t.val from rfl]
  rw [leaves0, leaves1, leaves2, leaves3, leaves4, leaves5, leaves6, leaves7, leaves9, leaves10, leaves11, leaves12, leaves13]
  rw [Dat.leavesExact_idle (dats m 0 c) 8 t (idle8 t h).1 (idle8 t h).2]
  rw [inv_start m c t.val h, inv_odd m c (t.val + 1) (by unfold isA at h; omega), show t.val + 1 - 1 = t.val from rfl, left_at]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (runA c (grid0.coords t) (st0 t) (wh0 t) (st1 t) (wh1 t) (st2 t) (wh2 t) (st3 t) (wh3 t) (st4 t) (wh4 t) (st5 t) (wh5 t) (st6 t) (wh6 t) (st7 t) (wh7 t) (st8 t) (wh8 t) (st9 t) (wh9 t) (st10 t) (wh10 t) (st11 t) (wh11 t) (st12 t) (wh12 t) (st13 t) (wh13 t) sc0 (Memref.isWhole_whole _) sc1 (Memref.isWhole_whole _) (conds_A t h).1 (conds_A t h).2.1 (conds_A t h).2.2.1 (conds_A t h).2.2.2.1 (conds_A t h).2.2.2.2
    (iblk m c 0 t) (iblk m c 1 t) (iblk m c 2 t) (iblk m c 3 t) (iblk m c 4 t) (iblk m c 5 t) (iblk m c 6 t) (iblk m c 7 t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  iintro ⟨H0, H1, H2, H3, H4, H5, H6, H7, H8, H9, H10, H11, H12, H13, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  isplitl [H12]; · iexact H12
  iexact H13

set_option maxHeartbeats 4000000 in
/-- The body at a point of an odd column. -/
theorem sound_B (c : Dev nD) (t : Fin cfg0.N) (h : isB t) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = inv m c (t.val + 1) from rfl, show (dats m 0 c).Φ t.castSucc = inv m c t.val from rfl]
  rw [leaves0, leaves1, leaves2, leaves3, leaves4, leaves5, leaves6, leaves7, leaves9, leaves10, leaves11, leaves12, leaves13]
  rw [leaves8 m c t (by unfold isB at h; unfold isA; omega), tile_B m c t h]
  rw [inv_odd m c t.val h, inv_even m c (t.val + 1) (by unfold isB at h; omega) (by unfold isB at h; omega), show t.val + 1 - 1 = t.val from rfl, left_at]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runB c (grid0.coords t) (st0 t) (wh0 t) (st1 t) (wh1 t) (st2 t) (wh2 t) (st3 t) (wh3 t) (st4 t) (wh4 t) (st5 t) (wh5 t) (st6 t) (wh6 t) (st7 t) (wh7 t) (st8 t) (wh8 t) (st9 t) (wh9 t) (st10 t) (wh10 t) (st11 t) (wh11 t) (st12 t) (wh12 t) (st13 t) (wh13 t) sc0 (Memref.isWhole_whole _) sc1 (Memref.isWhole_whole _) (conds_B t h).1 (conds_B t h).2.1 (conds_B t h).2.2.1 (conds_B t h).2.2.2.1 (conds_B t h).2.2.2.2
    (iblk m c 0 t) (iblk m c 1 t) (iblk m c 2 t) (iblk m c 3 t) (iblk m c 4 t) (iblk m c 5 t) (iblk m c 6 t) (iblk m c 7 t) (left m c (t.val - 1))).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  iintro ⟨H0, H1, H2, H3, H4, H5, H6, H7, ⟨%e8, H8⟩, H9, H10, H11, H12, H13, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_eq_canon _ _ _ (coverB m c t h)
  isplitl [H9]; · iexact H9
  isplitl [H10]; · iexact H10
  isplitl [H11]; · iexact H11
  isplitl [H12]; · iexact H12
  iexact H13

set_option maxHeartbeats 4000000 in
/-- The body at a point of an even column. -/
theorem sound_C (c : Dev nD) (t : Fin cfg0.N) (h : isC t) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = inv m c (t.val + 1) from rfl, show (dats m 0 c).Φ t.castSucc = inv m c t.val from rfl]
  rw [leaves0, leaves1, leaves2, leaves3, leaves4, leaves5, leaves6, leaves7, leaves9, leaves10, leaves11, leaves12, leaves13]
  rw [leaves8 m c t (by unfold isC at h; unfold isA; omega), tile_C m c t h]
  rw [inv_even m c t.val h.1 h.2.1, inv_odd m c (t.val + 1) (by unfold isC at h; omega), show t.val + 1 - 1 = t.val from rfl, left_at]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runC c (grid0.coords t) (st0 t) (wh0 t) (st1 t) (wh1 t) (st2 t) (wh2 t) (st3 t) (wh3 t) (st4 t) (wh4 t) (st5 t) (wh5 t) (st6 t) (wh6 t) (st7 t) (wh7 t) (st8 t) (wh8 t) (st9 t) (wh9 t) (st10 t) (wh10 t) (st11 t) (wh11 t) (st12 t) (wh12 t) (st13 t) (wh13 t) sc0 (Memref.isWhole_whole _) sc1 (Memref.isWhole_whole _) (conds_C t h).1 (conds_C t h).2.1 (conds_C t h).2.2.1 (conds_C t h).2.2.2.1 (conds_C t h).2.2.2.2
    (iblk m c 0 t) (iblk m c 1 t) (iblk m c 2 t) (iblk m c 3 t) (iblk m c 4 t) (iblk m c 5 t) (iblk m c 6 t) (iblk m c 7 t) (left m c (t.val - 1))).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  iintro ⟨H0, H1, H2, H3, H4, H5, H6, H7, ⟨%e8, H8⟩, H9, H10, H11, H12, H13, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_eq_canon _ _ _ (coverC m c t h)
  isplitl [H9]; · iexact H9
  isplitl [H10]; · iexact H10
  isplitl [H11]; · iexact H11
  isplitl [H12]; · iexact H12
  iexact H13

set_option maxHeartbeats 4000000 in
/-- The body at a point of the last column. -/
theorem sound_D (c : Dev nD) (t : Fin cfg0.N) (h : isD t) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = inv m c (t.val + 1) from rfl, show (dats m 0 c).Φ t.castSucc = inv m c t.val from rfl]
  rw [leaves0, leaves1, leaves2, leaves3, leaves4, leaves5, leaves6, leaves7, leaves9, leaves10, leaves11, leaves12, leaves13]
  rw [leaves8 m c t (by unfold isD at h; unfold isA; omega), tile_D m c t h]
  rw [inv_even m c t.val (by unfold isD at h; omega) (by unfold isD at h; omega), inv_start m c (t.val + 1) (by unfold isD at h; omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runD c (grid0.coords t) (st0 t) (wh0 t) (st1 t) (wh1 t) (st2 t) (wh2 t) (st3 t) (wh3 t) (st4 t) (wh4 t) (st5 t) (wh5 t) (st6 t) (wh6 t) (st7 t) (wh7 t) (st8 t) (wh8 t) (st9 t) (wh9 t) (st10 t) (wh10 t) (st11 t) (wh11 t) (st12 t) (wh12 t) (st13 t) (wh13 t) sc0 (Memref.isWhole_whole _) sc1 (Memref.isWhole_whole _) (conds_D t h).1 (conds_D t h).2.1 (conds_D t h).2.2.1 (conds_D t h).2.2.2.1 (conds_D t h).2.2.2.2
    (iblk m c 0 t) (iblk m c 1 t) (iblk m c 2 t) (iblk m c 3 t) (iblk m c 4 t) (iblk m c 5 t) (iblk m c 6 t) (iblk m c 7 t) (left m c (t.val - 1))).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  iintro ⟨H0, H1, H2, H3, H4, H5, H6, H7, ⟨%e8, H8⟩, H9, H10, H11, H12, H13, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_eq_canon _ _ _ (coverD m c t h)
  isplitl [H9]; · iexact H9
  isplitl [H10]; · iexact H10
  isplitl [H11]; · iexact H11
  isplitl [H12]; · iexact H12
  iexact H13

/-- The body at any point. -/
theorem sound_body (c : Dev nD) (t : Fin cfg0.N) :
    bodyPre m c t ⊢ wp frame (wpE (defs₀ (F := F)) Variants.none c none) Set.univ (bodyAt0 t) (fun _ => bodyPost m c t) := by
  rcases kinds t with h | h | h | h
  · exact sound_A m c t h
  · exact sound_B m c t h
  · exact sound_C m c t h
  · exact sound_D m c t h

/-- The body table's row at a point is the body. -/
theorem row (t : Fin cfg0.N) : defs₀ (F := F) .tc cfg0.body (cfg0.bodyArgs t (cfg0.slots t)) = bodyAt0 t := by
  unfold defs₀; rw [Defs.onTc_tc]

/-- The pipeline's obligation on the body. -/
theorem obligation (c : Dev nD) : BodyObligation (dats (F := F) m 0 c) (defs₀ (F := F)) Variants.none () Set.univ := fun t => by
  rw [bigSep_W0, bigSep_W0, row]
  exact triple_restated (sound_body m c t) rfl .rfl fun _ => .rfl

/-- What the launch hands over holds before the first point, -/
theorem enter (c : Dev nD) : Pipeline.ΦA spec0 c ⊢ (dats m 0 c).Φ 0 := by
  rw [show (dats m 0 c).Φ 0 = inv m c 0 from rfl, inv_start m c 0 rfl, rest_eq]
  try exact Idealize.SL.BI.Entails.refl _

/-- and is given back after the last. -/
theorem leave (c : Dev nD) : (dats m 0 c).Φ (Fin.last cfg0.N) ⊢ Pipeline.ΦA spec0 c := by
  rw [show (dats m 0 c).Φ (Fin.last cfg0.N) = inv m c cfg0.N from rfl, inv_start m c cfg0.N (by rw [show cfg0.N = 136 from N_0]), rest_eq]
  try exact Idealize.SL.BI.Entails.refl _

set_option backward.isDefEq.respectTransparency.types false in
/-- THE LAUNCH: every array ends at what the proof data says, and every semaphore at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

/-- The arrays' part of it. -/
theorem run_main : θ_run defs (onTc (τ := τ) (main (F := F))) (s₀ m ρ) (Pipeline.FramePost cfgs (dats m) 0 (V m)) :=
  (θ_run defs _ _).mono (fun _ h => h.1) (run_quiet m ρ)

/-- THE FRAME: the program terminates, its arguments end unchanged and its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_quiet m ρ))

end Cert.Kernel6Ideal.Body

end
-- ==== Proof.Inp.Tile.lean ====
/- The tiles the input projection's kernel stores. -/
module

public import proofs.«01_k».proof.Proof.Inp.Frame
public import Idealize.ShloMosaic.Lib.Pointwise
public import Idealize.ShloMosaic.Lib.Pipeline.ValueKit
public import Idealize.ShloMosaic.Lib.Pipeline.ReadBack

@[expose] public section

set_option backward.proofsInPublic true
set_option maxRecDepth 16384

noncomputable section

namespace Cert.Kernel6Ideal.Body

open Cert.Kernel6Ideal Cert.Kernel6Ideal.Gen Idealize.ShloMosaic Idealize.ShloMosaic.TcCoe Idealize.ShloMosaic.Tactic Idealize.SL.Sem

variable (m : (ℓ : Loc nD τ sig) → Buf (Elt Ideal) ℓ)

/-- Whether a point's stored tile is of the queries' or keys' columns, as the kernel decides it. -/
abbrev isQk (t : Fin cfg0.N) : BitVec 1 :=
  Scalar.andi (Scalar.cmpi CmpIPredicate.sge (Scalar.addi (Scalar.subi (BitVec.ofNat 32 (grid0.coords t 1).val) 1#32) 0#32) 2#32)
    (Scalar.cmpi CmpIPredicate.slt (Scalar.addi (Scalar.subi (BitVec.ofNat 32 (grid0.coords t 1).val) 1#32) 0#32) 10#32)

/-- An entry of a head's row, scaled by the row's root mean square and the weight where the head is a query's or a key's. -/
def unit (b : BitVec 1) (x : Fin 128 → EReal) (g : EReal) (k : Fin 128) : EReal :=
  Scalar.select b (x k * Ideal.rsqrt (Ideal.div (∑ q : Fin 128, x q * x q) (Ideal.ofBits .f32 0x43000000#32) + Ideal.ofBits .f32 0x358637BD#32) * g) (x k)

theorem head_apply (b : BitVec 1) (x : Vec Ideal S256x128 .f32) (g : Vec Ideal S1x1x128 .f32) (r : Fin 256) (k : Fin 128) :
    k0_pay6 b x g (ix2 r k) = unit b (fun q => x (ix2 r q)) (g (ix3 0 0 k)) k := by
  unfold unit
  pointwise [k0_pay6]

/-- The tile stored over a tile of products. -/
def normed (b : BitVec 1) (acc : Vec Ideal S1024x512 .f32) (w : Vec Ideal S1x1x512 .f32) : Vec Ideal S1024x512 .bf16 := fun j =>
  unit b (fun q => acc (ix2 ⟨(j 0).val, (j 0).isLt⟩ ⟨(j 1).val / 128 * 128 + q.val, by have h : (j 1).val < 512 := (j 1).isLt; omega⟩))
    (w (ix3 0 0 ⟨(j 1).val, (j 1).isLt⟩)) ⟨(j 1).val % 128, by omega⟩

/-- A load of a part of a whole array of products. -/
theorem part_apply {sp : Space} {a : Memref sig .tc sp S1024x512 .f32} (h : a.IsWhole) (X : Vec Ideal S1024x512 .f32) (R C : ℕ)
    (inb : ∀ i, (![R, C] : Fin 2 → ℕ) i + (![256, 128] : Fin 2 → ℕ) i ≤ S1024x512.size i) (r : Fin 256) (q : Fin 128) :
    View.readAt (Elt Ideal) a.view (Rect.unit (s := S1024x512) ![R, C] ![256, 128] inb).toLoadRect (h.unread X) (ix2 r q)
      = X (ix2 ⟨R + r.val, by have : R + 256 ≤ 1024 := inb 0; omega⟩ ⟨C + q.val, by have : C + 128 ≤ 512 := inb 1; omega⟩) := by
  refine (congrFun (h.read_unread X) _).trans (congrArg X (funext fun i => Fin.ext ?_))
  fin_cases i
  · show R + 1 * r.val = R + r.val; omega
  · show C + 1 * q.val = C + q.val; omega

/-- A load of a part of a block of weights. -/
theorem row_apply {sp : Space} {a : Memref sig .tc sp S1x1x512 .f32} (h : a.IsWhole) (X : Vec Ideal S1x1x512 .f32) (C : ℕ)
    (inb : ∀ i, (![0, 0, C] : Fin 3 → ℕ) i + (![1, 1, 128] : Fin 3 → ℕ) i ≤ S1x1x512.size i) (q : Fin 128) :
    View.readAt (Elt Ideal) a.view (Rect.unit (s := S1x1x512) ![0, 0, C] ![1, 1, 128] inb).toLoadRect (h.unread X) (ix3 0 0 q)
      = X (ix3 0 0 ⟨C + q.val, by have : C + 128 ≤ 512 := inb 2; omega⟩) := by
  refine (congrFun (h.read_unread X) _).trans (congrArg X (funext fun i => Fin.ext ?_))
  fin_cases i
  · rfl
  · rfl
  · show C + 1 * q.val = C + q.val; omega

/-- A stored piece is the tile's part. -/
theorem piece_eq (b : BitVec 1) (acc : Vec Ideal S1024x512 .f32) (w : Vec Ideal S1x1x512 .f32) (R C : ℕ) (hR : R + 256 ≤ 1024)
    (hC : C + 128 ≤ 512) (hd : C % 128 = 0) (x : Vec Ideal S256x128 .f32) (g : Vec Ideal S1x1x128 .f32)
    (hx : ∀ (r : Fin 256) (q : Fin 128), x (ix2 r q) = acc (ix2 ⟨R + r.val, by omega⟩ ⟨C + q.val, by omega⟩))
    (hg : ∀ q : Fin 128, g (ix3 0 0 q) = w (ix3 0 0 ⟨C + q.val, by omega⟩)) (z : S256x128.Idx) (y : S1024x512.Idx)
    (h0 : (y 0).val = R + (z 0).val) (h1 : (y 1).val = C + (z 1).val) : k0_pay6 b x g z = normed b acc w y := by
  obtain ⟨r, k, rfl⟩ : ∃ (r : Fin 256) (k : Fin 128), z = ix2 r k := ⟨z 0, z 1, (ix2_eta z).symm⟩
  replace h0 : (y 0).val = R + r.val := h0
  replace h1 : (y 1).val = C + k.val := h1
  rw [head_apply]
  unfold normed
  have e : (⟨(y 1).val % 128, by omega⟩ : Fin 128) = k := Fin.ext (by show (y 1).val % 128 = k.val; omega)
  rw [e, hg k]
  refine congrArg₂ (fun f v => unit b f v k) (funext fun q => ?_) ?_
  · rw [hx r q]
    exact congrArg acc (congrArg₂ ix2 (Fin.ext h0.symm) (Fin.ext (by show C + q.val = (y 1).val / 128 * 128 + q.val; omega)))
  · exact congrArg w (congrArg (ix3 0 0) (Fin.ext h1.symm))

/-- The tile stored at a point of kind B is the normalised tile of the products kept. -/
theorem piecesB_eq (c : Dev nD) (t : Fin cfg0.N) (h : isB t) (y : S1024x512.Idx) :
    View.canon (piecesB m c t h) y = normed (isQk t) (left m c (t.val - 1)) (iblk m c 2 t) y := by
  generalize hR : normed (isQk t) (left m c (t.val - 1)) (iblk m c 2 t) = R
  unfold piecesB runB
  sl_unfold_words
  dsimp only
  canon_tiles x h using (View.cover_of_tiledBy _ ![256, 128] (by sl_kernel_rfl) y)
  case piece0 => subst hR; exact piece_eq _ _ _ 768 384 (by decide) (by decide) (by decide) _ _ (part_apply _ _ 768 384 _) (row_apply _ _ 384 _) x y (by omega) (by omega)
  case piece1 => subst hR; exact piece_eq _ _ _ 768 256 (by decide) (by decide) (by decide) _ _ (part_apply _ _ 768 256 _) (row_apply _ _ 256 _) x y (by omega) (by omega)
  case piece2 => subst hR; exact piece_eq _ _ _ 768 128 (by decide) (by decide) (by decide) _ _ (part_apply _ _ 768 128 _) (row_apply _ _ 128 _) x y (by omega) (by omega)
  case piece3 => subst hR; exact piece_eq _ _ _ 768 0 (by decide) (by decide) (by decide) _ _ (part_apply _ _ 768 0 _) (row_apply _ _ 0 _) x y (by omega) (by omega)
  case piece4 => subst hR; exact piece_eq _ _ _ 512 384 (by decide) (by decide) (by decide) _ _ (part_apply _ _ 512 384 _) (row_apply _ _ 384 _) x y (by omega) (by omega)
  case piece5 => subst hR; exact piece_eq _ _ _ 512 256 (by decide) (by decide) (by decide) _ _ (part_apply _ _ 512 256 _) (row_apply _ _ 256 _) x y (by omega) (by omega)
  case piece6 => subst hR; exact piece_eq _ _ _ 512 128 (by decide) (by decide) (by decide) _ _ (part_apply _ _ 512 128 _) (row_apply _ _ 128 _) x y (by omega) (by omega)
  case piece7 => subst hR; exact piece_eq _ _ _ 512 0 (by decide) (by decide) (by decide) _ _ (part_apply _ _ 512 0 _) (row_apply _ _ 0 _) x y (by omega) (by omega)
  case piece8 => subst hR; exact piece_eq _ _ _ 256 384 (by decide) (by decide) (by decide) _ _ (part_apply _ _ 256 384 _) (row_apply _ _ 384 _) x y (by omega) (by omega)
  case piece9 => subst hR; exact piece_eq _ _ _ 256 256 (by decide) (by decide) (by decide) _ _ (part_apply _ _ 256 256 _) (row_apply _ _ 256 _) x y (by omega) (by omega)
  case piece10 => subst hR; exact piece_eq _ _ _ 256 128 (by decide) (by decide) (by decide) _ _ (part_apply _ _ 256 128 _) (row_apply _ _ 128 _) x y (by omega) (by omega)
  case piece11 => subst hR; exact piece_eq _ _ _ 256 0 (by decide) (by decide) (by decide) _ _ (part_apply _ _ 256 0 _) (row_apply _ _ 0 _) x y (by omega) (by omega)
  case piece12 => subst hR; exact piece_eq _ _ _ 0 384 (by decide) (by decide) (by decide) _ _ (part_apply _ _ 0 384 _) (row_apply _ _ 384 _) x y (by omega) (by omega)
  case piece13 => subst hR; exact piece_eq _ _ _ 0 256 (by decide) (by decide) (by decide) _ _ (part_apply _ _ 0 256 _) (row_apply _ _ 256 _) x y (by omega) (by omega)
  case piece14 => subst hR; exact piece_eq _ _ _ 0 128 (by decide) (by decide) (by decide) _ _ (part_apply _ _ 0 128 _) (row_apply _ _ 128 _) x y (by omega) (by omega)
  case piece15 => subst hR; exact piece_eq _ _ _ 0 0 (by decide) (by decide) (by decide) _ _ (part_apply _ _ 0 0 _) (row_apply _ _ 0 _) x y (by omega) (by omega)

/-- The tile stored at a point of kind C is the normalised tile of the products kept. -/
theorem piecesC_eq (c : Dev nD) (t : Fin cfg0.N) (h : isC t) (y : S1024x512.Idx) :
    View.canon (piecesC m c t h) y = normed (isQk t) (left m c (t.val - 1)) (iblk m c 2 t) y := by
  generalize hR : normed (isQk t) (left m c (t.val - 1)) (iblk m c 2 t) = R
  unfold piecesC runC
  sl_unfold_words
  dsimp only
  canon_tiles x h using (View.cover_of_tiledBy _ ![256, 128] (by sl_kernel_rfl) y)
  case piece0 => subst hR; exact piece_eq _ _ _ 768 384 (by decide) (by decide) (by decide) _ _ (part_apply _ _ 768 384 _) (row_apply _ _ 384 _) x y (by omega) (by omega)
  case piece1 => subst hR; exact piece_eq _ _ _ 768 256 (by decide) (by decide) (by decide) _ _ (part_apply _ _ 768 256 _) (row_apply _ _ 256 _) x y (by omega) (by omega)
  case piece2 => subst hR; exact piece_eq _ _ _ 768 128 (by decide) (by decide) (by decide) _ _ (part_apply _ _ 768 128 _) (row_apply _ _ 128 _) x y (by omega) (by omega)
  case piece3 => subst hR; exact piece_eq _ _ _ 768 0 (by decide) (by decide) (by decide) _ _ (part_apply _ _ 768 0 _) (row_apply _ _ 0 _) x y (by omega) (by omega)
  case piece4 => subst hR; exact piece_eq _ _ _ 512 384 (by decide) (by decide) (by decide) _ _ (part_apply _ _ 512 384 _) (row_apply _ _ 384 _) x y (by omega) (by omega)
  case piece5 => subst hR; exact piece_eq _ _ _ 512 256 (by decide) (by decide) (by decide) _ _ (part_apply _ _ 512 256 _) (row_apply _ _ 256 _) x y (by omega) (by omega)
  case piece6 => subst hR; exact piece_eq _ _ _ 512 128 (by decide) (by decide) (by decide) _ _ (part_apply _ _ 512 128 _) (row_apply _ _ 128 _) x y (by omega) (by omega)
  case piece7 => subst hR; exact piece_eq _ _ _ 512 0 (by decide) (by decide) (by decide) _ _ (part_apply _ _ 512 0 _) (row_apply _ _ 0 _) x y (by omega) (by omega)
  case piece8 => subst hR; exact piece_eq _ _ _ 256 384 (by decide) (by decide) (by decide) _ _ (part_apply _ _ 256 384 _) (row_apply _ _ 384 _) x y (by omega) (by omega)
  case piece9 => subst hR; exact piece_eq _ _ _ 256 256 (by decide) (by decide) (by decide) _ _ (part_apply _ _ 256 256 _) (row_apply _ _ 256 _) x y (by omega) (by omega)
  case piece10 => subst hR; exact piece_eq _ _ _ 256 128 (by decide) (by decide) (by decide) _ _ (part_apply _ _ 256 128 _) (row_apply _ _ 128 _) x y (by omega) (by omega)
  case piece11 => subst hR; exact piece_eq _ _ _ 256 0 (by decide) (by decide) (by decide) _ _ (part_apply _ _ 256 0 _) (row_apply _ _ 0 _) x y (by omega) (by omega)
  case piece12 => subst hR; exact piece_eq _ _ _ 0 384 (by decide) (by decide) (by decide) _ _ (part_apply _ _ 0 384 _) (row_apply _ _ 384 _) x y (by omega) (by omega)
  case piece13 => subst hR; exact piece_eq _ _ _ 0 256 (by decide) (by decide) (by decide) _ _ (part_apply _ _ 0 256 _) (row_apply _ _ 256 _) x y (by omega) (by omega)
  case piece14 => subst hR; exact piece_eq _ _ _ 0 128 (by decide) (by decide) (by decide) _ _ (part_apply _ _ 0 128 _) (row_apply _ _ 128 _) x y (by omega) (by omega)
  case piece15 => subst hR; exact piece_eq _ _ _ 0 0 (by decide) (by decide) (by decide) _ _ (part_apply _ _ 0 0 _) (row_apply _ _ 0 _) x y (by omega) (by omega)

/-- The tile stored at a point of kind D is the normalised tile of the products kept. -/
theorem piecesD_eq (c : Dev nD) (t : Fin cfg0.N) (h : isD t) (y : S1024x512.Idx) :
    View.canon (piecesD m c t h) y = normed (isQk t) (left m c (t.val - 1)) (iblk m c 2 t) y := by
  generalize hR : normed (isQk t) (left m c (t.val - 1)) (iblk m c 2 t) = R
  unfold piecesD runD
  sl_unfold_words
  dsimp only
  canon_tiles x h using (View.cover_of_tiledBy _ ![256, 128] (by sl_kernel_rfl) y)
  case piece0 => subst hR; exact piece_eq _ _ _ 768 384 (by decide) (by decide) (by decide) _ _ (part_apply _ _ 768 384 _) (row_apply _ _ 384 _) x y (by omega) (by omega)
  case piece1 => subst hR; exact piece_eq _ _ _ 768 256 (by decide) (by decide) (by decide) _ _ (part_apply _ _ 768 256 _) (row_apply _ _ 256 _) x y (by omega) (by omega)
  case piece2 => subst hR; exact piece_eq _ _ _ 768 128 (by decide) (by decide) (by decide) _ _ (part_apply _ _ 768 128 _) (row_apply _ _ 128 _) x y (by omega) (by omega)
  case piece3 => subst hR; exact piece_eq _ _ _ 768 0 (by decide) (by decide) (by decide) _ _ (part_apply _ _ 768 0 _) (row_apply _ _ 0 _) x y (by omega) (by omega)
  case piece4 => subst hR; exact piece_eq _ _ _ 512 384 (by decide) (by decide) (by decide) _ _ (part_apply _ _ 512 384 _) (row_apply _ _ 384 _) x y (by omega) (by omega)
  case piece5 => subst hR; exact piece_eq _ _ _ 512 256 (by decide) (by decide) (by decide) _ _ (part_apply _ _ 512 256 _) (row_apply _ _ 256 _) x y (by omega) (by omega)
  case piece6 => subst hR; exact piece_eq _ _ _ 512 128 (by decide) (by decide) (by decide) _ _ (part_apply _ _ 512 128 _) (row_apply _ _ 128 _) x y (by omega) (by omega)
  case piece7 => subst hR; exact piece_eq _ _ _ 512 0 (by decide) (by decide) (by decide) _ _ (part_apply _ _ 512 0 _) (row_apply _ _ 0 _) x y (by omega) (by omega)
  case piece8 => subst hR; exact piece_eq _ _ _ 256 384 (by decide) (by decide) (by decide) _ _ (part_apply _ _ 256 384 _) (row_apply _ _ 384 _) x y (by omega) (by omega)
  case piece9 => subst hR; exact piece_eq _ _ _ 256 256 (by decide) (by decide) (by decide) _ _ (part_apply _ _ 256 256 _) (row_apply _ _ 256 _) x y (by omega) (by omega)
  case piece10 => subst hR; exact piece_eq _ _ _ 256 128 (by decide) (by decide) (by decide) _ _ (part_apply _ _ 256 128 _) (row_apply _ _ 128 _) x y (by omega) (by omega)
  case piece11 => subst hR; exact piece_eq _ _ _ 256 0 (by decide) (by decide) (by decide) _ _ (part_apply _ _ 256 0 _) (row_apply _ _ 0 _) x y (by omega) (by omega)
  case piece12 => subst hR; exact piece_eq _ _ _ 0 384 (by decide) (by decide) (by decide) _ _ (part_apply _ _ 0 384 _) (row_apply _ _ 384 _) x y (by omega) (by omega)
  case piece13 => subst hR; exact piece_eq _ _ _ 0 256 (by decide) (by decide) (by decide) _ _ (part_apply _ _ 0 256 _) (row_apply _ _ 256 _) x y (by omega) (by omega)
  case piece14 => subst hR; exact piece_eq _ _ _ 0 128 (by decide) (by decide) (by decide) _ _ (part_apply _ _ 0 128 _) (row_apply _ _ 128 _) x y (by omega) (by omega)
  case piece15 => subst hR; exact piece_eq _ _ _ 0 0 (by decide) (by decide) (by decide) _ _ (part_apply _ _ 0 0 _) (row_apply _ _ 0 _) x y (by omega) (by omega)

end Cert.Kernel6Ideal.Body

end
-- ==== Proof.Inp.Blocks.lean ====
/- What the host code and the blocks hold: the weights of the columns, and which blocks a point takes. -/
module

public import proofs.«01_k».proof.Proof.Inp.Tile
public import Idealize.ShloMosaic.Lib.StableHlo.RunRead

@[expose] public section

set_option backward.proofsInPublic true
set_option maxRecDepth 16384

noncomputable section

namespace Cert.Kernel6Ideal.Body

open Cert.Kernel6Ideal Cert.Kernel6Ideal.Gen Idealize.ShloMosaic Idealize.ShloMosaic.TcCoe Idealize.ShloMosaic.Tactic Idealize.SL.Sem

variable (m : (ℓ : Loc nD τ sig) → Buf (Elt Ideal) ℓ)

/-- The blocks a point takes and gives back. -/
theorem idx_val : ∀ t : Fin cfg0.N, win0_0.index t = ![t.val / 17, 0] ∧ win0_1.index t = ![0, 0, min (t.val % 17) 15]
    ∧ win0_2.index t = ![t.val % 17 - 1, 0, 0] ∧ win0_8.index t = ![t.val / 17, t.val % 17 - 1] :=
  (by decide +kernel : ∀ t : Fin grid0.N, _)

/-- The rows cast at a point. -/
theorem idx_cast : ∀ t : Fin cfg0.N, win0_3.index t = ![0, t.val / 17 * 16 + min (t.val % 17) 15, 0]
    ∧ win0_9.index t = ![t.val / 17 * 16 + min (t.val % 17) 15, 0] ∧ win0_7.index t = win0_3.index t ∧ win0_13.index t = win0_9.index t
    ∧ win0_5.index t = win0_3.index t ∧ win0_11.index t = win0_9.index t
    ∧ win0_4.index t = ![0, (t.val / 17 * 16 + min (t.val % 17) 15) / 2, 0] ∧ win0_6.index t = win0_4.index t
    ∧ win0_10.index t = ![(t.val / 17 * 16 + min (t.val % 17) 15) / 2, 0] ∧ win0_12.index t = win0_10.index t :=
  (by decide +kernel : ∀ t : Fin grid0.N, _)

/-- A tile is of the queries' or keys' columns where its number says so. -/
theorem isQk_eq : ∀ t : Fin cfg0.N, isQk t = if 2 ≤ t.val % 17 - 1 ∧ t.val % 17 - 1 < 10 then 1#1 else 0#1 :=
  (by decide +kernel : ∀ t : Fin grid0.N, _)

theorem unit_one (x : Fin 128 → EReal) (g : EReal) (k : Fin 128) : unit 1#1 x g k
    = x k * Ideal.rsqrt (Ideal.div (∑ q : Fin 128, x q * x q) (Ideal.ofBits .f32 0x43000000#32) + Ideal.ofBits .f32 0x358637BD#32) * g := rfl

theorem unit_zero (x : Fin 128 → EReal) (g : EReal) (k : Fin 128) : unit 0#1 x g k = x k := rfl

/-- The weight the host code lays out at a query's or a key's column. -/
theorem weight_read (c : Dev nD) (i : Fin 16) (e : Fin 512) (hi : 2 ≤ i.val) (hi' : i.val < 10) :
    V m c main_v13 (ix3 i 0 e) = if i.val < 6 then m ((c : Thread nD τ).loc main_arg2) (ix2 0 ⟨e.val % 128, by omega⟩)
      else m ((c : Thread nD τ).loc main_arg3) (ix2 0 ⟨e.val % 128, by omega⟩) := by
  generalize hR : (if i.val < 6 then m ((c : Thread nD τ).loc main_arg2) (ix2 0 ⟨e.val % 128, by omega⟩)
      else m ((c : Thread nD τ).loc main_arg3) (ix2 0 ⟨e.val % 128, by omega⟩)) = R
  unfold V hostOps0
  after_reads_simp
  pointwise []
  by_cases h : i.val < 6
  · rw [dif_neg (by omega), dif_pos (by omega)]
    rw [if_pos h] at hR
    after_reads_simp
    pointwise []
    exact (congrArg (fun z => m ((c : Thread nD τ).loc main_arg2) (ix2 0 z)) (Fin.ext (by show (i.val * 512 + e.val - 1024) % 128 = e.val % 128; omega))).trans hR
  · rw [dif_neg (by omega), dif_neg (by omega), dif_pos (by omega)]
    rw [if_neg h] at hR
    after_reads_simp
    pointwise []
    exact (congrArg (fun z => m ((c : Thread nD τ).loc main_arg3) (ix2 0 z)) (Fin.ext (by show (i.val * 512 + e.val - 1024 - 2048) % 128 = e.val % 128; omega))).trans hR

end Cert.Kernel6Ideal.Body

end
-- ==== Proof.Inp.Out.lean ====
/- The input projection's results: what the kernel's result arrays hold after the run. -/
module

public import proofs.«01_k».proof.Proof.Inp.Blocks
public import Idealize.ShloMosaic.Lib.StableHlo.RunRead

@[expose] public section

set_option backward.proofsInPublic true
set_option maxRecDepth 16384

noncomputable section

namespace Cert.Kernel6Ideal.Body

open Cert.Kernel6Ideal Cert.Kernel6Ideal.Gen Idealize.ShloMosaic Idealize.ShloMosaic.TcCoe Idealize.ShloMosaic.Tactic Idealize.SL.Sem

variable (m : (ℓ : Loc nD τ sig) → Buf (Elt Ideal) ℓ)

/-- One entry of the product of the activations with layer 0's weights. -/
def prod (H : Vec Ideal S8192x4096 .bf16) (W : Vec Ideal S2x4096x8192 .f32) (s n : Fin 8192) : EReal :=
  ∑ k : Fin 4096, (H (ix2 s k) : EReal) * W (ix3 0 k n)

/-- The 128 products of the head that column `n` lies in. -/
def heads (H : Vec Ideal S8192x4096 .bf16) (W : Vec Ideal S2x4096x8192 .f32) (s n : Fin 8192) : Fin 128 → EReal :=
  fun q => prod H W s ⟨n.val / 128 * 128 + q.val, by omega⟩

/-- An entry of a head scaled by the head's root mean square and the weight. -/
def scaled (x : Fin 128 → EReal) (g : EReal) (k : Fin 128) : EReal :=
  x k * Ideal.rsqrt (Ideal.div (∑ q : Fin 128, x q * x q) (Ideal.ofBits .f32 0x43000000#32) + Ideal.ofBits .f32 0x358637BD#32) * g

/-- One entry of the first result: the queries' and keys' columns are scaled head by head, the others are the product. -/
def out (H : Vec Ideal S8192x4096 .bf16) (W : Vec Ideal S2x4096x8192 .f32) (Q K : Vec Ideal S2x128 .f32) (s n : Fin 8192) : EReal :=
  if n.val < 1024 then prod H W s n
  else if n.val < 3072 then scaled (heads H W s n) (Q (ix2 0 ⟨n.val % 128, by omega⟩)) ⟨n.val % 128, by omega⟩
  else if n.val < 5120 then scaled (heads H W s n) (K (ix2 0 ⟨n.val % 128, by omega⟩)) ⟨n.val % 128, by omega⟩
  else prod H W s n

def outArr (H : Vec Ideal S8192x4096 .bf16) (W : Vec Ideal S2x4096x8192 .f32) (Q K : Vec Ideal S2x128 .f32) : FVec Ideal S8192x8192 .bf16 :=
  fun j => out H W Q K ⟨(j 0).val, (j 0).isLt⟩ ⟨(j 1).val, (j 1).isLt⟩

theorem pay1_apply (x : Vec Ideal S1024x4096 .bf16) (w : Vec Ideal S1x4096x512 .f32) (r : Fin 1024) (e : Fin 512) :
    k0_pay1 (F := Ideal) x w (ix2 r e) = ∑ k : Fin 4096, (x (ix2 r k) : EReal) * w (ix3 0 k e) := by
  pointwise [k0_pay1]

/-- The products a point leaves are those of its block of rows with its tile of columns. -/
theorem left_prod (c : Dev nD) (t : Fin cfg0.N) (r : Fin 1024) (e : Fin 512) (s n : Fin 8192) (hs : s.val = t.val / 17 * 1024 + r.val)
    (hn : n.val = min (t.val % 17) 15 * 512 + e.val) :
    k0_pay1 (F := Ideal) (iblk m c 0 t) (iblk m c 1 t) (ix2 r e) = prod (m ((c : Thread nD τ).loc main_arg0)) (m ((c : Thread nD τ).loc main_arg1)) s n := by
  refine (pay1_apply _ _ r e).trans ?_
  unfold prod
  refine Finset.sum_congr rfl fun k _ => congrArg₂ (· * ·) ?_ ?_
  all_goals blk_ext [iblk, V_main_arg0, V_main_arg1, idx_val t]

/-- The tile a point stores, over the products the point before left. -/
theorem tile_at (c : Dev nD) (t : Fin cfg0.N) (hA : ¬isA t) (h : t.val - 1 < cfg0.N) (y : S1024x512.Idx) :
    tile m c t y = normed (isQk t) (k0_pay1 (F := Ideal) (iblk m c 0 ⟨t.val - 1, h⟩) (iblk m c 1 ⟨t.val - 1, h⟩)) (iblk m c 2 t) y := by
  have hl := left_at m c ⟨t.val - 1, h⟩
  rw [← hl]
  rcases kinds t with hk | hk | hk | hk
  · exact absurd hk hA
  · exact (congrFun (tile_B m c t hk) y).trans (piecesB_eq m c t hk y)
  · exact (congrFun (tile_C m c t hk) y).trans (piecesC_eq m c t hk y)
  · exact (congrFun (tile_D m c t hk) y).trans (piecesD_eq m c t hk y)

theorem nw_block (c : Dev nD) (t : Fin cfg0.N) (e : Fin 512) (i : Fin 16) (hi : i.val = t.val % 17 - 1) :
    iblk m c 2 t (ix3 0 0 e) = V m c main_v13 (ix3 i 0 e) := by
  blk_ext [iblk, idx_val t]

set_option maxHeartbeats 2000000 in
/-- THE FIRST RESULT ARRAY after the run. -/
theorem finalOut (c : Dev nD) : (dats m 0 c).arrAt 8 (cfgs 0).N
    = outArr (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  have hA : ¬isA t := fun h => by
    have := (idle8 t h).2
    exact absurd (this.symm.trans hf) (by decide)
  have hA' : t.val % 17 ≠ 0 := hA
  have ht : t.val < 136 := t.isLt
  blk_simp
  rw [after8, tile_at m c t hA (by show _ < 136; omega)]
  have e0 : ((((View.whole main_v14_0).slice (win0_8.rect t)).emb y) 0).val = t.val / 17 * 1024 + (y 0).val := by
    blk_simp [idx_val t]
  have e1 : ((((View.whole main_v14_0).slice (win0_8.rect t)).emb y) 1).val = (t.val % 17 - 1) * 512 + (y 1).val := by
    blk_simp [idx_val t]
  generalize (((View.whole main_v14_0).slice (win0_8.rect t)).emb y) = j at e0 e1 ⊢
  obtain ⟨r, e, rfl⟩ : ∃ (r : Fin 1024) (e : Fin 512), y = ix2 r e := ⟨y 0, y 1, (ix2_eta y).symm⟩
  replace e0 : (j 0).val = t.val / 17 * 1024 + r.val := e0
  replace e1 : (j 1).val = (t.val % 17 - 1) * 512 + e.val := e1
  unfold outArr
  have hs : (j 0).val < 8192 := (j 0).isLt
  have hn : (j 1).val < 8192 := (j 1).isLt
  generalize hS : (⟨(j 0).val, hs⟩ : Fin 8192) = s
  generalize hN : (⟨(j 1).val, hn⟩ : Fin 8192) = n
  have hsv : s.val = t.val / 17 * 1024 + r.val := by rw [← hS]; exact e0
  have hnv : n.val = (t.val % 17 - 1) * 512 + e.val := by rw [← hN]; exact e1
  have hp : ∀ (e' : Fin 512) (n' : Fin 8192), n'.val = (t.val % 17 - 1) * 512 + e'.val →
      k0_pay1 (F := Ideal) (iblk m c 0 ⟨t.val - 1, by show _ < 136; omega⟩) (iblk m c 1 ⟨t.val - 1, by show _ < 136; omega⟩) (ix2 r e')
        = prod (m ((c : Thread nD τ).loc main_arg0)) (m ((c : Thread nD τ).loc main_arg1)) s n' := fun e' n' h =>
    left_prod m c _ r e' s n' (hsv.trans (by show _ = (t.val - 1) / 17 * 1024 + r.val; omega)) (h.trans (by show _ = min ((t.val - 1) % 17) 15 * 512 + e'.val; omega))
  have hx : (fun q : Fin 128 => k0_pay1 (F := Ideal) (iblk m c 0 ⟨t.val - 1, by show _ < 136; omega⟩) (iblk m c 1 ⟨t.val - 1, by show _ < 136; omega⟩)
      (ix2 r ⟨e.val / 128 * 128 + q.val, by omega⟩)) = heads (m ((c : Thread nD τ).loc main_arg0)) (m ((c : Thread nD τ).loc main_arg1)) s n :=
    funext fun q => hp _ _ (by show n.val / 128 * 128 + q.val = _ + (e.val / 128 * 128 + q.val); omega)
  have hg := nw_block m c t e ⟨t.val % 17 - 1, by omega⟩ rfl
  have hm : n.val % 128 = e.val % 128 := by omega
  refine Eq.trans (b := unit (isQk t) (heads (m ((c : Thread nD τ).loc main_arg0)) (m ((c : Thread nD τ).loc main_arg1)) s n)
    (V m c main_v13 (ix3 ⟨t.val % 17 - 1, by omega⟩ 0 e)) ⟨n.val % 128, by omega⟩) ?_ ?_
  · rw [← hx, ← hg]
    exact congrArg (unit _ _ _) (Fin.ext hm.symm)
  rw [isQk_eq]
  unfold out
  by_cases h2 : 2 ≤ t.val % 17 - 1 ∧ t.val % 17 - 1 < 10
  · rw [if_pos h2, unit_one, weight_read m c _ e h2.1 h2.2]
    by_cases h6 : t.val % 17 - 1 < 6
    · rw [if_pos h6, if_neg (show ¬n.val < 1024 by omega), if_pos (show n.val < 3072 by omega)]
      exact congrArg (_ * ·) (congrArg (fun z => m ((c : Thread nD τ).loc main_arg2) (ix2 0 z)) (Fin.ext hm.symm))
    · rw [if_neg h6, if_neg (show ¬n.val < 1024 by omega), if_neg (show ¬n.val < 3072 by omega), if_pos (show n.val < 5120 by omega)]
      exact congrArg (_ * ·) (congrArg (fun z => m ((c : Thread nD τ).loc main_arg3) (ix2 0 z)) (Fin.ext hm.symm))
  · rw [if_neg h2, unit_zero]
    have hself : heads (m ((c : Thread nD τ).loc main_arg0)) (m ((c : Thread nD τ).loc main_arg1)) s n ⟨n.val % 128, by omega⟩
        = prod (m ((c : Thread nD τ).loc main_arg0)) (m ((c : Thread nD τ).loc main_arg1)) s n :=
      congrArg (prod _ _ s) (Fin.ext (by show n.val / 128 * 128 + n.val % 128 = n.val; omega))
    rw [hself]
    by_cases h3 : n.val < 1024
    · rw [if_pos h3]
    · rw [if_neg h3, if_neg (show ¬n.val < 3072 by omega), if_neg (show ¬n.val < 5120 by omega)]

end Cert.Kernel6Ideal.Body

end
-- ==== Proof.Inp.Casts.lean ====
/- The weights the input projection's kernel casts: what those result arrays hold after the run. -/
module

public import proofs.«01_k».proof.Proof.Inp.Blocks
public import Idealize.ShloMosaic.Lib.StableHlo.RunRead

@[expose] public section

set_option backward.proofsInPublic true
set_option maxRecDepth 16384

noncomputable section

namespace Cert.Kernel6Ideal.Body

open Cert.Kernel6Ideal Cert.Kernel6Ideal.Gen Idealize.ShloMosaic Idealize.ShloMosaic.TcCoe Idealize.ShloMosaic.Tactic Idealize.SL.Sem

variable (m : (ℓ : Loc nD τ sig) → Buf (Elt Ideal) ℓ)

/-- Layer 0's array of weights. -/
def cast4096x12288 (D : Vec Ideal S2x4096x12288 .f32) : FVec Ideal S4096x12288 .bf16 :=
  fun j => D (ix3 0 ⟨(j 0).val, (j 0).isLt⟩ ⟨(j 1).val, (j 1).isLt⟩)

theorem pay96_apply (x : Vec Ideal S1x32x12288 .f32) (r : Fin 32) (k : Fin 12288) : k0_pay96 (F := Ideal) x (ix2 r k) = x (ix3 0 r k) := by
  pointwise [k0_pay96]

theorem final9 (c : Dev nD) : (dats m 0 c).arrAt 9 (cfgs 0).N = cast4096x12288 (m ((c : Thread nD τ).loc main_arg4)) := by
  refine (dats m 0 c).arrAt_eq_of_covers 9 _ (by decide +kernel) fun t _ y => ?_
  blk_simp
  rw [after9]
  have e0 : ((((View.whole main_v14_1).slice (win0_9.rect t)).emb y) 0).val = (t.val / 17 * 16 + min (t.val % 17) 15) * 32 + (y 0).val := by
    blk_simp [idx_cast t]
  have e1 : ((((View.whole main_v14_1).slice (win0_9.rect t)).emb y) 1).val = (y 1).val := by
    blk_simp [idx_cast t]
  generalize (((View.whole main_v14_1).slice (win0_9.rect t)).emb y) = j at e0 e1 ⊢
  obtain ⟨r, k, rfl⟩ : ∃ (r : Fin 32) (k : Fin 12288), y = ix2 r k := ⟨y 0, y 1, (ix2_eta y).symm⟩
  replace e0 : (j 0).val = (t.val / 17 * 16 + min (t.val % 17) 15) * 32 + r.val := e0
  replace e1 : (j 1).val = k.val := e1
  refine (pay96_apply _ r k).trans ?_
  unfold cast4096x12288
  blk_ext [iblk, V_main_arg4, idx_cast t]

/-- Layer 0's array of weights. -/
def cast1024x4096 (D : Vec Ideal S2x1024x4096 .f32) : FVec Ideal S1024x4096 .bf16 :=
  fun j => D (ix3 0 ⟨(j 0).val, (j 0).isLt⟩ ⟨(j 1).val, (j 1).isLt⟩)

theorem pay97_apply (x : Vec Ideal S1x16x4096 .f32) (r : Fin 16) (k : Fin 4096) : k0_pay97 (F := Ideal) x (ix2 r k) = x (ix3 0 r k) := by
  pointwise [k0_pay97]

theorem final10 (c : Dev nD) : (dats m 0 c).arrAt 10 (cfgs 0).N = cast1024x4096 (m ((c : Thread nD τ).loc main_arg5)) := by
  refine (dats m 0 c).arrAt_eq_of_covers 10 _ (by decide +kernel) fun t _ y => ?_
  blk_simp
  rw [after10]
  have e0 : ((((View.whole main_v14_2).slice (win0_10.rect t)).emb y) 0).val = (t.val / 17 * 16 + min (t.val % 17) 15) / 2 * 16 + (y 0).val := by
    blk_simp [idx_cast t]
  have e1 : ((((View.whole main_v14_2).slice (win0_10.rect t)).emb y) 1).val = (y 1).val := by
    blk_simp [idx_cast t]
  generalize (((View.whole main_v14_2).slice (win0_10.rect t)).emb y) = j at e0 e1 ⊢
  obtain ⟨r, k, rfl⟩ : ∃ (r : Fin 16) (k : Fin 4096), y = ix2 r k := ⟨y 0, y 1, (ix2_eta y).symm⟩
  replace e0 : (j 0).val = (t.val / 17 * 16 + min (t.val % 17) 15) / 2 * 16 + r.val := e0
  replace e1 : (j 1).val = k.val := e1
  refine (pay97_apply _ r k).trans ?_
  unfold cast1024x4096
  blk_ext [iblk, V_main_arg5, idx_cast t]

/-- Layer 0's array of weights. -/
def cast2048x4096 (D : Vec Ideal S2x2048x4096 .f32) : FVec Ideal S2048x4096 .bf16 :=
  fun j => D (ix3 0 ⟨(j 0).val, (j 0).isLt⟩ ⟨(j 1).val, (j 1).isLt⟩)

theorem pay98_apply (x : Vec Ideal S1x16x4096 .f32) (r : Fin 16) (k : Fin 4096) : k0_pay98 (F := Ideal) x (ix2 r k) = x (ix3 0 r k) := by
  pointwise [k0_pay98]

theorem final11 (c : Dev nD) : (dats m 0 c).arrAt 11 (cfgs 0).N = cast2048x4096 (m ((c : Thread nD τ).loc main_arg6)) := by
  refine (dats m 0 c).arrAt_eq_of_covers 11 _ (by decide +kernel) fun t _ y => ?_
  blk_simp
  rw [after11]
  have e0 : ((((View.whole main_v14_3).slice (win0_11.rect t)).emb y) 0).val = (t.val / 17 * 16 + min (t.val % 17) 15) * 16 + (y 0).val := by
    blk_simp [idx_cast t]
  have e1 : ((((View.whole main_v14_3).slice (win0_11.rect t)).emb y) 1).val = (y 1).val := by
    blk_simp [idx_cast t]
  generalize (((View.whole main_v14_3).slice (win0_11.rect t)).emb y) = j at e0 e1 ⊢
  obtain ⟨r, k, rfl⟩ : ∃ (r : Fin 16) (k : Fin 4096), y = ix2 r k := ⟨y 0, y 1, (ix2_eta y).symm⟩
  replace e0 : (j 0).val = (t.val / 17 * 16 + min (t.val % 17) 15) * 16 + r.val := e0
  replace e1 : (j 1).val = k.val := e1
  refine (pay98_apply _ r k).trans ?_
  unfold cast2048x4096
  blk_ext [iblk, V_main_arg6, idx_cast t]

theorem pay99_apply (x : Vec Ideal S1x16x4096 .f32) (r : Fin 16) (k : Fin 4096) : k0_pay99 (F := Ideal) x (ix2 r k) = x (ix3 0 r k) := by
  pointwise [k0_pay99]

theorem final12 (c : Dev nD) : (dats m 0 c).arrAt 12 (cfgs 0).N = cast1024x4096 (m ((c : Thread nD τ).loc main_arg7)) := by
  refine (dats m 0 c).arrAt_eq_of_covers 12 _ (by decide +kernel) fun t _ y => ?_
  blk_simp
  rw [after12]
  have e0 : ((((View.whole main_v14_4).slice (win0_12.rect t)).emb y) 0).val = (t.val / 17 * 16 + min (t.val % 17) 15) / 2 * 16 + (y 0).val := by
    blk_simp [idx_cast t]
  have e1 : ((((View.whole main_v14_4).slice (win0_12.rect t)).emb y) 1).val = (y 1).val := by
    blk_simp [idx_cast t]
  generalize (((View.whole main_v14_4).slice (win0_12.rect t)).emb y) = j at e0 e1 ⊢
  obtain ⟨r, k, rfl⟩ : ∃ (r : Fin 16) (k : Fin 4096), y = ix2 r k := ⟨y 0, y 1, (ix2_eta y).symm⟩
  replace e0 : (j 0).val = (t.val / 17 * 16 + min (t.val % 17) 15) / 2 * 16 + r.val := e0
  replace e1 : (j 1).val = k.val := e1
  refine (pay99_apply _ r k).trans ?_
  unfold cast1024x4096
  blk_ext [iblk, V_main_arg7, idx_cast t]

/-- Layer 0's array of weights. -/
def cast4096x4096 (D : Vec Ideal S2x4096x4096 .f32) : FVec Ideal S4096x4096 .bf16 :=
  fun j => D (ix3 0 ⟨(j 0).val, (j 0).isLt⟩ ⟨(j 1).val, (j 1).isLt⟩)

theorem pay100_apply (x : Vec Ideal S1x32x4096 .f32) (r : Fin 32) (k : Fin 4096) : k0_pay100 (F := Ideal) x (ix2 r k) = x (ix3 0 r k) := by
  pointwise [k0_pay100]

theorem final13 (c : Dev nD) : (dats m 0 c).arrAt 13 (cfgs 0).N = cast4096x4096 (m ((c : Thread nD τ).loc main_arg8)) := by
  refine (dats m 0 c).arrAt_eq_of_covers 13 _ (by decide +kernel) fun t _ y => ?_
  blk_simp
  rw [after13]
  have e0 : ((((View.whole main_v14_5).slice (win0_13.rect t)).emb y) 0).val = (t.val / 17 * 16 + min (t.val % 17) 15) * 32 + (y 0).val := by
    blk_simp [idx_cast t]
  have e1 : ((((View.whole main_v14_5).slice (win0_13.rect t)).emb y) 1).val = (y 1).val := by
    blk_simp [idx_cast t]
  generalize (((View.whole main_v14_5).slice (win0_13.rect t)).emb y) = j at e0 e1 ⊢
  obtain ⟨r, k, rfl⟩ : ∃ (r : Fin 32) (k : Fin 4096), y = ix2 r k := ⟨y 0, y 1, (ix2_eta y).symm⟩
  replace e0 : (j 0).val = (t.val / 17 * 16 + min (t.val % 17) 15) * 32 + r.val := e0
  replace e1 : (j 1).val = k.val := e1
  refine (pay100_apply _ r k).trans ?_
  unfold cast4096x4096
  blk_ext [iblk, V_main_arg8, idx_cast t]

/-- The run, with each result array named and the arguments as they were. -/
theorem run_blocks (ρ : Dev nD → PrngReg) : θ_run defs (onTc (τ := τ) (main (F := Ideal))) ⟨m, fun _ => 0, ρ⟩ fun r => ∀ c : Dev nD,
      r.2.mem ((c.tc : Thread nD τ).loc main_v14_0) = (dats m 0 c).arrAt 8 (cfgs 0).N
      ∧ r.2.mem ((c.tc : Thread nD τ).loc main_v14_1) = (dats m 0 c).arrAt 9 (cfgs 0).N
      ∧ r.2.mem ((c.tc : Thread nD τ).loc main_v14_2) = (dats m 0 c).arrAt 10 (cfgs 0).N
      ∧ r.2.mem ((c.tc : Thread nD τ).loc main_v14_3) = (dats m 0 c).arrAt 11 (cfgs 0).N
      ∧ r.2.mem ((c.tc : Thread nD τ).loc main_v14_4) = (dats m 0 c).arrAt 12 (cfgs 0).N
      ∧ r.2.mem ((c.tc : Thread nD τ).loc main_v14_5) = (dats m 0 c).arrAt 13 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h.1 c).1 8, (h.1 c).1 9, (h.1 c).1 10, (h.1 c).1 11, (h.1 c).1 12, (h.1 c).1 13, h.2.1 c⟩)
    (θ_run_and (run_main m ρ) (frame m ρ))

end Cert.Kernel6Ideal.Body

end
-- ==== Proof.Inp.Alg.lean ====
/- The value claim of the input projection: kernel and reference end with equal results. -/
module

public import proofs.«01_k».proof.Defs
public import proofs.«01_k».proof.Proof.Inp.Out
public import proofs.«01_k».proof.Proof.Inp.Casts
public import proofs.«01_k».proof.Proof.Gen.Reference6Ideal.Run
public import proofs.«01_k».proof.Proof.Gen.Reference6Ideal.Read
public import Idealize.ShloMosaic.Lib.Claim

@[expose] public section

set_option backward.proofsInPublic true
set_option maxRecDepth 16384

noncomputable section

namespace Cert.Proof.Inp

open Idealize.ShloMosaic Idealize.SL.Sem Cert.Reference6Ideal.Read Cert.Kernel6Ideal.Body

variable (H : FVec Ideal Cert.Kernel6Ideal.S8192x4096 .bf16) (W : FVec Ideal Cert.Kernel6Ideal.S2x4096x8192 .f32)
  (Q K : FVec Ideal Cert.Kernel6Ideal.S2x128 .f32)

/-- The reference's product. -/
theorem prod_eq (s n : Fin 8192) : val_main_v3 (F := Ideal) H W (ix2 s n) = prod H W s n := by
  unfold prod
  pointwise [val_main_v3, val_main_v2, val_main_v1, val_main_v0]

/-- The reference's queries. -/
theorem query_eq (s : Fin 8192) (e : Fin 2048) : val_main_v25 (F := Ideal) H W Q (ix2 s e)
    = scaled (heads H W s ⟨1024 + e.val, by omega⟩) (Q (ix2 0 ⟨e.val % 128, by omega⟩)) ⟨e.val % 128, by omega⟩ := by
  have hx : ∀ n : Fin 8192, val_main_v3 (F := Ideal) H W (ix2 s n) = prod H W s n := prod_eq H W s
  generalize hR : scaled (heads H W s ⟨1024 + e.val, by omega⟩) (Q (ix2 0 ⟨e.val % 128, by omega⟩)) ⟨e.val % 128, by omega⟩ = R
  unfold val_main_v25 val_main_v24 val_main_v21 val_main_v20 val_main_v19 val_main_v18 val_main_v16 val_main_v14 val_main_v13 val_main_v12 val_main_v9 val_main_v5
  generalize val_main_v3 (F := Ideal) H W = X at hx ⊢
  pointwise [val_main_v23, val_main_v22, val_main_v11, val_main_v10, val_main_v17, val_main_v15, val_main_cst, val_main_cst_0, val_main_cst_1]
  rw [← hR]
  unfold scaled
  have hq : ∀ q : Fin 128, X (ix2 s ⟨1024 + (e.val / 128 * 128 + q.val), by omega⟩) = heads H W s ⟨1024 + e.val, by omega⟩ q := fun q =>
    (hx _).trans (congrArg (prod H W s) (Fin.ext (by show 1024 + (e.val / 128 * 128 + q.val) = (1024 + e.val) / 128 * 128 + q.val; omega)))
  have he : X (ix2 s ⟨1024 + e.val, by omega⟩) = heads H W s ⟨1024 + e.val, by omega⟩ ⟨e.val % 128, by omega⟩ :=
    (hx _).trans (congrArg (prod H W s) (Fin.ext (by show 1024 + e.val = (1024 + e.val) / 128 * 128 + e.val % 128; omega)))
  rw [he]
  simp only [hq]

/-- The reference's keys. -/
theorem key_eq (s : Fin 8192) (e : Fin 2048) : val_main_v42 (F := Ideal) H W K (ix2 s e)
    = scaled (heads H W s ⟨3072 + e.val, by omega⟩) (K (ix2 0 ⟨e.val % 128, by omega⟩)) ⟨e.val % 128, by omega⟩ := by
  have hx : ∀ n : Fin 8192, val_main_v3 (F := Ideal) H W (ix2 s n) = prod H W s n := prod_eq H W s
  generalize hR : scaled (heads H W s ⟨3072 + e.val, by omega⟩) (K (ix2 0 ⟨e.val % 128, by omega⟩)) ⟨e.val % 128, by omega⟩ = R
  unfold val_main_v42 val_main_v41 val_main_v38 val_main_v37 val_main_v36 val_main_v35 val_main_v33 val_main_v31 val_main_v30 val_main_v29 val_main_v26 val_main_v6
  generalize val_main_v3 (F := Ideal) H W = X at hx ⊢
  pointwise [val_main_v40, val_main_v39, val_main_v28, val_main_v27, val_main_v34, val_main_v32, val_main_cst_2, val_main_cst_3, val_main_cst_4]
  rw [← hR]
  unfold scaled
  have hq : ∀ q : Fin 128, X (ix2 s ⟨3072 + (e.val / 128 * 128 + q.val), by omega⟩) = heads H W s ⟨3072 + e.val, by omega⟩ q := fun q =>
    (hx _).trans (congrArg (prod H W s) (Fin.ext (by show 3072 + (e.val / 128 * 128 + q.val) = (3072 + e.val) / 128 * 128 + q.val; omega)))
  have he : X (ix2 s ⟨3072 + e.val, by omega⟩) = heads H W s ⟨3072 + e.val, by omega⟩ ⟨e.val % 128, by omega⟩ :=
    (hx _).trans (congrArg (prod H W s) (Fin.ext (by show 3072 + e.val = (3072 + e.val) / 128 * 128 + e.val % 128; omega)))
  rw [he]
  simp only [hq]

omit Q K in
/-- Scaled entries at equal columns. -/
theorem scaled_congr (P : Vec Ideal Cert.Kernel6Ideal.S2x128 .f32) {s : Fin 8192} {n : Fin 8192} (n' : Fin 8192) (h : n'.val = n.val) (i i' : Fin 128)
    (hi : i'.val = i.val) : scaled (heads H W s n') (P (ix2 0 i')) i' = scaled (heads H W s n) (P (ix2 0 i)) i := by
  obtain rfl : n' = n := Fin.ext h
  obtain rfl : i' = i := Fin.ext hi
  rfl

/-- The reference's first result. -/
theorem ref_eq : val_main_v44 (F := Ideal) H W Q K = outArr H W Q K := by
  funext j
  obtain ⟨s, n, rfl⟩ : ∃ (s n : Fin 8192), j = ix2 s n := ⟨j 0, j 1, (ix2_eta j).symm⟩
  show _ = out H W Q K s n
  have hx : ∀ n : Fin 8192, val_main_v3 (F := Ideal) H W (ix2 s n) = prod H W s n := prod_eq H W s
  have hq := query_eq H W Q s
  have hk := key_eq H W K s
  generalize hR : out H W Q K s n = R
  unfold val_main_v44 val_main_v43 val_main_v4 val_main_v7 val_main_v8
  generalize val_main_v3 (F := Ideal) H W = X at hx ⊢
  generalize val_main_v25 (F := Ideal) H W Q = Y at hq ⊢
  generalize val_main_v42 (F := Ideal) H W K = Z at hk ⊢
  pointwise []
  rw [← hR]
  unfold out
  by_cases h1 : n.val < 1024
  · rw [dif_pos h1, if_pos h1]
    exact hx n
  rw [dif_neg h1, if_neg h1]
  by_cases h2 : n.val < 3072
  · rw [dif_pos (show n.val - 1024 < 2048 by omega), if_pos h2, hq]
    exact scaled_congr H W _ _ (by show 1024 + (n.val - 1024) = n.val; omega) _ _ (by show (n.val - 1024) % 128 = n.val % 128; omega)
  rw [dif_neg (show ¬n.val - 1024 < 2048 by omega), if_neg h2]
  by_cases h3 : n.val < 5120
  · rw [dif_pos (show n.val - 1024 - 2048 < 2048 by omega), if_pos h3, hk]
    exact scaled_congr H W _ _ (by show 3072 + (n.val - 1024 - 2048) = n.val; omega) _ _ (by show (n.val - 1024 - 2048) % 128 = n.val % 128; omega)
  rw [dif_neg (show ¬n.val - 1024 - 2048 < 2048 by omega), if_neg h3]
  by_cases h4 : n.val - 1024 - 2048 - 2048 < 2048
  · rw [dif_pos h4]
    exact (hx _).trans (congrArg (prod H W s) (Fin.ext (by show 5120 + (n.val - 1024 - 2048 - 2048) = n.val; omega)))
  · rw [dif_neg h4]
    exact (hx _).trans (congrArg (prod H W s) (Fin.ext (by show 7168 + (n.val - 1024 - 2048 - 2048 - 2048) = n.val; omega)))

/-! The reference's other results are layer 0's weights. -/

theorem cast47_eq (D : FVec Ideal Cert.Kernel6Ideal.S2x4096x12288 .f32) : val_main_v47 (F := Ideal) D = cast4096x12288 D := by
  funext j
  obtain ⟨r, k, rfl⟩ : ∃ (r : Fin 4096) (k : Fin 12288), j = ix2 r k := ⟨j 0, j 1, (ix2_eta j).symm⟩
  pointwise [val_main_v47, val_main_v46, val_main_v45, cast4096x12288]

theorem cast50_eq (D : FVec Ideal Cert.Kernel6Ideal.S2x1024x4096 .f32) : val_main_v50 (F := Ideal) D = cast1024x4096 D := by
  funext j
  obtain ⟨r, k, rfl⟩ : ∃ (r : Fin 1024) (k : Fin 4096), j = ix2 r k := ⟨j 0, j 1, (ix2_eta j).symm⟩
  pointwise [val_main_v50, val_main_v49, val_main_v48, cast1024x4096]

theorem cast53_eq (D : FVec Ideal Cert.Kernel6Ideal.S2x2048x4096 .f32) : val_main_v53 (F := Ideal) D = cast2048x4096 D := by
  funext j
  obtain ⟨r, k, rfl⟩ : ∃ (r : Fin 2048) (k : Fin 4096), j = ix2 r k := ⟨j 0, j 1, (ix2_eta j).symm⟩
  pointwise [val_main_v53, val_main_v52, val_main_v51, cast2048x4096]

theorem cast56_eq (D : FVec Ideal Cert.Kernel6Ideal.S2x1024x4096 .f32) : val_main_v56 (F := Ideal) D = cast1024x4096 D := by
  funext j
  obtain ⟨r, k, rfl⟩ : ∃ (r : Fin 1024) (k : Fin 4096), j = ix2 r k := ⟨j 0, j 1, (ix2_eta j).symm⟩
  pointwise [val_main_v56, val_main_v55, val_main_v54, cast1024x4096]

theorem cast59_eq (D : FVec Ideal Cert.Kernel6Ideal.S2x4096x4096 .f32) : val_main_v59 (F := Ideal) D = cast4096x4096 D := by
  funext j
  obtain ⟨r, k, rfl⟩ : ∃ (r : Fin 4096) (k : Fin 4096), j = ix2 r k := ⟨j 0, j 1, (ix2_eta j).symm⟩
  pointwise [val_main_v59, val_main_v58, val_main_v57, cast4096x4096]

/-- The value claim. -/
theorem algebraic : Cert.algebraic_Kernel6Ideal_Reference6Ideal (hKernel6Ideal := Cert.Kernel6Ideal.Gen.facts)
    (hReference6Ideal := Cert.Reference6Ideal.Gen.facts) := by
  pair_intro
  · run_from run_blocks m g
  · run_from Cert.Reference6Ideal.Value.run m' g'
    · refine (val_main_v44_eq m' c).trans ?_
      rw [(hagree c).1, (hagree c).2.1, (hagree c).2.2.1, (hagree c).2.2.2.1]
      exact (ref_eq _ _ _ _).trans (finalOut m c).symm
    · exact (val_main_v47_eq _).trans ((cast47_eq _).trans (final9 m c).symm)
    · exact (val_main_v50_eq _).trans ((cast50_eq _).trans (final10 m c).symm)
    · exact (val_main_v53_eq _).trans ((cast53_eq _).trans (final11 m c).symm)
    · exact (val_main_v56_eq _).trans ((cast56_eq _).trans (final12 m c).symm)
    · exact (val_main_v59_eq _).trans ((cast59_eq _).trans (final13 m c).symm)

end Cert.Proof.Inp

end
-- ==== Proof.Mrg.Out.lean ====
/- The merge of the three branches: what the kernel's result array holds after the run. -/
module

public import proofs.«01_k».proof.Proof.Gen.Kernel2Ideal.Value
public import Idealize.ShloMosaic.Lib.Pointwise
public import Idealize.ShloMosaic.Lib.StableHlo.RunRead
public import Idealize.ShloMosaic.Lib.Pipeline.ValueKit

@[expose] public section

set_option backward.proofsInPublic true
set_option maxRecDepth 16384

noncomputable section

namespace Cert.Kernel2Ideal.Mrg

open Cert.Kernel2Ideal Cert.Kernel2Ideal.Gen Idealize.ShloMosaic Idealize.ShloMosaic.TcCoe Idealize.SL.Sem

/-- A gate: the sigmoid of a product plus a bias. -/
def gate {n : ℕ} (h w : Fin n → EReal) (b : EReal) : EReal := Ideal.logistic (∑ k, h k * w k + b)

/-- One tile of the merge at a row and a column of the tile. -/
theorem pay2_apply (h : Vec Ideal S1024x4096 .bf16) (w0 : Vec Ideal S1x4096x256 .bf16) (b0 : Vec Ideal S1x1x256 .f32)
    (yp : Vec Ideal S1024x1024 .bf16) (wp : Vec Ideal S1x1024x256 .bf16) (w1 : Vec Ideal S1x4096x256 .bf16)
    (b1 : Vec Ideal S1x1x256 .f32) (ya : Vec Ideal S1024x2048 .bf16) (wa : Vec Ideal S1x2048x256 .bf16)
    (r : Fin 1024) (e : Fin 256) : k0_pay2 (F := Ideal) h w0 b0 yp wp w1 b1 ya wa (ix2 r e)
    = gate (fun k : Fin 4096 => h (ix2 r k)) (fun k => w0 (ix3 0 k e)) (b0 (ix3 0 0 e))
        * ∑ k : Fin 1024, (yp (ix2 r k) : EReal) * wp (ix3 0 k e)
      + gate (fun k : Fin 4096 => h (ix2 r k)) (fun k => w1 (ix3 0 k e)) (b1 (ix3 0 0 e))
        * ∑ k : Fin 2048, (ya (ix2 r k) : EReal) * wa (ix3 0 k e) := by
  pointwise [k0_pay2, gate]

theorem pay1_apply (h : Vec Ideal S1024x4096 .bf16) (v : FVec Ideal S1024x256 .f32) (w2 : Vec Ideal S1x4096x256 .bf16) (b2 : Vec Ideal S1x1x256 .f32)
    (yf : Vec Ideal S1024x1024 .bf16) (wf : Vec Ideal S1x1024x256 .bf16) (r : Fin 1024) (e : Fin 256) : k0_pay1 (F := Ideal) h v w2 b2 yf wf (ix2 r e)
    = v (ix2 r e) + gate (fun k : Fin 4096 => h (ix2 r k)) (fun k => w2 (ix3 0 k e)) (b2 (ix3 0 0 e))
        * ∑ k : Fin 1024, (yf (ix2 r k) : EReal) * wf (ix3 0 k e) := by
  pointwise [k0_pay1, gate]

/-- Every window's block at every grid point. -/
theorem idx_val : ∀ t : Fin cfg0.N, win0_0.index t = ![t.val / 16, 0] ∧ win0_1.index t = ![t.val / 16, 0]
    ∧ win0_2.index t = ![t.val / 16, 0] ∧ win0_3.index t = ![t.val / 16, 0]
    ∧ win0_4.index t = ![0, 0, t.val % 16] ∧ win0_5.index t = ![0, 0, 16 + t.val % 16] ∧ win0_6.index t = ![0, 0, 32 + t.val % 16]
    ∧ win0_7.index t = ![0, 0, t.val % 16] ∧ win0_8.index t = ![0, 0, 16 + t.val % 16] ∧ win0_9.index t = ![0, 0, 32 + t.val % 16]
    ∧ win0_10.index t = ![0, 0, t.val % 16] ∧ win0_11.index t = ![0, 0, t.val % 16] ∧ win0_12.index t = ![0, 0, t.val % 16]
    ∧ win0_13.index t = ![t.val / 16, t.val % 16] :=
  (by decide +kernel : ∀ t : Fin grid0.N, _)

variable (m : (ℓ : Loc nD τ sig) → Buf (Elt Ideal) ℓ)

/-- The bias row the host code reshapes. -/
theorem bias_read (c : Dev nD) (e : Fin 12288) :
    V m c main_v0 (ix3 0 0 e) = m ((c : Thread nD τ).loc main_arg5) (ix1 e) := by
  have h : V m c main_v0 = shapeCast S1x1x12288 (m ((c : Thread nD τ).loc main_arg5)) shapeCasts_S12288_S1x1x12288 := by
    unfold V hostOps0
    after_reads_simp
    rfl
  rw [h]
  exact shapeCast_apply _ shapeCasts_S12288_S1x1x12288 (ix3 0 0 e) (ix1 e)
    (by rw [Shape.rowMajor_val_three, Shape.rowMajor_val_one]; show e.val = (0 * 1 + 0) * 12288 + e.val; omega)

/-- The three gated products, at row `s` and column `e`. -/
def out (H : FVec Ideal S8192x4096 .bf16) (YP : FVec Ideal S8192x1024 .bf16) (YA : FVec Ideal S8192x2048 .bf16)
    (YF : FVec Ideal S8192x1024 .bf16) (WG : FVec Ideal S1x4096x12288 .bf16) (BG : FVec Ideal S12288 .f32)
    (WP : FVec Ideal S1x1024x4096 .bf16) (WA : FVec Ideal S1x2048x4096 .bf16) (WF : FVec Ideal S1x1024x4096 .bf16)
    (s : Fin 8192) (e : Fin 4096) : EReal :=
  gate (fun k : Fin 4096 => H (ix2 s k)) (fun k => WG (ix3 0 k ⟨e.val, by omega⟩)) (BG (ix1 ⟨e.val, by omega⟩))
      * ∑ k : Fin 1024, (YP (ix2 s k) : EReal) * WP (ix3 0 k e)
    + gate (fun k : Fin 4096 => H (ix2 s k)) (fun k => WG (ix3 0 k ⟨4096 + e.val, by omega⟩)) (BG (ix1 ⟨4096 + e.val, by omega⟩))
      * ∑ k : Fin 2048, (YA (ix2 s k) : EReal) * WA (ix3 0 k e)
    + gate (fun k : Fin 4096 => H (ix2 s k)) (fun k => WG (ix3 0 k ⟨8192 + e.val, by omega⟩)) (BG (ix1 ⟨8192 + e.val, by omega⟩))
      * ∑ k : Fin 1024, (YF (ix2 s k) : EReal) * WF (ix3 0 k e)

/-- The array of them. -/
def outArr (H : FVec Ideal S8192x4096 .bf16) (YP : FVec Ideal S8192x1024 .bf16) (YA : FVec Ideal S8192x2048 .bf16)
    (YF : FVec Ideal S8192x1024 .bf16) (WG : FVec Ideal S1x4096x12288 .bf16) (BG : FVec Ideal S12288 .f32)
    (WP : FVec Ideal S1x1024x4096 .bf16) (WA : FVec Ideal S1x2048x4096 .bf16) (WF : FVec Ideal S1x1024x4096 .bf16) :
    FVec Ideal S8192x4096 .bf16 :=
  fun j => out H YP YA YF WG BG WP WA WF ⟨(j 0).val, (j 0).isLt⟩ ⟨(j 1).val, (j 1).isLt⟩

/-- Equal factors and biases make equal gates. -/
theorem gate_congr {n : ℕ} (h h' w w' : Fin n → EReal) (b b' : EReal) (e1 : ∀ k, h k = h' k) (e2 : ∀ k, w k = w' k) (e3 : b = b') :
    gate h w b = gate h' w' b' := by
  obtain rfl : h = h' := funext e1
  obtain rfl : w = w' := funext e2
  rw [e3]

set_option maxHeartbeats 2000000 in
/-- THE RESULT ARRAY after the run. -/
theorem final (c : Dev nD) : (dats m 0 c).arrAt 13 (cfgs 0).N
    = outArr (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  refine (dats m 0 c).arrAt_eq_of_covers 13 _ (by decide +kernel) fun t _ y => ?_
  blk_simp
  rw [after0_13]; frame_out
  have e0 : ((((View.whole main_v1).slice (win0_13.rect t)).emb y) 0).val = t.val / 16 * 1024 + (y 0).val := by
    blk_simp [idx_val t]
  have e1 : ((((View.whole main_v1).slice (win0_13.rect t)).emb y) 1).val = t.val % 16 * 256 + (y 1).val := by
    blk_simp [idx_val t]
  generalize (((View.whole main_v1).slice (win0_13.rect t)).emb y) = j at e0 e1 ⊢
  obtain ⟨r, e, rfl⟩ : ∃ (r : Fin 1024) (e : Fin 256), y = ix2 r e := ⟨y 0, y 1, (ix2_eta y).symm⟩
  replace e0 : (j 0).val = t.val / 16 * 1024 + r.val := e0
  replace e1 : (j 1).val = t.val % 16 * 256 + e.val := e1
  refine ((pay1_apply _ _ _ _ _ _ r e).trans (congrArg (· + _) (pay2_apply _ _ _ _ _ _ _ _ _ r e))).trans ?_
  unfold outArr out
  refine congrArg₂ (· + ·) (congrArg₂ (· + ·) ?_ ?_) ?_
  all_goals
    refine congrArg₂ (· * ·) (gate_congr _ _ _ _ _ _ (fun k => ?_) (fun k => ?_) ((?_ : _ = V m c main_v0 (ix3 0 0 _)).trans (bias_read m c _)))
      (Finset.sum_congr rfl fun k _ => congrArg₂ (· * ·) ?_ ?_)
  all_goals blk_ext [iblk, V_main_arg0, V_main_arg1, V_main_arg2, V_main_arg3, V_main_arg4, V_main_arg6, V_main_arg7, V_main_arg8, idx_val t]

end Cert.Kernel2Ideal.Mrg

end
-- ==== Proof.Mrg.Alg.lean ====
/- The value claim of the merge: kernel and reference end with equal results. -/
module

public import proofs.«01_k».proof.Defs
public import proofs.«01_k».proof.Proof.Mrg.Out
public import proofs.«01_k».proof.Proof.Gen.Reference2Ideal.Run
public import proofs.«01_k».proof.Proof.Gen.Reference2Ideal.Read
public import Idealize.ShloMosaic.Lib.Claim

@[expose] public section

set_option maxRecDepth 16384

noncomputable section

namespace Cert.Proof.Mrg

open Idealize.ShloMosaic Idealize.SL.Sem Cert.Reference2Ideal.Read Cert.Kernel2Ideal.Mrg

variable (H : FVec Ideal Cert.Kernel2Ideal.S8192x4096 .bf16) (YP : FVec Ideal Cert.Kernel2Ideal.S8192x1024 .bf16)
  (YA : FVec Ideal Cert.Kernel2Ideal.S8192x2048 .bf16) (YF : FVec Ideal Cert.Kernel2Ideal.S8192x1024 .bf16)
  (WG : FVec Ideal Cert.Kernel2Ideal.S1x4096x12288 .bf16) (BG : FVec Ideal Cert.Kernel2Ideal.S12288 .f32)
  (WP : FVec Ideal Cert.Kernel2Ideal.S1x1024x4096 .bf16) (WA : FVec Ideal Cert.Kernel2Ideal.S1x2048x4096 .bf16)
  (WF : FVec Ideal Cert.Kernel2Ideal.S1x1024x4096 .bf16)

/-- The reference's three gates side by side, read at a row and a column. -/
theorem ref_gate (s : Fin 8192) (e : Fin 12288) : val_main_v21 (F := Ideal) H WG BG (ix2 s e)
    = gate (fun k : Fin 4096 => H (ix2 s k)) (fun k => WG (ix3 0 k e)) (BG (ix1 e)) := by
  generalize hR : gate (fun k : Fin 4096 => H (ix2 s k)) (fun k => WG (ix3 0 k e)) (BG (ix1 e)) = R
  pointwise [val_main_v21, val_main_v20, val_main_cst_0, val_main_v19, val_main_v18, val_main_cst, val_main_v17, val_main_v16,
    val_main_v15, val_main_v14, val_main_v13, val_main_v12, val_main_v5, val_main_v4, val_main_v0]
  exact hR

/-- The reference's result is the same function of its arguments. -/
theorem ref_eq : val_main_v33 (F := Ideal) H YP YA YF WG BG WP WA WF = outArr H YP YA YF WG BG WP WA WF := by
  funext j
  obtain ⟨s, e, rfl⟩ : ∃ (s : Fin 8192) (e : Fin 4096), j = ix2 s e := ⟨j 0, j 1, (ix2_eta j).symm⟩
  generalize hR : outArr H YP YA YF WG BG WP WA WF (ix2 s e) = R
  have hg := ref_gate H WG BG s
  generalize hG : val_main_v21 (F := Ideal) H WG BG = GT at hg
  pointwise [val_main_v33, val_main_v32, val_main_v31, val_main_v30, val_main_v29, val_main_v28, val_main_v27, val_main_v26, val_main_v25,
    val_main_v24, val_main_v23, val_main_v22, val_main_v11, val_main_v10, val_main_v9, val_main_v8, val_main_v7, val_main_v6,
    val_main_v3, val_main_v2, val_main_v1, hG, hg]
  exact hR

/-- The value claim. -/
theorem algebraic : Cert.algebraic_Kernel2Ideal_Reference2Ideal (hKernel2Ideal := Cert.Kernel2Ideal.Gen.facts)
    (hReference2Ideal := Cert.Reference2Ideal.Gen.facts) := by
  pair_intro
  · run_from Cert.Kernel2Ideal.Value.run_blocks m g
  · run_from Cert.Reference2Ideal.Value.run m' g'
    exact (val_main_v33_eq _ _ _ _ _ _ _ _ _).trans ((ref_eq _ _ _ _ _ _ _ _ _).trans (Cert.Kernel2Ideal.Mrg.final m c).symm)

end Cert.Proof.Mrg

end
-- ==== Proof.Proj.Down.lean ====
/- The down projection of the feed-forward: what the kernel's result array holds after the run. -/
module

public import proofs.«01_k».proof.Proof.Gen.Kernel3Ideal.Value
public import Idealize.ShloMosaic.Lib.Pointwise
public import Idealize.ShloMosaic.Lib.Pipeline.ValueKit

@[expose] public section

set_option maxRecDepth 16384

noncomputable section

namespace Cert.Kernel3Ideal.Proj

open Cert.Kernel3Ideal Cert.Kernel3Ideal.Gen Idealize.ShloMosaic Idealize.ShloMosaic.TcCoe Idealize.SL.Sem

/-- The residual plus the gated product, at row `s` and column `e`. -/
def out (A : FVec Ideal S8192x11008 .bf16) (W : FVec Ideal S1x11008x4096 .bf16) (X : FVec Ideal S8192x4096 .f32)
    (G : FVec Ideal S1x4096 .f32) : FVec Ideal S8192x4096 .f32 :=
  fun j => X j + G (ix2 0 ⟨(j 1).val, (j 1).isLt⟩)
    * ∑ k : Fin 11008, (A (ix2 ⟨(j 0).val, (j 0).isLt⟩ k) : EReal) * W (ix3 0 k ⟨(j 1).val, (j 1).isLt⟩)

/-- The stored tile at a row and a column of the tile. -/
theorem pay1_apply (x : Vec Ideal S512x512 .f32) (g : Vec Ideal S1x512 .f32) (a : Vec Ideal S512x11008 .bf16)
    (w : Vec Ideal S1x11008x512 .bf16) (r e : Fin 512) : k0_pay1 (F := Ideal) x g a w (ix2 r e)
    = x (ix2 r e) + g (ix2 0 e) * ∑ k : Fin 11008, (a (ix2 r k) : EReal) * w (ix3 0 k e) := by
  pointwise [k0_pay1]

/-- Every window's block at every grid point. -/
theorem idx_val : ∀ t : Fin cfg0.N, win0_0.index t = ![t.val / 8, 0] ∧ win0_1.index t = ![0, 0, t.val % 8]
    ∧ win0_2.index t = ![t.val / 8, t.val % 8] ∧ win0_3.index t = ![0, t.val % 8] ∧ win0_4.index t = ![t.val / 8, t.val % 8] :=
  (by decide +kernel : ∀ t : Fin grid0.N, _)

variable (m : (ℓ : Loc nD τ sig) → Buf (Elt Ideal) ℓ)

/-- THE RESULT ARRAY after the run. -/
theorem final (c : Dev nD) : (dats m 0 c).arrAt 4 (cfgs 0).N
    = out (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t _ y => ?_
  blk_simp
  rw [after0_4]; frame_out
  have e0 : ((((View.whole main_v0).slice (win0_4.rect t)).emb y) 0).val = t.val / 8 * 512 + (y 0).val := by
    blk_simp [idx_val t]
  have e1 : ((((View.whole main_v0).slice (win0_4.rect t)).emb y) 1).val = t.val % 8 * 512 + (y 1).val := by
    blk_simp [idx_val t]
  generalize (((View.whole main_v0).slice (win0_4.rect t)).emb y) = j at e0 e1 ⊢
  obtain ⟨r, e, rfl⟩ : ∃ (r e : Fin 512), y = ix2 r e := ⟨y 0, y 1, (ix2_eta y).symm⟩
  replace e0 : (j 0).val = t.val / 8 * 512 + r.val := e0
  replace e1 : (j 1).val = t.val % 8 * 512 + e.val := e1
  refine (pay1_apply _ _ _ _ r e).trans ?_
  unfold out
  refine congrArg₂ (· + ·) ?_ (congrArg₂ (· * ·) ?_ (Finset.sum_congr rfl fun k _ => congrArg₂ (· * ·) ?_ ?_))
  all_goals blk_ext [iblk, V, idx_val t]

end Cert.Kernel3Ideal.Proj

end
-- ==== Proof.Proj.DownAlg.lean ====
/- The value claim of the down projection: kernel and reference end with equal results. -/
module

public import proofs.«01_k».proof.Defs
public import proofs.«01_k».proof.Proof.Proj.Down
public import proofs.«01_k».proof.Proof.Gen.Reference3Ideal.Run
public import proofs.«01_k».proof.Proof.Gen.Reference3Ideal.Read
public import Idealize.ShloMosaic.Lib.Claim

@[expose] public section

set_option maxRecDepth 16384

noncomputable section

namespace Cert.Proof.Down

open Idealize.ShloMosaic Idealize.SL.Sem Cert.Reference3Ideal.Read

/-- The reference's result is the same function of its arguments. -/
theorem ref_eq (A : FVec Ideal Cert.Kernel3Ideal.S8192x11008 .bf16) (W : FVec Ideal Cert.Kernel3Ideal.S1x11008x4096 .bf16)
    (X : FVec Ideal Cert.Kernel3Ideal.S8192x4096 .f32) (G : FVec Ideal Cert.Kernel3Ideal.S1x4096 .f32) :
    val_main_v6 (F := Ideal) A W X G = Cert.Kernel3Ideal.Proj.out A W X G := by
  funext j
  obtain ⟨s, e, rfl⟩ : ∃ (s : Fin 8192) (e : Fin 4096), j = ix2 s e := ⟨j 0, j 1, (ix2_eta j).symm⟩
  generalize hR : Cert.Kernel3Ideal.Proj.out A W X G (ix2 s e) = R
  pointwise [val_main_v6, val_main_v5, val_main_v4, val_main_v3, val_main_v2, val_main_v1, val_main_v0]
  exact hR

/-- The value claim. -/
theorem algebraic : Cert.algebraic_Kernel3Ideal_Reference3Ideal (hKernel3Ideal := Cert.Kernel3Ideal.Gen.facts)
    (hReference3Ideal := Cert.Reference3Ideal.Gen.facts) := by
  pair_intro
  · run_from Cert.Kernel3Ideal.Value.run_blocks m g
  · run_from Cert.Reference3Ideal.Value.run m' g'
    exact (val_main_v6_eq _ _ _ _).trans ((ref_eq _ _ _ _).trans (Cert.Kernel3Ideal.Proj.final m c).symm)

end Cert.Proof.Down

end
-- ==== Proof.Proj.Mixed.lean ====
/- The output projection of the token mixing: what the kernel's result array holds after the run. -/
module

public import proofs.«01_k».proof.Proof.Gen.Kernel4Ideal.Value
public import Idealize.ShloMosaic.Lib.Pointwise
public import Idealize.ShloMosaic.Lib.Pipeline.ValueKit

@[expose] public section

set_option maxRecDepth 16384

noncomputable section

namespace Cert.Kernel4Ideal.Proj

open Cert.Kernel4Ideal Cert.Kernel4Ideal.Gen Idealize.ShloMosaic Idealize.ShloMosaic.TcCoe Idealize.SL.Sem

/-- The residual plus the gated product, at row `s` and column `e`. -/
def out (A : FVec Ideal S8192x4096 .bf16) (W : FVec Ideal S1x4096x4096 .bf16) (X : FVec Ideal S8192x4096 .f32)
    (G : FVec Ideal S1x4096 .f32) : FVec Ideal S8192x4096 .f32 :=
  fun j => X j + G (ix2 0 ⟨(j 1).val, (j 1).isLt⟩)
    * ∑ k : Fin 4096, (A (ix2 ⟨(j 0).val, (j 0).isLt⟩ k) : EReal) * W (ix3 0 k ⟨(j 1).val, (j 1).isLt⟩)

/-- The stored tile at a row and a column of the tile. -/
theorem pay1_apply (x : Vec Ideal S1024x1024 .f32) (g : Vec Ideal S1x1024 .f32) (a : Vec Ideal S1024x4096 .bf16)
    (w : Vec Ideal S1x4096x1024 .bf16) (r e : Fin 1024) : k0_pay1 (F := Ideal) x g a w (ix2 r e)
    = x (ix2 r e) + g (ix2 0 e) * ∑ k : Fin 4096, (a (ix2 r k) : EReal) * w (ix3 0 k e) := by
  pointwise [k0_pay1]

/-- Every window's block at every grid point. -/
theorem idx_val : ∀ t : Fin cfg0.N, win0_0.index t = ![t.val / 4, 0] ∧ win0_1.index t = ![0, 0, t.val % 4]
    ∧ win0_2.index t = ![t.val / 4, t.val % 4] ∧ win0_3.index t = ![0, t.val % 4] ∧ win0_4.index t = ![t.val / 4, t.val % 4] :=
  (by decide +kernel : ∀ t : Fin grid0.N, _)

variable (m : (ℓ : Loc nD τ sig) → Buf (Elt Ideal) ℓ)

/-- THE RESULT ARRAY after the run. -/
theorem final (c : Dev nD) : (dats m 0 c).arrAt 4 (cfgs 0).N
    = out (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t _ y => ?_
  blk_simp
  rw [after0_4]; frame_out
  have e0 : ((((View.whole main_v0).slice (win0_4.rect t)).emb y) 0).val = t.val / 4 * 1024 + (y 0).val := by
    blk_simp [idx_val t]
  have e1 : ((((View.whole main_v0).slice (win0_4.rect t)).emb y) 1).val = t.val % 4 * 1024 + (y 1).val := by
    blk_simp [idx_val t]
  generalize (((View.whole main_v0).slice (win0_4.rect t)).emb y) = j at e0 e1 ⊢
  obtain ⟨r, e, rfl⟩ : ∃ (r e : Fin 1024), y = ix2 r e := ⟨y 0, y 1, (ix2_eta y).symm⟩
  replace e0 : (j 0).val = t.val / 4 * 1024 + r.val := e0
  replace e1 : (j 1).val = t.val % 4 * 1024 + e.val := e1
  refine (pay1_apply _ _ _ _ r e).trans ?_
  unfold out
  refine congrArg₂ (· + ·) ?_ (congrArg₂ (· * ·) ?_ (Finset.sum_congr rfl fun k _ => congrArg₂ (· * ·) ?_ ?_))
  all_goals blk_ext [iblk, V, idx_val t]

end Cert.Kernel4Ideal.Proj

end
-- ==== Proof.Proj.MixedAlg.lean ====
/- The value claim of the output projection: kernel and reference end with equal results. -/
module

public import proofs.«01_k».proof.Defs
public import proofs.«01_k».proof.Proof.Proj.Mixed
public import proofs.«01_k».proof.Proof.Gen.Reference4Ideal.Run
public import proofs.«01_k».proof.Proof.Gen.Reference4Ideal.Read
public import Idealize.ShloMosaic.Lib.Claim

@[expose] public section

set_option maxRecDepth 16384

noncomputable section

namespace Cert.Proof.Mixed

open Idealize.ShloMosaic Idealize.SL.Sem Cert.Reference4Ideal.Read

/-- The reference's result is the same function of its arguments. -/
theorem ref_eq (A : FVec Ideal Cert.Kernel4Ideal.S8192x4096 .bf16) (W : FVec Ideal Cert.Kernel4Ideal.S1x4096x4096 .bf16)
    (X : FVec Ideal Cert.Kernel4Ideal.S8192x4096 .f32) (G : FVec Ideal Cert.Kernel4Ideal.S1x4096 .f32) :
    val_main_v6 (F := Ideal) A W X G = Cert.Kernel4Ideal.Proj.out A W X G := by
  funext j
  obtain ⟨s, e, rfl⟩ : ∃ (s : Fin 8192) (e : Fin 4096), j = ix2 s e := ⟨j 0, j 1, (ix2_eta j).symm⟩
  generalize hR : Cert.Kernel4Ideal.Proj.out A W X G (ix2 s e) = R
  pointwise [val_main_v6, val_main_v5, val_main_v4, val_main_v3, val_main_v2, val_main_v1, val_main_v0]
  exact hR

/-- The value claim. -/
theorem algebraic : Cert.algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · run_from Cert.Reference4Ideal.Value.run m' g'
    exact (val_main_v6_eq _ _ _ _).trans ((ref_eq _ _ _ _).trans (Cert.Kernel4Ideal.Proj.final m c).symm)

end Cert.Proof.Mixed

end
-- ==== Proof.Ffn.Scratch.lean ====
/- The up projection's kept rows: what the scratch buffer holds after every grid point. -/
module

public import proofs.«01_k».proof.Proof.Gen.Kernel5Ideal.Value
public import Idealize.ShloMosaic.Lib.Pointwise
public import Idealize.ShloMosaic.Lib.StableHlo.RunRead
public import Idealize.ShloMosaic.Lib.Pipeline.ValueKit

@[expose] public section

set_option backward.proofsInPublic true
set_option maxRecDepth 16384

noncomputable section

namespace Cert.Kernel5Ideal.Ffn

open Cert.Kernel5Ideal Cert.Kernel5Ideal.Gen Idealize.ShloMosaic Idealize.ShloMosaic.TcCoe Idealize.SL.Sem

/-- Every window's block at every grid point. -/
theorem idx_val : ∀ t : Fin cfg0.N, win0_0.index t = ![t.val / 43, 0] ∧ win0_1.index t = ![t.val / 43, 0, 0]
    ∧ win0_2.index t = ![0, 0, t.val % 43] ∧ win0_3.index t = ![0, 0, 43 + t.val % 43]
    ∧ win0_4.index t = ![0, 0, t.val % 43] ∧ win0_5.index t = ![0, 0, 43 + t.val % 43]
    ∧ win0_6.index t = ![0, 0, t.val % 43] ∧ win0_7.index t = ![0, 0, 43 + t.val % 43]
    ∧ win0_8.index t = ![0, t.val, 0]
    ∧ win0_9.index t = ![t.val / 43, t.val % 43] ∧ win0_10.index t = ![t.val, 0] ∧ t.val / 43 < 8 :=
  (by decide +kernel : ∀ t : Fin grid0.N, _)

/-- The kept rows of block `i`: its 1024 activation rows, then its 16 rows of neighbours. -/
def kept (H : Vec Ideal S8192x4096 .bf16) (L : Vec Ideal S8x16x4096 .bf16) (i : ℕ) (hi : i < 8) : Vec Ideal S1040x4096 .bf16 := fun j =>
  if h : (j 0).val < 1024 then H (ix2 ⟨i * 1024 + (j 0).val, by omega⟩ ⟨(j 1).val, (j 1).isLt⟩)
  else L (ix3 ⟨i, hi⟩ ⟨(j 0).val - 1024, by have : (j 0).val < 1040 := (j 0).isLt; omega⟩ ⟨(j 1).val, (j 1).isLt⟩)

theorem pay3_apply (x : Vec Ideal S1024x4096 .bf16) (r : Fin 1024) (k : Fin 4096) : k0_pay3 (F := Ideal) x (ix2 r k) = x (ix2 r k) := by
  pointwise [k0_pay3]

theorem pay4_apply (x : Vec Ideal S1x16x4096 .bf16) (r : Fin 16) (k : Fin 4096) : k0_pay4 (F := Ideal) x (ix2 r k) = x (ix3 0 r k) := by
  pointwise [k0_pay4]

variable (m : (ℓ : Loc nD τ sig) → Buf (Elt Ideal) ℓ)

/-- The two stores that fill the scratch leave the block's rows there. -/
theorem kept_canon (c : Dev nD) (t : Fin cfg0.N) (i1 : ∀ a, (![1024, 0] : Fin 2 → ℕ) a + S16x4096.size a ≤ S1040x4096.size a)
    (i0 : ∀ a, (![0, 0] : Fin 2 → ℕ) a + S1024x4096.size a ≤ S1040x4096.size a) :
    View.canon (Val := Elt Ideal) (e := .bf16) (s := S1040x4096) [⟨Rect.unit ![1024, 0] S16x4096.size i1, k0_pay4 (F := Ideal) (iblk m c 1 t)⟩,
      ⟨Rect.unit ![0, 0] S1024x4096.size i0, k0_pay3 (F := Ideal) (iblk m c 0 t)⟩]
    = kept (m ((c : Thread nD τ).loc main_arg0)) (m ((c : Thread nD τ).loc main_arg1)) (t.val / 43) (idx_val t).2.2.2.2.2.2.2.2.2.2.2 := by
  funext y
  canon_tiles x h using (View.cover_of_tiledBy _ ![16, 4096] (by sl_kernel_rfl) y)
  case piece0 =>
    obtain ⟨r, k, rfl⟩ : ∃ (r : Fin 16) (k : Fin 4096), x = ix2 r k := ⟨x 0, x 1, (ix2_eta x).symm⟩
    refine (pay4_apply _ r k).trans ?_
    replace h0 : (y 0).val = 1024 + r.val := h0
    replace h1 : (y 1).val = k.val := h1
    unfold kept
    rw [dif_neg (by omega)]
    blk_ext [iblk, V, V_main_arg0, V_main_arg1, idx_val t]
  case piece1 =>
    obtain ⟨r, k, rfl⟩ : ∃ (r : Fin 1024) (k : Fin 4096), x = ix2 r k := ⟨x 0, x 1, (ix2_eta x).symm⟩
    refine (pay3_apply _ r k).trans ?_
    replace h0 : (y 0).val = r.val := h0
    replace h1 : (y 1).val = k.val := h1
    unfold kept
    rw [dif_pos (by omega)]
    blk_ext [iblk, V, V_main_arg0, V_main_arg1, idx_val t]

/-- Read back whole, they give them too. -/
theorem kept_read (c : Dev nD) (t : Fin cfg0.N) (i1 : ∀ a, (![1024, 0] : Fin 2 → ℕ) a + S16x4096.size a ≤ S1040x4096.size a)
    (i0 : ∀ a, (![0, 0] : Fin 2 → ℕ) a + S1024x4096.size a ≤ S1040x4096.size a) (i2 : ∀ a, (![0, 0] : Fin 2 → ℕ) a + S1040x4096.size a ≤ S1040x4096.size a) :
    (View.whole cc0_scratch0).readCov (Val := Elt Ideal) [⟨Rect.unit ![1024, 0] S16x4096.size i1, k0_pay4 (F := Ideal) (iblk m c 1 t)⟩,
      ⟨Rect.unit ![0, 0] S1024x4096.size i0, k0_pay3 (F := Ideal) (iblk m c 0 t)⟩] (Rect.unit ![0, 0] S1040x4096.size i2).toLoadRect
    = kept (m ((c : Thread nD τ).loc main_arg0)) (m ((c : Thread nD τ).loc main_arg1)) (t.val / 43) (idx_val t).2.2.2.2.2.2.2.2.2.2.2 := by
  rw [View.readCov_eq_canon', kept_canon m c t i1 i0]
  funext j
  refine congrArg _ (funext fun a => Fin.ext ?_)
  fin_cases a <;> simp [Rect.unit, LoadRect.idx, Rect.toLoadRect]

/-- A point that fills the scratch leaves its block's rows there. -/
theorem kept_A (c : Dev nD) (t : Fin cfg0.N) (h0 : t.val % 43 = 0) : (outsAt0 m c t.val t.isLt).2.2
    = kept (m ((c : Thread nD τ).loc main_arg0)) (m ((c : Thread nD τ).loc main_arg1)) (t.val / 43) (idx_val t).2.2.2.2.2.2.2.2.2.2.2 := by
  rw [outsAt0_A m c t h0]
  frame_out
  exact kept_canon m c t _ _

theorem kept_congr (H : Vec Ideal S8192x4096 .bf16) (L : Vec Ideal S8x16x4096 .bf16) (i i' : ℕ) (hi : i < 8) (hi' : i' < 8) (e : i = i') :
    kept H L i hi = kept H L i' hi' := by
  subst e; rfl

/-- A later point of a block leaves the scratch as it was. -/
theorem kept_B (c : Dev nD) (t : Fin cfg0.N) (h0 : ¬t.val % 43 = 0) : (outsAt0 m c t.val t.isLt).2.2
    = (outsAt0 m c (t.val - 1) (Nat.lt_of_le_of_lt (Nat.sub_le _ _) t.isLt)).2.2 := by
  rw [outsAt0_B m c t h0]
  rfl

/-- The same rows from one point to the next of a block. -/
theorem kept_step (c : Dev nD) (t t' : Fin cfg0.N) (e : t'.val = t.val - 1) (h0 : ¬t.val % 43 = 0)
    (ih : (outsAt0 m c t'.val t'.isLt).2.2 = kept (m ((c : Thread nD τ).loc main_arg0)) (m ((c : Thread nD τ).loc main_arg1)) (t'.val / 43) (idx_val t').2.2.2.2.2.2.2.2.2.2.2) :
    (outsAt0 m c t.val t.isLt).2.2 = kept (m ((c : Thread nD τ).loc main_arg0)) (m ((c : Thread nD τ).loc main_arg1)) (t.val / 43) (idx_val t).2.2.2.2.2.2.2.2.2.2.2 := by
  obtain ⟨n', hn'⟩ := t'
  subst e
  exact (kept_B m c t h0).trans (ih.trans (kept_congr _ _ _ _ _ _ (by show (t.val - 1) / 43 = _; omega)))

/-- After every point the scratch holds its block's rows. -/
theorem kept_at (c : Dev nD) (t : Fin cfg0.N) : (outsAt0 m c t.val t.isLt).2.2
    = kept (m ((c : Thread nD τ).loc main_arg0)) (m ((c : Thread nD τ).loc main_arg1)) (t.val / 43) (idx_val t).2.2.2.2.2.2.2.2.2.2.2 := by
  obtain ⟨n, hn⟩ := t
  induction n with
  | zero => exact kept_A m c ⟨0, hn⟩ (Nat.zero_mod 43)
  | succ n ih =>
    by_cases h0 : (n + 1) % 43 = 0
    · exact kept_A m c ⟨n + 1, hn⟩ h0
    · exact kept_step m c ⟨n + 1, hn⟩ ⟨n, Nat.lt_of_succ_lt hn⟩ rfl h0 (ih _)

end Cert.Kernel5Ideal.Ffn

end
-- ==== Proof.Ffn.Tile.lean ====
/- One tile of the up projection: two products, each under a three-row convolution, gated. -/
module

public import proofs.«01_k».proof.Proof.Gen.Kernel5Ideal.Skeleton
public import Idealize.ShloMosaic.Lib.Pointwise

@[expose] public section

set_option backward.proofsInPublic true
set_option maxRecDepth 16384

noncomputable section

namespace Cert.Kernel5Ideal.Ffn

open Cert.Kernel5Ideal Cert.Kernel5Ideal.Gen Idealize.ShloMosaic

/-- A kept row against a column of weights. -/
def up (K : Vec Ideal S1040x4096 .bf16) (w : Vec Ideal S1x4096x256 .f32) (r : Fin 1040) (e : Fin 256) : EReal :=
  ∑ k : Fin 4096, (K (ix2 r k) : EReal) * w (ix3 0 k e)

theorem up_congr (K : Vec Ideal S1040x4096 .bf16) (w : Vec Ideal S1x4096x256 .f32) {r r' : Fin 1040} (h : r.val = r'.val) (e : Fin 256) :
    ∑ k : Fin 4096, (K (ix2 r k) : EReal) * w (ix3 0 k e) = up K w r' e := by
  obtain rfl : r = r' := Fin.ext h
  rfl

/-- A choice by row number. -/
theorem row_select (r : Fin 1024) (n : ℕ) (hn : n < 1024) (a b : EReal) :
    Scalar.select (IntOp.cmpi CmpIPredicate.eq (BitVec.ofNat 32 r.val) (BitVec.ofNat 32 n)) a b = if r.val = n then a else b := by
  have hi : BitVec.ofNat 32 r.val = BitVec.ofNat 32 n ↔ r.val = n := by
    constructor
    · intro h
      have h2 := congrArg BitVec.toNat h
      rw [BitVec.toNat_ofNat, BitVec.toNat_ofNat] at h2
      omega
    · intro h; rw [h]
  by_cases h : r.val = n
  · rw [if_pos h]
    simp [Scalar.select, IntOp.cmpi, hi.2 h]
  · rw [if_neg h]
    have hb : (BitVec.ofNat 32 r.val == BitVec.ofNat 32 n) = false := by
      rw [beq_eq_false_iff_ne]
      exact fun x => h (hi.1 x)
    simp [Scalar.select, IntOp.cmpi, hb]

theorem pay6_apply (K : Vec Ideal S1040x4096 .bf16) (w : Vec Ideal S1x4096x256 .f32) (r : Fin 1024) (e : Fin 256) :
    k0_pay6 (F := Ideal) K w (ix2 r e) = up K w ⟨r.val, by omega⟩ e := by
  pointwise [k0_pay6, k0_pay5, up]

theorem pay7_apply (K : Vec Ideal S1040x4096 .bf16) (w : Vec Ideal S1x4096x256 .f32) (r : Fin 1024) (e : Fin 256) :
    k0_pay7 (F := Ideal) K w (ix2 r e) = up K w ⟨r.val + 1, by omega⟩ e := by
  generalize hR : up K w ⟨r.val + 1, by omega⟩ e = R
  pointwise [k0_pay7, k0_pay6, k0_pay5]
  rw [row_select r 1023 (by omega), ← hR]
  split
  · exact up_congr K w (by show 1024 = r.val + 1; omega) e
  · exact up_congr K w (by show (r.val + 1024 - 1023) % 1024 = r.val + 1; omega) e

theorem pay8_apply (K : Vec Ideal S1040x4096 .bf16) (w : Vec Ideal S1x4096x256 .f32) (v : Vec Ideal S1x1x256 .f32) (r : Fin 1024) (e : Fin 256) :
    k0_pay8 (F := Ideal) K w v (ix2 r e) = up K w (if r.val = 0 then 1039 else ⟨r.val - 1, by omega⟩) e * v (ix3 0 0 e) := by
  generalize hR : up K w (if r.val = 0 then 1039 else ⟨r.val - 1, by omega⟩) e * v (ix3 0 0 e) = R
  pointwise [k0_pay8, k0_pay6, k0_pay5]
  rw [row_select r 0 (by omega), ← hR]
  refine congrArg (· * _) ?_
  by_cases h : r.val = 0
  · rw [if_pos h, if_pos h]
    rfl
  · rw [if_neg h, if_neg h]
    exact up_congr K w (by show (r.val + 1024 - 1) % 1024 = r.val - 1; omega) e

theorem pay1_apply (g v2 v0 v1 : FVec Ideal S1024x256 .f32) (w b : Vec Ideal S1x1x256 .f32) (r : Fin 1024) (e : Fin 256) :
    k0_pay1 (F := Ideal) g v2 v0 v1 w b (ix2 r e)
    = g (ix2 r e) * Ideal.logistic (g (ix2 r e)) * (v0 (ix2 r e) + v1 (ix2 r e) + v2 (ix2 r e) * w (ix3 0 0 e) + b (ix3 0 0 e)) := by
  pointwise [k0_pay1]

theorem pay9_apply (v1 v2 v0 : FVec Ideal S1024x256 .f32) (w1 w2 b : Vec Ideal S1x1x256 .f32) (r : Fin 1024) (e : Fin 256) :
    k0_pay9 (F := Ideal) v1 v2 v0 w1 w2 b (ix2 r e)
    = v0 (ix2 r e) + v1 (ix2 r e) * w1 (ix3 0 0 e) + v2 (ix2 r e) * w2 (ix3 0 0 e) + b (ix3 0 0 e) := by
  pointwise [k0_pay9]

/-- The convolved product: the row before, the row itself and the row after, each with its own weight, and a bias. -/
def mixed (K : Vec Ideal S1040x4096 .bf16) (w : Vec Ideal S1x4096x256 .f32) (cw : Vec Ideal S1x3x256 .f32) (b : Vec Ideal S1x1x256 .f32)
    (r : Fin 1024) (e : Fin 256) : EReal :=
  up K w (if r.val = 0 then 1039 else ⟨r.val - 1, by omega⟩) e * cw (ix3 0 0 e) + up K w ⟨r.val, by omega⟩ e * cw (ix3 0 1 e)
    + up K w ⟨r.val + 1, by omega⟩ e * cw (ix3 0 2 e) + b (ix3 0 0 e)

/-- One weight row of the convolution, read from its block. -/
theorem tap0 (x : Vec Ideal S1x3x256 .f32) (e : Fin 256) :
    View.ld x (Rect.unit ![0, 0, 0] ![1, 1, 256] inb_S1x3x256_S1x1x256_0_0_0) (ix3 0 0 e) = x (ix3 0 0 e) := by
  pointwise
theorem tap1 (x : Vec Ideal S1x3x256 .f32) (e : Fin 256) :
    View.ld x (Rect.unit ![0, 1, 0] ![1, 1, 256] inb_S1x3x256_S1x1x256_0_1_0) (ix3 0 0 e) = x (ix3 0 1 e) := by
  pointwise
theorem tap2 (x : Vec Ideal S1x3x256 .f32) (e : Fin 256) :
    View.ld x (Rect.unit ![0, 2, 0] ![1, 1, 256] inb_S1x3x256_S1x1x256_0_2_0) (ix3 0 0 e) = x (ix3 0 2 e) := by
  pointwise

/-- The tile the kernel stores. -/
def body (K : Vec Ideal S1040x4096 .bf16) (wg wv : Vec Ideal S1x4096x256 .f32) (cg cv : Vec Ideal S1x3x256 .f32) (bg bv : Vec Ideal S1x1x256 .f32) :
    Vec Ideal S1024x256 .bf16 :=
  k0_pay1 (k0_pay9 (k0_pay6 K wg) (k0_pay7 K wg) (k0_pay8 K wg (View.ld cg (Rect.unit ![0, 0, 0] ![1, 1, 256] inb_S1x3x256_S1x1x256_0_0_0)))
      (View.ld cg (Rect.unit ![0, 1, 0] ![1, 1, 256] inb_S1x3x256_S1x1x256_0_1_0))
      (View.ld cg (Rect.unit ![0, 2, 0] ![1, 1, 256] inb_S1x3x256_S1x1x256_0_2_0)) bg)
    (k0_pay12 K (iota Kind.tc S1024x256 32 [0] iota_S1024x256_d0_w32) wv)
    (k0_pay13 K (iota Kind.tc S1024x256 32 [0] iota_S1024x256_d0_w32) wv (View.ld cv (Rect.unit ![0, 0, 0] ![1, 1, 256] inb_S1x3x256_S1x1x256_0_0_0)))
    (k0_pay14 K wv (View.ld cv (Rect.unit ![0, 1, 0] ![1, 1, 256] inb_S1x3x256_S1x1x256_0_1_0)))
    (View.ld cv (Rect.unit ![0, 2, 0] ![1, 1, 256] inb_S1x3x256_S1x1x256_0_2_0)) bv

theorem pay14_apply (K : Vec Ideal S1040x4096 .bf16) (w : Vec Ideal S1x4096x256 .f32) (v : Vec Ideal S1x1x256 .f32) (r : Fin 1024) (e : Fin 256) :
    k0_pay14 (F := Ideal) K w v (ix2 r e) = up K w ⟨r.val, by omega⟩ e * v (ix3 0 0 e) := by
  pointwise [k0_pay14, k0_pay11, k0_pay10, up]

/-- The value half of the tile repeats the operations of the gate half. -/
theorem pay12_eq (K : Vec Ideal S1040x4096 .bf16) (w : Vec Ideal S1x4096x256 .f32) :
    k0_pay12 (F := Ideal) K (iota Kind.tc S1024x256 32 [0] iota_S1024x256_d0_w32) w = k0_pay7 K w := rfl
theorem pay13_eq (K : Vec Ideal S1040x4096 .bf16) (w : Vec Ideal S1x4096x256 .f32) (v : Vec Ideal S1x1x256 .f32) :
    k0_pay13 (F := Ideal) K (iota Kind.tc S1024x256 32 [0] iota_S1024x256_d0_w32) w v = k0_pay8 K w v := rfl

/-- Its entries: the gate half through `x · logistic x`, times the value half. -/
theorem body_apply (K : Vec Ideal S1040x4096 .bf16) (wg wv : Vec Ideal S1x4096x256 .f32) (cg cv : Vec Ideal S1x3x256 .f32) (bg bv : Vec Ideal S1x1x256 .f32)
    (r : Fin 1024) (e : Fin 256) : body K wg wv cg cv bg bv (ix2 r e)
    = mixed K wg cg bg r e * Ideal.logistic (mixed K wg cg bg r e) * mixed K wv cv bv r e := by
  unfold body
  rw [pay1_apply, pay9_apply, pay12_eq, pay13_eq, pay14_apply, pay8_apply, pay8_apply, pay7_apply, pay7_apply, pay6_apply]
  refine congrArg₂ (· * ·) (congrArg (fun z => z * Ideal.logistic z) ?_) ?_
  · exact congrArg (· + _) (congrArg₂ (· + ·) (congrArg₂ (· + ·) (congrArg (_ * ·) (tap0 cg e)) (congrArg (_ * ·) (tap1 cg e))) (congrArg (_ * ·) (tap2 cg e)))
  · exact congrArg (· + _) (congrArg₂ (· + ·) (congrArg₂ (· + ·) (congrArg (_ * ·) (tap0 cv e)) (congrArg (_ * ·) (tap1 cv e))) (congrArg (_ * ·) (tap2 cv e)))

theorem pay2_apply (x : Vec Ideal S1x32x4096 .f32) (r : Fin 32) (k : Fin 4096) : k0_pay2 (F := Ideal) x (ix2 r k) = x (ix3 0 r k) := by
  pointwise [k0_pay2]

end Cert.Kernel5Ideal.Ffn

end
-- ==== Proof.Ffn.Out.lean ====
/- The up projection's results: what the kernel's two result arrays hold after the run. -/
module

public import proofs.«01_k».proof.Proof.Ffn.Scratch
public import proofs.«01_k».proof.Proof.Ffn.Tile
public import Idealize.ShloMosaic.Lib.Pointwise
public import Idealize.ShloMosaic.Lib.StableHlo.RunRead
public import Idealize.ShloMosaic.Lib.Pipeline.ValueKit
public import Idealize.ShloMosaic.Lib.Pipeline.ReadBack

@[expose] public section

set_option backward.proofsInPublic true
set_option maxRecDepth 16384

noncomputable section

namespace Cert.Kernel5Ideal.Ffn

open Cert.Kernel5Ideal Cert.Kernel5Ideal.Gen Idealize.ShloMosaic Idealize.ShloMosaic.TcCoe Idealize.SL.Sem

variable (m : (ℓ : Loc nD τ sig) → Buf (Elt Ideal) ℓ)

/-- The tile stored at a point, over the kept rows of its block. -/
theorem tile_at (c : Dev nD) (t : Fin cfg0.N) : (outsAt0 m c t.val t.isLt).1
    = body (kept (m ((c : Thread nD τ).loc main_arg0)) (m ((c : Thread nD τ).loc main_arg1)) (t.val / 43) (idx_val t).2.2.2.2.2.2.2.2.2.2.2)
      (iblk m c 2 t) (iblk m c 3 t) (iblk m c 4 t) (iblk m c 5 t) (iblk m c 6 t) (iblk m c 7 t) := by
  by_cases h0 : t.val % 43 = 0
  · rw [outsAt0_A m c t h0]
    frame_out
    simp only [kept_read m c t]
    rfl
  · have hk := (kept_B m c t h0).symm.trans (kept_at m c t)
    rw [outsAt0_B m c t h0]
    frame_out
    simp only [read_unread_whole, hk]
    rfl

/-- The weights block stored at a point. -/
theorem cast_at (c : Dev nD) (t : Fin cfg0.N) : (outsAt0 m c t.val t.isLt).2.1 = k0_pay2 (F := Ideal) (iblk m c 8 t) := by
  by_cases h0 : t.val % 43 = 0
  · rw [outsAt0_A m c t h0]
    frame_out
  · rw [outsAt0_B m c t h0]
    frame_out

/-- The neighbours' rows are what they should be: row 0 of block `i` is the row after the block, row 15 the row before it, and zeros beyond the ends. -/
def Halo (H : Vec Ideal S8192x4096 .bf16) (L : Vec Ideal S8x16x4096 .bf16) : Prop :=
  (∀ (i : Fin 8) (k : Fin 4096), L (ix3 i 0 k) = if h : i.val = 7 then (0 : EReal) else H (ix2 ⟨i.val * 1024 + 1024, by omega⟩ k))
  ∧ ∀ (i : Fin 8) (k : Fin 4096), L (ix3 i 15 k) = if h : i.val = 0 then (0 : EReal) else H (ix2 ⟨i.val * 1024 - 1, by omega⟩ k)

/-- An activation row against a column of layer 0's weights. -/
def prod (H : Vec Ideal S8192x4096 .bf16) (W : Vec Ideal S2x4096x22016 .f32) (s : Fin 8192) (e : Fin 22016) : EReal :=
  ∑ k : Fin 4096, (H (ix2 s k) : EReal) * W (ix3 0 k e)

/-- The convolution over the rows, zeros beyond the ends. -/
def conv (H : Vec Ideal S8192x4096 .bf16) (W : Vec Ideal S2x4096x22016 .f32) (C : Vec Ideal S2x3x22016 .f32) (B : Vec Ideal S2x22016 .f32)
    (s : Fin 8192) (e : Fin 22016) : EReal :=
  (if s.val = 0 then 0 else prod H W ⟨s.val - 1, by omega⟩ e) * C (ix3 0 0 e) + prod H W s e * C (ix3 0 1 e)
    + (if h : s.val = 8191 then 0 else prod H W ⟨s.val + 1, by omega⟩ e) * C (ix3 0 2 e) + B (ix2 0 e)

/-- The gated product at row `s` and column `e`. -/
def out (H : Vec Ideal S8192x4096 .bf16) (W : Vec Ideal S2x4096x22016 .f32) (C : Vec Ideal S2x3x22016 .f32) (B : Vec Ideal S2x22016 .f32)
    (s : Fin 8192) (e : Fin 11008) : EReal :=
  conv H W C B s ⟨e.val, by omega⟩ * Ideal.logistic (conv H W C B s ⟨e.val, by omega⟩) * conv H W C B s ⟨11008 + e.val, by omega⟩

/-- The array of them. -/
def outArr (H : Vec Ideal S8192x4096 .bf16) (W : Vec Ideal S2x4096x22016 .f32) (C : Vec Ideal S2x3x22016 .f32) (B : Vec Ideal S2x22016 .f32) :
    FVec Ideal S8192x11008 .bf16 :=
  fun j => out H W C B ⟨(j 0).val, (j 0).isLt⟩ ⟨(j 1).val, (j 1).isLt⟩

/-- The rows of a layer's down weights. -/
def castArr (D : Vec Ideal S2x11008x4096 .f32) : FVec Ideal S11008x4096 .bf16 :=
  fun j => D (ix3 0 ⟨(j 0).val, (j 0).isLt⟩ ⟨(j 1).val, (j 1).isLt⟩)

/-- A product over the kept rows, where the weights' block is that of the columns from `e'`. -/
theorem up_eq (H : Vec Ideal S8192x4096 .bf16) (L : Vec Ideal S8x16x4096 .bf16) (W : Vec Ideal S2x4096x22016 .f32) (i : ℕ) (hi : i < 8)
    (w : Vec Ideal S1x4096x256 .f32) (e : Fin 256) (e' : Fin 22016) (hw : ∀ k : Fin 4096, (w (ix3 0 k e) : EReal) = W (ix3 0 k e'))
    (r : Fin 1040) (hr : r.val < 1024) (s : Fin 8192) (hs : s.val = i * 1024 + r.val) :
    up (kept H L i hi) w r e = prod H W s e' := by
  refine Finset.sum_congr rfl fun k _ => congrArg₂ (· * ·) ?_ (hw k)
  unfold kept
  rw [dif_pos (show ((ix2 r k : S1040x4096.Idx) 0).val < 1024 from hr)]
  exact congrArg H (congrArg₂ ix2 (Fin.ext hs.symm) rfl)

/-- The same over a row of neighbours that holds zeros, or another row. -/
theorem up_halo (H : Vec Ideal S8192x4096 .bf16) (L : Vec Ideal S8x16x4096 .bf16) (W : Vec Ideal S2x4096x22016 .f32) (i : Fin 8)
    (w : Vec Ideal S1x4096x256 .f32) (e : Fin 256) (e' : Fin 22016) (hw : ∀ k : Fin 4096, (w (ix3 0 k e) : EReal) = W (ix3 0 k e'))
    (r : Fin 1040) (q : Fin 16) (hr : r.val = 1024 + q.val) (p : Prop) [Decidable p] (x : ¬p → Fin 8192)
    (hL : ∀ k, L (ix3 i q k) = if h : p then (0 : EReal) else H (ix2 (x h) k)) :
    up (kept H L i.val i.isLt) w r e = if h : p then 0 else prod H W (x h) e' := by
  have hk : ∀ k : Fin 4096, (kept H L i.val i.isLt (ix2 r k) : EReal) = if h : p then (0 : EReal) else H (ix2 (x h) k) := by
    intro k
    rw [← hL k]
    unfold kept
    have hn : ¬((ix2 r k : S1040x4096.Idx) 0).val < 1024 := by show ¬r.val < 1024; omega
    rw [dif_neg hn]
    exact congrArg L (congrArg₂ (fun a b => ix3 i a b) (Fin.ext (by show r.val - 1024 = q.val; omega)) rfl)
  unfold up
  by_cases h : p
  · rw [dif_pos h]
    refine Finset.sum_eq_zero fun k _ => ?_
    rw [hk k, dif_pos h, zero_mul]
  · rw [dif_neg h]
    refine Finset.sum_congr rfl fun k _ => ?_
    rw [hk k, dif_neg h, hw k]

/-- The convolved product of a tile is the convolution's. -/
theorem mixed_eq (H : Vec Ideal S8192x4096 .bf16) (L : Vec Ideal S8x16x4096 .bf16) (hL : Halo H L) (W : Vec Ideal S2x4096x22016 .f32)
    (C : Vec Ideal S2x3x22016 .f32) (B : Vec Ideal S2x22016 .f32) (i : ℕ) (hi : i < 8)
    (w : Vec Ideal S1x4096x256 .f32) (cw : Vec Ideal S1x3x256 .f32) (b : Vec Ideal S1x1x256 .f32) (e : Fin 256) (e' : Fin 22016)
    (hw : ∀ k : Fin 4096, (w (ix3 0 k e) : EReal) = W (ix3 0 k e')) (hc : ∀ q : Fin 3, (cw (ix3 0 q e) : EReal) = C (ix3 0 q e'))
    (hb : (b (ix3 0 0 e) : EReal) = B (ix2 0 e')) (r : Fin 1024) (s : Fin 8192) (hs : s.val = i * 1024 + r.val) :
    mixed (kept H L i hi) w cw b r e = conv H W C B s e' := by
  unfold mixed conv
  rw [hc 0, hc 1, hc 2, hb]
  refine congrArg (· + _) (congrArg₂ (· + ·) (congrArg₂ (· + ·) (congrArg (· * _) ?_) (congrArg (· * _) ?_)) (congrArg (· * _) ?_))
  · by_cases h : r.val = 0
    · rw [if_pos h]
      refine (up_halo H L W ⟨i, hi⟩ w e e' hw 1039 15 rfl _ _ (hL.2 ⟨i, hi⟩)).trans ?_
      by_cases h' : i = 0
      · rw [dif_pos h', if_pos (by omega)]
      · rw [dif_neg h', if_neg (by omega)]
        exact congrArg (fun z => prod H W z e') (Fin.ext (by show i * 1024 - 1 = s.val - 1; omega))
    · rw [if_neg h, if_neg (by omega)]
      exact up_eq H L W i hi w e e' hw _ (by show r.val - 1 < 1024; omega) _ (by show s.val - 1 = i * 1024 + (r.val - 1); omega)
  · exact up_eq H L W i hi w e e' hw _ (by show r.val < 1024; omega) _ (by show s.val = i * 1024 + r.val; omega)
  · by_cases h : r.val = 1023
    · refine (up_halo H L W ⟨i, hi⟩ w e e' hw _ 0 (by show r.val + 1 = 1024 + 0; omega) _ _ (hL.1 ⟨i, hi⟩)).trans ?_
      by_cases h' : i = 7
      · rw [dif_pos h', dif_pos (by omega)]
      · rw [dif_neg h', dif_neg (by omega)]
        exact congrArg (fun z => prod H W z e') (Fin.ext (by show i * 1024 + 1024 = s.val + 1; omega))
    · rw [dif_neg (by omega)]
      exact up_eq H L W i hi w e e' hw _ (by show r.val + 1 < 1024; omega) _ (by show s.val + 1 = i * 1024 + (r.val + 1); omega)

/-- The biases the host code reshapes. -/
theorem bias_read (c : Dev nD) (e : Fin 22016) :
    V m c main_v0 (ix3 0 0 e) = m ((c : Thread nD τ).loc main_arg4) (ix2 0 e) := by
  have h : V m c main_v0 = shapeCast S2x1x22016 (m ((c : Thread nD τ).loc main_arg4)) shapeCasts_S2x22016_S2x1x22016 := by
    unfold V hostOps0
    after_reads_simp
    rfl
  rw [h]
  exact shapeCast_apply _ shapeCasts_S2x22016_S2x1x22016 (ix3 0 0 e) (ix2 0 e)
    (by rw [Shape.rowMajor_val_three, Shape.rowMajor_val_two]; show 0 * 22016 + e.val = (0 * 1 + 0) * 22016 + e.val; omega)

set_option maxHeartbeats 2000000 in
/-- THE FIRST RESULT ARRAY after the run, where the neighbours' rows are right. -/
theorem finalOut (c : Dev nD) (hL : Halo (m ((c : Thread nD τ).loc main_arg0)) (m ((c : Thread nD τ).loc main_arg1))) :
    (dats m 0 c).arrAt 9 (cfgs 0).N
    = outArr (m ((c : Thread nD τ).loc main_arg0)) (m ((c : Thread nD τ).loc main_arg2)) (m ((c : Thread nD τ).loc main_arg3))
      (m ((c : Thread nD τ).loc main_arg4)) := by
  refine (dats m 0 c).arrAt_eq_of_covers 9 _ (by decide +kernel) fun t _ y => ?_
  blk_simp
  rw [after0_9, tile_at]
  have e0 : ((((View.whole main_v1_0).slice (win0_9.rect t)).emb y) 0).val = t.val / 43 * 1024 + (y 0).val := by
    blk_simp [idx_val t]
  have e1 : ((((View.whole main_v1_0).slice (win0_9.rect t)).emb y) 1).val = t.val % 43 * 256 + (y 1).val := by
    blk_simp [idx_val t]
  generalize (((View.whole main_v1_0).slice (win0_9.rect t)).emb y) = j at e0 e1 ⊢
  obtain ⟨r, e, rfl⟩ : ∃ (r : Fin 1024) (e : Fin 256), y = ix2 r e := ⟨y 0, y 1, (ix2_eta y).symm⟩
  replace e0 : (j 0).val = t.val / 43 * 1024 + r.val := e0
  replace e1 : (j 1).val = t.val % 43 * 256 + e.val := e1
  refine (body_apply _ _ _ _ _ _ _ r e).trans ?_
  unfold outArr out
  refine congrArg₂ (· * ·) (congrArg (fun z => z * Ideal.logistic z) ?_) ?_
  · refine mixed_eq _ _ hL _ _ _ _ _ _ _ _ e _ (fun k => ?_) (fun q => ?_) ((?_ : _ = V m c main_v0 (ix3 0 0 _)).trans (bias_read m c _)) r _ e0
    all_goals blk_ext [iblk, V_main_arg2, V_main_arg3, idx_val t]
  · refine mixed_eq _ _ hL _ _ _ _ _ _ _ _ e _ (fun k => ?_) (fun q => ?_) ((?_ : _ = V m c main_v0 (ix3 0 0 _)).trans (bias_read m c _)) r _ e0
    all_goals blk_ext [iblk, V_main_arg2, V_main_arg3, idx_val t]

/-- THE SECOND RESULT ARRAY after the run. -/
theorem finalCast (c : Dev nD) : (dats m 0 c).arrAt 10 (cfgs 0).N = castArr (m ((c : Thread nD τ).loc main_arg5)) := by
  refine (dats m 0 c).arrAt_eq_of_covers 10 _ (by decide +kernel) fun t _ y => ?_
  blk_simp
  rw [after0_10, cast_at]
  have e0 : ((((View.whole main_v1_1).slice (win0_10.rect t)).emb y) 0).val = t.val * 32 + (y 0).val := by
    blk_simp [idx_val t]
  have e1 : ((((View.whole main_v1_1).slice (win0_10.rect t)).emb y) 1).val = (y 1).val := by
    blk_simp [idx_val t]
  generalize (((View.whole main_v1_1).slice (win0_10.rect t)).emb y) = j at e0 e1 ⊢
  obtain ⟨r, k, rfl⟩ : ∃ (r : Fin 32) (k : Fin 4096), y = ix2 r k := ⟨y 0, y 1, (ix2_eta y).symm⟩
  replace e0 : (j 0).val = t.val * 32 + r.val := e0
  replace e1 : (j 1).val = k.val := e1
  refine (pay2_apply _ r k).trans ?_
  unfold castArr
  blk_ext [iblk, V_main_arg5, idx_val t]

end Cert.Kernel5Ideal.Ffn

end
-- ==== Proof.Ffn.Pre.lean ====
/- The precondition read back: the neighbours' rows of each block are the activations' rows next to it. -/
module

public import proofs.«01_k».proof.Pre_halo_rows
public import Idealize.ShloMosaic.Lib.Pointwise
public import Idealize.ShloMosaic.Lib.ReduceAll

@[expose] public section

set_option backward.proofsInPublic true
set_option maxRecDepth 16384

noncomputable section

namespace Cert.Pre_halo_rows.Ffn

open Cert.Pre_halo_rows Idealize.ShloMosaic

/-- The side conditions of the precondition's operations hold. -/
theorem facts : Cert.Pre_halo_rows.Facts where
  slicesBy_S8192x4096_S7x4096_1024s1024_0s1 := by decide
  bcast_S_S1x4096 := by decide
  concatenates_S7x4096_S1x4096_S8x4096_d0 := by decide
  slicesBy_S8192x4096_S7x4096_1023s1024_0s1 := by decide
  concatenates_S1x4096_S7x4096_S8x4096_d0 := by decide
  slices_S8x16x4096_S8x1x4096_0_0_0 := by decide
  shapeCasts_S8x1x4096_S8x4096 := by decide
  reducesTo_S8x4096_S_d0_1 := by decide
  h_S_ := by decide
  slices_S8x16x4096_S8x1x4096_0_15_0 := by decide
  bcast_S_S1 := by decide
  concatenates_S1_S1_S2_d0 := by decide

instance : Subsingleton S_.Idx := ⟨fun a b => funext fun d => d.elim0⟩

theorem ofBool_one {b : Bool} (h : BitVec.ofBool b = 1#1) : b = true := by
  cases b
  · exact absurd h (by decide)
  · rfl

/-- A conjunction of flags holds only if each does. -/
theorem all_of_fold {α : Type} [Fintype α] (f : α → BitVec 1) (h : Finset.fold IntOp.andi (1#1) f Finset.univ = 1#1) (x : α) : f x = 1#1 := by
  have hop : ∀ y z : BitVec 1, IntOp.andi y z = 1#1 ↔ y = 1#1 ∧ z = 1#1 := by decide
  exact ((Finset.fold_op_rel_iff_and (op := IntOp.andi) (r := fun _ v => v = 1#1) (fun {_ y z} => hop y z) (c := 1#1)).1 h).2 x (Finset.mem_univ x)

variable (hF : Facts) (H : FVec Ideal S8192x4096 .bf16) (L : FVec Ideal S8x16x4096 .bf16) (W : FVec Ideal S2x4096x22016 .f32)
  (C : FVec Ideal S2x3x22016 .f32) (B : FVec Ideal S2x22016 .f32) (D : FVec Ideal S2x11008x4096 .f32)
  (h : Cert.Pre_halo_rows.fn (F := Ideal) H L W C B D = fun _ => 1#1)

include h in
/-- Row 0 of a block's neighbours is the row after the block, zeros at the last. -/
theorem row_after (i : Fin 8) (k : Fin 4096) :
    L (ix3 i 0 k) = if h : i.val = 7 then (0 : EReal) else H (ix2 ⟨i.val * 1024 + 1024, by omega⟩ k) := by
  have h0 := congrFun h (ix1 0)
  unfold fn at h0
  pointwise at h0
  replace h0 := all_of_fold _ h0 (i, k)
  have h1 : L (ix3 i 0 k) = (if h : i.val < 7 then H (ix2 ⟨1024 + 1024 * i.val, by omega⟩ k) else (0 : EReal)) := of_decide_eq_true (ofBool_one h0)
  rw [h1]
  by_cases hi : i.val = 7
  · rw [dif_neg (by omega), dif_pos hi]
  · rw [dif_pos (by omega), dif_neg hi]
    exact congrArg (fun r => H (ix2 r k)) (Fin.ext (by show 1024 + 1024 * i.val = i.val * 1024 + 1024; omega))

include h in
/-- Row 15 of a block's neighbours is the row before the block, zeros at the first. -/
theorem row_before (i : Fin 8) (k : Fin 4096) :
    L (ix3 i 15 k) = if h : i.val = 0 then (0 : EReal) else H (ix2 ⟨i.val * 1024 - 1, by omega⟩ k) := by
  have h0 := congrFun h (ix1 1)
  unfold fn at h0
  pointwise at h0
  replace h0 := all_of_fold _ h0 (i, k)
  have h1 : L (ix3 i 15 k) = (if h : i.val < 1 then (0 : EReal) else H (ix2 ⟨1023 + 1024 * (i.val - 1), by omega⟩ k)) := of_decide_eq_true (ofBool_one h0)
  rw [h1]
  by_cases hi : i.val = 0
  · rw [dif_pos (by omega), dif_pos hi]
  · rw [dif_neg (by omega), dif_neg hi]
    exact congrArg (fun r => H (ix2 r k)) (Fin.ext (by show 1023 + 1024 * (i.val - 1) = i.val * 1024 - 1; omega))

end Cert.Pre_halo_rows.Ffn

end
-- ==== Proof.Ffn.Alg.lean ====
/- The value claim of the up projection: kernel and reference end with equal results. -/
module

public import proofs.«01_k».proof.Defs
public import proofs.«01_k».proof.Proof.Ffn.Out
public import proofs.«01_k».proof.Proof.Ffn.Pre
public import proofs.«01_k».proof.Proof.Gen.Reference5Ideal.Run
public import proofs.«01_k».proof.Proof.Gen.Reference5Ideal.Read
public import Idealize.ShloMosaic.Lib.Claim

@[expose] public section

set_option backward.proofsInPublic true
set_option maxRecDepth 16384

noncomputable section

namespace Cert.Proof.Ffn

open Idealize.ShloMosaic Idealize.SL.Sem Cert.Reference5Ideal.Read

variable (H : FVec Ideal Cert.Kernel5Ideal.S8192x4096 .bf16) (W : FVec Ideal Cert.Kernel5Ideal.S2x4096x22016 .f32)
  (C : FVec Ideal Cert.Kernel5Ideal.S2x3x22016 .f32) (B : FVec Ideal Cert.Kernel5Ideal.S2x22016 .f32)

/-- The reference's convolution. -/
theorem conv_eq (s : Fin 8192) (e : Fin 22016) :
    val_main_v29 (F := Ideal) H W C B (ix2 s e) = Cert.Kernel5Ideal.Ffn.conv H W C B s e := by
  generalize hR : Cert.Kernel5Ideal.Ffn.conv H W C B s e = R
  pointwise [val_main_v29, val_main_v28, val_main_v27, val_main_v26, val_main_v25, val_main_v24, val_main_v23, val_main_v22, val_main_v21, val_main_v20,
    val_main_v19, val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0, val_main_call0_v0, val_main_c]
  rw [← hR, show (FloatOps.sitofp (F := Ideal) FTy.f32 (0#32) : EReal) = 0 from by show ((((0#32 : BitVec 32).toInt : ℝ)) : EReal) = 0; simp]
  unfold Cert.Kernel5Ideal.Ffn.conv
  refine congrArg (· + _) (congrArg₂ (· + ·) (congrArg (· + _) (congrArg (· * _) ?_)) (congrArg (· * _) ?_))
  · by_cases h : s.val = 0
    · rw [dif_neg (by omega), if_pos h]
    · rw [dif_pos (by omega), if_neg h]
      rfl
  · by_cases h : s.val = 8191
    · rw [dif_neg (by omega), dif_pos h]
    · rw [dif_pos (by omega), dif_neg h]
      exact congrArg (fun z => Cert.Kernel5Ideal.Ffn.prod H W z e) (Fin.ext (by show 2 + s.val - 1 = s.val + 1; omega))

/-- The reference's first result is the gated product. -/
theorem ref_eq : val_main_v34 (F := Ideal) H W C B = Cert.Kernel5Ideal.Ffn.outArr H W C B := by
  funext j
  obtain ⟨s, e, rfl⟩ : ∃ (s : Fin 8192) (e : Fin 11008), j = ix2 s e := ⟨j 0, j 1, (ix2_eta j).symm⟩
  have hg := conv_eq H W C B s ⟨e.val, by omega⟩
  have hv := conv_eq H W C B s ⟨11008 + e.val, by omega⟩
  generalize hX : val_main_v29 (F := Ideal) H W C B = X at hg hv
  have hR : Cert.Kernel5Ideal.Ffn.outArr H W C B (ix2 s e)
      = X (ix2 s ⟨e.val, by omega⟩) * Ideal.logistic (X (ix2 s ⟨e.val, by omega⟩)) * X (ix2 s ⟨11008 + e.val, by omega⟩) := by
    rw [hg, hv]; rfl
  rw [hR]
  generalize hR' : X (ix2 s ⟨e.val, by omega⟩) * Ideal.logistic (X (ix2 s ⟨e.val, by omega⟩)) * X (ix2 s ⟨11008 + e.val, by omega⟩) = R
  unfold val_main_v34 val_main_v33 val_main_v32 val_main_call1_v5 val_main_call1_v3 val_main_call1_v1 val_main_call1_v0 val_main_v31 val_main_v30
  rw [hX]
  pointwise [val_main_call1_v4, val_main_call1_v2, val_main_call1_cst, val_main_call1_cst_0]
  exact hR'

/-- The reference's second result is layer 0's down weights. -/
theorem cast_eq (D : FVec Ideal Cert.Kernel5Ideal.S2x11008x4096 .f32) :
    val_main_v37 (F := Ideal) D = Cert.Kernel5Ideal.Ffn.castArr D := by
  funext j
  obtain ⟨r, k, rfl⟩ : ∃ (r : Fin 11008) (k : Fin 4096), j = ix2 r k := ⟨j 0, j 1, (ix2_eta j).symm⟩
  pointwise [val_main_v37, val_main_v36, val_main_v35, Cert.Kernel5Ideal.Ffn.castArr]

/-- The value claim. -/
theorem algebraic : Cert.algebraic_Kernel5Ideal_Reference5Ideal_pre_halo_rows (hKernel5Ideal := Cert.Kernel5Ideal.Gen.facts)
    (hReference5Ideal := Cert.Reference5Ideal.Gen.facts) (hPre_halo_rows := Cert.Pre_halo_rows.Ffn.facts) := by
  pair_intro
  · run_from Cert.Kernel5Ideal.Value.run_blocks m g
  · run_from Cert.Reference5Ideal.Value.run m' g'
    · refine (val_main_v34_eq m' c).trans ?_
      rw [(hagree c).1, (hagree c).2.2.1, (hagree c).2.2.2.1, (hagree c).2.2.2.2.1]
      exact (ref_eq _ _ _ _).trans (Cert.Kernel5Ideal.Ffn.finalOut m c ⟨Cert.Pre_halo_rows.Ffn.row_after _ _ _ _ _ _ _ (hpre c),
        Cert.Pre_halo_rows.Ffn.row_before _ _ _ _ _ _ _ (hpre c)⟩).symm
    · exact (val_main_v37_eq _).trans ((cast_eq _).trans (Cert.Kernel5Ideal.Ffn.finalCast m c).symm)

end Cert.Proof.Ffn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Gen.Reference4Ideal
public import proofs.«01_k».proof.Proof.Gen.Reference4Ideal.Run
public import proofs.«01_k».proof.Proof.Gen.Reference4Ideal.Read
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import proofs.«01_k».proof.Proof.Gen.Reference6Ideal.Read
public import proofs.«01_k».proof.Proof.Att.Alg
public import proofs.«01_k».proof.Proof.Inp.Alg
public import proofs.«01_k».proof.Proof.InpB.Frame
public import proofs.«01_k».proof.Proof.Mrg.Alg
public import proofs.«01_k».proof.Proof.Proj.DownAlg
public import proofs.«01_k».proof.Proof.Proj.MixedAlg
public import proofs.«01_k».proof.Proof.Ffn.Alg
public import Idealize.ShloMosaic.Adequacy
public import Idealize.ShloMosaic.Init

@[expose] public section

noncomputable section

namespace Cert.Proof

open Idealize.ShloMosaic Idealize.SL.Sem Cert.Kernel

/-- The attention's reference runs and leaves its arguments as they were. -/
theorem frame_reference : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (Cert.ReferenceIdeal.Value.run (F := Ideal) m g)

/-- The merge's reference runs and leaves its arguments as they were. -/
theorem frame_reference2 : Cert.quiescent_Reference2Ideal (hReference2Ideal := Cert.Reference2Ideal.Gen.facts) := by
  intro m g _
  exact (θ_run Cert.Reference2Ideal.defs _ _).mono (fun r h => ⟨fun c => (h c).2, sem_eq_zero_of_no_sems (by decide) r.2⟩)
    (Cert.Reference2Ideal.Value.run (F := Ideal) m g)

/-- The down projection's reference runs and leaves its arguments as they were. -/
theorem frame_reference3 : Cert.quiescent_Reference3Ideal (hReference3Ideal := Cert.Reference3Ideal.Gen.facts) := by
  intro m g _
  exact (θ_run Cert.Reference3Ideal.defs _ _).mono (fun r h => ⟨fun c => (h c).2, sem_eq_zero_of_no_sems (by decide) r.2⟩)
    (Cert.Reference3Ideal.Value.run (F := Ideal) m g)

/-- The output projection's reference runs and leaves its arguments as they were. -/
theorem frame_reference4 : Cert.quiescent_Reference4Ideal (hReference4Ideal := Cert.Reference4Ideal.Gen.facts) := by
  intro m g _
  exact (θ_run Cert.Reference4Ideal.defs _ _).mono (fun r h => ⟨fun c => (h c).2, sem_eq_zero_of_no_sems (by decide) r.2⟩)
    (Cert.Reference4Ideal.Value.run (F := Ideal) m g)

/-- The up projection's reference runs and leaves its arguments as they were. -/
theorem frame_reference5 : Cert.quiescent_Reference5Ideal (hReference5Ideal := Cert.Reference5Ideal.Gen.facts) := by
  intro m g _
  exact (θ_run Cert.Reference5Ideal.defs _ _).mono (fun r h => ⟨fun c => (h c).2.2, sem_eq_zero_of_no_sems (by decide) r.2⟩)
    (Cert.Reference5Ideal.Value.run (F := Ideal) m g)

/-- The input projection's reference runs and leaves its arguments as they were. -/
theorem frame_reference6 : Cert.quiescent_Reference6Ideal (hReference6Ideal := Cert.Reference6Ideal.Gen.facts) := by
  intro m g _
  exact (θ_run Cert.Reference6Ideal.defs _ _).mono (fun r h => ⟨fun c => (h c).2.2.2.2.2.2, sem_eq_zero_of_no_sems (by decide) r.2⟩)
    (Cert.Reference6Ideal.Value.run (F := Ideal) m g)

/-- Everything claimed. -/
theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Pre_scores_finite.Att.facts,
  Cert.Pre_halo_rows.Ffn.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  fun m ρ _ => Cert.Kernel5Ideal.Gen.frame m ρ,
  frame_reference5,
  fun m ρ _ => frame_reference5 m ρ trivial,
  fun m ρ _ => Cert.Kernel6.Body.frame m ρ,
  fun m ρ _ => Cert.Kernel6Ideal.Body.frame m ρ,
  frame_reference6,
  trivial,
  Cert.Proof.Attention.algebraic,
  trivial,
  Cert.Proof.Mrg.algebraic,
  trivial,
  Cert.Proof.Down.algebraic,
  trivial,
  Cert.Proof.Mixed.algebraic,
  trivial,
  Cert.Proof.Ffn.algebraic,
  trivial,
  Cert.Proof.Inp.algebraic⟩

end Cert.Proof

end
